-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4096x512 : Shape := ⟨2, ![4096, 512]⟩
abbrev S1000x512 : Shape := ⟨2, ![1000, 512]⟩
abbrev S1000 : Shape := ⟨1, ![1000]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S1000x512 : S_.BroadcastsInDim S1000x512 (![] : Fin 0 → Fin S1000x512.rank)
  reducesTo_S1000x512_S_d0_1 : S1000x512.ReducesTo [0, 1] S_

variable [Facts]

def fn {F : FTy → Type} [FloatOps F] (main_arg0 : FVec F S4096x512 .f32) (main_arg1 : FVec F S1000x512 .f32) (main_arg2 : FVec F S1000 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S1000x512 .f32 := Host.absf main_arg1
  let main_cst_0 : FVec F S_ .f32 := constant S_ .f32 0x7F800000#32
  let main_v5 : FVec F S1000x512 .f32 := broadcastInDim S1000x512 ![] bcast_S_S1000x512 main_cst_0
  let main_v6 : IVec S1000x512 1 := cmpf .olt main_v4 main_v5
  let main_c_1 : IVec S_ 1 := constantI S_ 1 1#1
  let main_v7 : IVec S_ 1 := (fun x v => Host.reduce IntOp.andi x v reducesTo_S1000x512_S_d0_1 h_S_) main_v6 main_c_1
  let main_v8 : IVec S_ 1 := andi main_v3 main_v7
  main_v8
-- ==== Kernel.lean ====
abbrev S4096x512 : Shape := ⟨2, ![4096, 512]⟩
abbrev S1000x512 : Shape := ⟨2, ![1000, 512]⟩
abbrev S1000 : Shape := ⟨1, ![1000]⟩
abbrev S_ : Shape := ⟨0, ![]⟩
abbrev S24x512 : Shape := ⟨2, ![24, 512]⟩
abbrev S1024x512 : Shape := ⟨2, ![1024, 512]⟩
abbrev S1x1000 : Shape := ⟨2, ![1, 1000]⟩
abbrev S5120x1 : Shape := ⟨2, ![5120, 1]⟩
abbrev S512x512 : Shape := ⟨2, ![512, 512]⟩
abbrev S512x1 : Shape := ⟨2, ![512, 1]⟩
abbrev S512x1000 : Shape := ⟨2, ![512, 1000]⟩
abbrev S512 : Shape := ⟨1, ![512]⟩
abbrev S1x5120 : Shape := ⟨2, ![1, 5120]⟩
abbrev S1x512 : Shape := ⟨2, ![1, 512]⟩
abbrev S4096x1000 : Shape := ⟨2, ![4096, 1000]⟩
abbrev S1000x1 : Shape := ⟨2, ![1000, 1]⟩

abbrev nBuf : Space → Nat
  | .hbm => 25
  | .vmem => 43
  | .smem => 0
  | _ => 0

abbrev bufTy : (tb : Table) → Fin (tcTables nBuf tb) → BufTy
  | .hbm, ⟨0, _⟩ => ⟨S4096x512, .f32⟩
  | .hbm, ⟨1, _⟩ => ⟨S1000x512, .f32⟩
  | .hbm, ⟨2, _⟩ => ⟨S1000, .f32⟩
  | .hbm, ⟨3, _⟩ => ⟨S_, .f32⟩
  | .hbm, ⟨4, _⟩ => ⟨S24x512, .f32⟩
  | .hbm, ⟨5, _⟩ => ⟨S1024x512, .f32⟩
  | .hbm, ⟨6, _⟩ => ⟨S1x1000, .f32⟩
  | .hbm, ⟨7, _⟩ => ⟨S5120x1, .f32⟩
  | .hbm, ⟨8, _⟩ => ⟨S5120x1, .i32⟩
  | .hbm, ⟨9, _⟩ => ⟨S5120x1, .f32⟩
  | .hbm, ⟨10, _⟩ => ⟨S5120x1, .f32⟩
  | .hbm, ⟨11, _⟩ => ⟨S1x1000, .f32⟩
  | .hbm, ⟨12, _⟩ => ⟨S1000x512, .f32⟩
  | .hbm, ⟨13, _⟩ => ⟨S_, .f32⟩
  | .hbm, ⟨14, _⟩ => ⟨S1x1000, .f32⟩
  | .hbm, ⟨15, _⟩ => ⟨S1x1000, .i1⟩
  | .hbm, ⟨16, _⟩ => ⟨S_, .i1⟩
  | .hbm, ⟨17, _⟩ => ⟨S_, .i1⟩
  | .hbm, ⟨18, _⟩ => ⟨S_, .i32⟩
  | .hbm, ⟨19, _⟩ => ⟨S1000x512, .f32⟩
  | .hbm, ⟨20, _⟩ => ⟨S1x5120, .f32⟩
  | .hbm, ⟨21, _⟩ => ⟨S1x5120, .i32⟩
  | .hbm, ⟨22, _⟩ => ⟨S5120x1, .f32⟩
  | .hbm, ⟨23, _⟩ => ⟨S1000x512, .f32⟩
  | .hbm, ⟨24, _⟩ => ⟨S4096x1000, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1000x512, .f32⟩
  | .local _ .vmem, ⟨5, _⟩ => ⟨S1x1000, .f32⟩
  | .local _ .vmem, ⟨6, _⟩ => ⟨S512x1, .f32⟩
  | .local _ .vmem, ⟨7, _⟩ => ⟨S512x1, .f32⟩
  | .local _ .vmem, ⟨8, _⟩ => ⟨S512x1, .i32⟩
  | .local _ .vmem, ⟨9, _⟩ => ⟨S512x1, .i32⟩
  | .local _ .vmem, ⟨10, _⟩ => ⟨S512x1, .f32⟩
  | .local _ .vmem, ⟨11, _⟩ => ⟨S512x1, .f32⟩
  | .local _ .vmem, ⟨12, _⟩ => ⟨S512x1, .f32⟩
  | .local _ .vmem, ⟨13, _⟩ => ⟨S512x1, .f32⟩
  | .local _ .vmem, ⟨14, _⟩ => ⟨S1x1000, .f32⟩
  | .local _ .vmem, ⟨15, _⟩ => ⟨S1000x512, .f32⟩
  | .local _ .vmem, ⟨16, _⟩ => ⟨S512x1, .f32⟩
  | .local _ .vmem, ⟨17, _⟩ => ⟨S512x1, .f32⟩
  | .local _ .vmem, ⟨18, _⟩ => ⟨S512x1, .i32⟩
  | .local _ .vmem, ⟨19, _⟩ => ⟨S512x1, .i32⟩
  | .local _ .vmem, ⟨20, _⟩ => ⟨S512x1, .f32⟩
  | .local _ .vmem, ⟨21, _⟩ => ⟨S512x1, .f32⟩
  | .local _ .vmem, ⟨22, _⟩ => ⟨S1x512, .f32⟩
  | .local _ .vmem, ⟨23, _⟩ => ⟨S1x512, .f32⟩
  | .local _ .vmem, ⟨24, _⟩ => ⟨S1x512, .i32⟩
  | .local _ .vmem, ⟨25, _⟩ => ⟨S1x512, .i32⟩
  | .local _ .vmem, ⟨26, _⟩ => ⟨S512x1, .f32⟩
  | .local _ .vmem, ⟨27, _⟩ => ⟨S512x1, .f32⟩
  | .local _ .vmem, ⟨28, _⟩ => ⟨S512x1, .f32⟩
  | .local _ .vmem, ⟨29, _⟩ => ⟨S512x512, .f32⟩
  | .local _ .vmem, ⟨30, _⟩ => ⟨S512x512, .f32⟩
  | .local _ .vmem, ⟨31, _⟩ => ⟨S512x512, .f32⟩
  | .local _ .vmem, ⟨32, _⟩ => ⟨S512x512, .f32⟩
  | .local _ .vmem, ⟨33, _⟩ => ⟨S512x1, .i32⟩
  | .local _ .vmem, ⟨34, _⟩ => ⟨S512x1, .i32⟩
  | .local _ .vmem, ⟨35, _⟩ => ⟨S512x1, .f32⟩
  | .local _ .vmem, ⟨36, _⟩ => ⟨S512x1, .f32⟩
  | .local _ .vmem, ⟨37, _⟩ => ⟨S1000x512, .f32⟩
  | .local _ .vmem, ⟨38, _⟩ => ⟨S512x512, .f32⟩
  | .local _ .vmem, ⟨39, _⟩ => ⟨S512x512, .f32⟩
  | .local _ .vmem, ⟨40, _⟩ => ⟨S1000x512, .f32⟩
  | .local _ .vmem, ⟨41, _⟩ => ⟨S512x1000, .f32⟩
  | .local _ .vmem, ⟨42, _⟩ => ⟨S512x1000, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v3_4 : Ref sig .tc := ⟨.hbm, 11, rfl⟩
abbrev main_v3_5 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_case0b1_v10 : Ref sig .tc := ⟨.hbm, 20, rfl⟩
abbrev main_case0b1_v11 : Ref sig .tc := ⟨.hbm, 21, rfl⟩
abbrev main_case0b1_v12 : Ref sig .tc := ⟨.hbm, 22, rfl⟩
abbrev main_case0b1_v13 : Ref sig .tc := ⟨.hbm, 23, rfl⟩
abbrev main_v9 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_scratch0 : Ref sig .tc := ⟨.vmem, 28, rfl⟩
abbrev cc2_stg0_0 : Ref sig .tc := ⟨.vmem, 29, rfl⟩
abbrev cc2_stg0_1 : Ref sig .tc := ⟨.vmem, 30, rfl⟩
abbrev cc2_stg1_0 : Ref sig .tc := ⟨.vmem, 31, rfl⟩
abbrev cc2_stg1_1 : Ref sig .tc := ⟨.vmem, 32, rfl⟩
abbrev cc2_stg2_0 : Ref sig .tc := ⟨.vmem, 33, rfl⟩
abbrev cc2_stg2_1 : Ref sig .tc := ⟨.vmem, 34, rfl⟩
abbrev cc2_stg3_0 : Ref sig .tc := ⟨.vmem, 35, rfl⟩
abbrev cc2_stg3_1 : Ref sig .tc := ⟨.vmem, 36, rfl⟩
abbrev cc2_stg4_0 : Ref sig .tc := ⟨.vmem, 37, rfl⟩
abbrev cc3_stg0_0 : Ref sig .tc := ⟨.vmem, 38, rfl⟩
abbrev cc3_stg0_1 : Ref sig .tc := ⟨.vmem, 39, rfl⟩
abbrev cc3_stg1_0 : Ref sig .tc := ⟨.vmem, 40, rfl⟩
abbrev cc3_stg2_0 : Ref sig .tc := ⟨.vmem, 41, rfl⟩
abbrev cc3_stg2_1 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem2_1 : DmaSem sig := 33
abbrev cc2_sem3_0 : DmaSem sig := 34
abbrev cc2_sem3_1 : DmaSem sig := 35
abbrev cc2_sem4_0 : DmaSem sig := 36
abbrev cc3_sem0_0 : DmaSem sig := 37
abbrev cc3_sem0_1 : DmaSem sig := 38
abbrev cc3_sem1_0 : DmaSem sig := 39
abbrev cc3_sem2_0 : DmaSem sig := 40
abbrev cc3_sem2_1 : DmaSem sig := 41

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1000x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1000 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1000 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1000x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev grid1 : Pipeline.Grid := ⟨2, ![10, 10], ![false, false]⟩

def k1_cond2 (i : grid1.Coords) : BitVec 1 :=
  let arg1 : BitVec 32 := BitVec.ofNat 32 (i 1).val
  let c9_i32 : BitVec 32 := 9#32
  let v43 : BitVec 1 := Scalar.cmpi .eq arg1 c9_i32
  let v44 : BitVec 32 := Scalar.extui v43
  let c0_i32_13 : BitVec 32 := 0#32
  let v45 : BitVec 1 := Scalar.cmpi .ne v44 c0_i32_13
  v45

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1x512 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S512x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev grid2 : Pipeline.Grid := ⟨1, ![10], ![false]⟩

def cc2_transform_0 (i : grid2.Coords) : Fin 2 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  ![v0.toNat, c0_i32.toNat]

def cc2_transform_1 (i : grid2.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S512x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S512x1 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S512x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1000x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1000x512 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S512x1000 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]
-- ==== ReferenceIdeal.lean ====
abbrev S4096x512 : Shape := ⟨2, ![4096, 512]⟩
abbrev S1000x512 : Shape := ⟨2, ![1000, 512]⟩
abbrev S1000 : Shape := ⟨1, ![1000]⟩
abbrev S512x1000 : Shape := ⟨2, ![512, 1000]⟩
abbrev S1000x1000 : Shape := ⟨2, ![1000, 1000]⟩
abbrev S1x1000 : Shape := ⟨2, ![1, 1000]⟩
abbrev S_ : Shape := ⟨0, ![]⟩
abbrev S1000x1 : Shape := ⟨2, ![1000, 1]⟩
abbrev S4096x1000 : Shape := ⟨2, ![4096, 1000]⟩
abbrev S4096 : Shape := ⟨1, ![4096]⟩
abbrev S4096x1 : Shape := ⟨2, ![4096, 1]⟩
abbrev S5096x512 : Shape := ⟨2, ![5096, 512]⟩
abbrev S5096x1000 : Shape := ⟨2, ![5096, 1000]⟩
abbrev S5096 : Shape := ⟨1, ![5096]⟩
abbrev S5096x1 : Shape := ⟨2, ![5096, 1]⟩
abbrev S512x5096 : Shape := ⟨2, ![512, 5096]⟩

abbrev nBuf : Space → Nat
  | .hbm => 152
  | .vmem => 0
  | .smem => 0
  | _ => 0

abbrev hbmTy0_0 (i : Nat) : BufTy := match i % 128 with
  | 0 => ⟨S4096x512, .f32⟩
  | 1 => ⟨S1000x512, .f32⟩
  | 2 => ⟨S1000, .f32⟩
  | 3 => ⟨S512x1000, .f32⟩
  | 4 => ⟨S1000x1000, .f32⟩
  | 5 => ⟨S1x1000, .f32⟩
  | 6 => ⟨S1000x1000, .f32⟩
  | 7 => ⟨S1000x1000, .f32⟩
  | 8 => ⟨S_, .f32⟩
  | 9 => ⟨S1000, .f32⟩
  | 10 => ⟨S_, .f32⟩
  | 11 => ⟨S1000, .f32⟩
  | 12 => ⟨S1000, .f32⟩
  | 13 => ⟨S1000x1, .f32⟩
  | 14 => ⟨S1000x1000, .f32⟩
  | 15 => ⟨S1000x1000, .f32⟩
  | 16 => ⟨S1000x1000, .f32⟩
  | 17 => ⟨S_, .f32⟩
  | 18 => ⟨S1000, .f32⟩
  | 19 => ⟨S1000x1, .f32⟩
  | 20 => ⟨S1000x1, .f32⟩
  | 21 => ⟨S1000x1000, .f32⟩
  | 22 => ⟨S1000x1000, .f32⟩
  | 23 => ⟨S1000x1000, .f32⟩
  | 24 => ⟨S1000x1000, .f32⟩
  | 25 => ⟨S_, .f32⟩
  | 26 => ⟨S1000, .f32⟩
  | 27 => ⟨S1000, .f32⟩
  | 28 => ⟨S1000x1000, .i32⟩
  | 29 => ⟨S_, .f32⟩
  | 30 => ⟨S_, .i32⟩
  | 31 => ⟨S1000, .f32⟩
  | 32 => ⟨S1000, .i32⟩
  | 33 => ⟨S1000x1, .i32⟩
  | 34 => ⟨S1x1000, .i32⟩
  | 35 => ⟨S1000x1000, .i32⟩
  | 36 => ⟨S1000x1000, .i32⟩
  | 37 => ⟨S1000x1000, .i1⟩
  | 38 => ⟨S1000x1000, .f32⟩
  | 39 => ⟨S512x1000, .f32⟩
  | 40 => ⟨S4096x1000, .f32⟩
  | 41 => ⟨S1x1000, .f32⟩
  | 42 => ⟨S4096x1000, .f32⟩
  | 43 => ⟨S4096x1000, .f32⟩
  | 44 => ⟨S4096x1000, .i32⟩
  | 45 => ⟨S_, .f32⟩
  | 46 => ⟨S_, .i32⟩
  | 47 => ⟨S4096, .f32⟩
  | 48 => ⟨S4096, .i32⟩
  | 49 => ⟨S4096x1, .i32⟩
  | 50 => ⟨S1x1000, .i32⟩
  | 51 => ⟨S4096x1000, .i32⟩
  | 52 => ⟨S4096x1000, .i32⟩
  | 53 => ⟨S4096x1000, .i1⟩
  | 54 => ⟨S4096x1000, .f32⟩
  | 55 => ⟨S_, .f32⟩
  | 56 => ⟨S4096, .f32⟩
  | 57 => ⟨S_, .f32⟩
  | 58 => ⟨S4096, .f32⟩
  | 59 => ⟨S4096, .f32⟩
  | 60 => ⟨S4096x1, .f32⟩
  | 61 => ⟨S4096x1000, .f32⟩
  | 62 => ⟨S4096x1000, .f32⟩
  | 63 => ⟨S4096x1000, .f32⟩
  | 64 => ⟨S_, .f32⟩
  | 65 => ⟨S4096, .f32⟩
  | 66 => ⟨S4096x1, .f32⟩
  | 67 => ⟨S4096x1, .f32⟩
  | 68 => ⟨S4096x1000, .f32⟩
  | 69 => ⟨S4096x1000, .f32⟩
  | 70 => ⟨S4096x1000, .f32⟩
  | 71 => ⟨S4096x1000, .f32⟩
  | 72 => ⟨S_, .f32⟩
  | 73 => ⟨S4096, .f32⟩
  | 74 => ⟨S4096, .f32⟩
  | 75 => ⟨S5096x512, .f32⟩
  | 76 => ⟨S5096x1000, .f32⟩
  | 77 => ⟨S5096, .f32⟩
  | 78 => ⟨S5096x1000, .i32⟩
  | 79 => ⟨S_, .f32⟩
  | 80 => ⟨S_, .i32⟩
  | 81 => ⟨S5096, .f32⟩
  | 82 => ⟨S5096, .i32⟩
  | 83 => ⟨S5096, .i32⟩
  | 84 => ⟨S5096, .i32⟩
  | 85 => ⟨S5096, .f32⟩
  | 86 => ⟨S5096, .i32⟩
  | 87 => ⟨S_, .i32⟩
  | 88 => ⟨S5096, .i32⟩
  | 89 => ⟨S5096, .i1⟩
  | 90 => ⟨S_, .i32⟩
  | 91 => ⟨S5096, .i32⟩
  | 92 => ⟨S5096, .i32⟩
  | 93 => ⟨S5096, .i32⟩
  | 94 => ⟨S5096x1, .i32⟩
  | 95 => ⟨S5096, .i32⟩
  | 96 => ⟨S5096, .i32⟩
  | 97 => ⟨S_, .i32⟩
  | 98 => ⟨S1000, .i32⟩
  | 99 => ⟨S5096x1, .i32⟩
  | 100 => ⟨S1000, .i32⟩
  | 101 => ⟨S_, .i32⟩
  | 102 => ⟨S5096, .i32⟩
  | 103 => ⟨S5096, .i1⟩
  | 104 => ⟨S_, .i32⟩
  | 105 => ⟨S5096, .i32⟩
  | 106 => ⟨S5096, .i32⟩
  | 107 => ⟨S5096, .i32⟩
  | 108 => ⟨S5096x1, .i32⟩
  | 109 => ⟨S5096, .i32⟩
  | 110 => ⟨S5096, .i32⟩
  | 111 => ⟨S_, .i32⟩
  | 112 => ⟨S5096, .i32⟩
  | 113 => ⟨S5096, .i1⟩
  | 114 => ⟨S_, .i1⟩
  | 115 => ⟨S5096, .i1⟩
  | 116 => ⟨S_, .i32⟩
  | 117 => ⟨S5096, .i32⟩
  | 118 => ⟨S5096, .i1⟩
  | 119 => ⟨S_, .i32⟩
  | 120 => ⟨S5096, .i32⟩
  | 121 => ⟨S5096, .i32⟩
  | 122 => ⟨S5096, .i32⟩
  | 123 => ⟨S5096x1, .i32⟩
  | 124 => ⟨S5096, .i1⟩
  | 125 => ⟨S5096, .f32⟩
  | 126 => ⟨S5096x512, .f32⟩
  | 127 => ⟨S_, .f32⟩
  | _ => ⟨S4096x512, .f32⟩

abbrev hbmTy0_1 (i : Nat) : BufTy := match i % 128 with
  | 0 => ⟨S5096, .f32⟩
  | 1 => ⟨S5096x1, .f32⟩
  | 2 => ⟨S5096x1, .f32⟩
  | 3 => ⟨S_, .f32⟩
  | 4 => ⟨S5096x1, .f32⟩
  | 5 => ⟨S5096x1, .f32⟩
  | 6 => ⟨S5096x512, .f32⟩
  | 7 => ⟨S5096x512, .f32⟩
  | 8 => ⟨S512x5096, .f32⟩
  | 9 => ⟨S5096x1, .f32⟩
  | 10 => ⟨S5096x1000, .f32⟩
  | 11 => ⟨S5096x1000, .f32⟩
  | 12 => ⟨S512x1000, .f32⟩
  | 13 => ⟨S512x1000, .f32⟩
  | 14 => ⟨S_, .f32⟩
  | 15 => ⟨S1000, .f32⟩
  | 16 => ⟨S1x1000, .f32⟩
  | 17 => ⟨S1x1000, .f32⟩
  | 18 => ⟨S_, .f32⟩
  | 19 => ⟨S1x1000, .f32⟩
  | 20 => ⟨S1x1000, .f32⟩
  | 21 => ⟨S512x1000, .f32⟩
  | 22 => ⟨S512x1000, .f32⟩
  | 23 => ⟨S4096x1000, .f32⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_cst : Ref sig .tc := ⟨.hbm, 8, rfl⟩
abbrev main_call0_v0 : Ref sig .tc := ⟨.hbm, 9, rfl⟩
abbrev main_call0_cst_0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_cst_1 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst : Ref sig .tc := ⟨.hbm, 25, rfl⟩
abbrev main_v8 : Ref sig .tc := ⟨.hbm, 26, rfl⟩
abbrev main_v9 : Ref sig .tc := ⟨.hbm, 27, rfl⟩
abbrev main_call1_v0 : Ref sig .tc := ⟨.hbm, 28, rfl⟩
abbrev main_call1_cst : Ref sig .tc := ⟨.hbm, 29, rfl⟩
abbrev main_call1_c : Ref sig .tc := ⟨.hbm, 30, rfl⟩
abbrev main_call1_v1_0 : Ref sig .tc := ⟨.hbm, 31, rfl⟩
abbrev main_v10 : Ref sig .tc := ⟨.hbm, 32, rfl⟩
abbrev main_call2_v0 : Ref sig .tc := ⟨.hbm, 33, rfl⟩
abbrev main_call2_v1 : Ref sig .tc := ⟨.hbm, 34, rfl⟩
abbrev main_call2_v2 : Ref sig .tc := ⟨.hbm, 35, rfl⟩
abbrev main_call2_v3 : Ref sig .tc := ⟨.hbm, 36, rfl⟩
abbrev main_call2_v4 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_call3_v0 : Ref sig .tc := ⟨.hbm, 44, rfl⟩
abbrev main_call3_cst : Ref sig .tc := ⟨.hbm, 45, rfl⟩
abbrev main_call3_c : Ref sig .tc := ⟨.hbm, 46, rfl⟩
abbrev main_call3_v1_0 : Ref sig .tc := ⟨.hbm, 47, rfl⟩
abbrev main_v17 : Ref sig .tc := ⟨.hbm, 48, rfl⟩
abbrev main_call4_v0 : Ref sig .tc := ⟨.hbm, 49, rfl⟩
abbrev main_call4_v1 : Ref sig .tc := ⟨.hbm, 50, rfl⟩
abbrev main_call4_v2 : Ref sig .tc := ⟨.hbm, 51, rfl⟩
abbrev main_call4_v3 : Ref sig .tc := ⟨.hbm, 52, rfl⟩
abbrev main_call4_v4 : Ref sig .tc := ⟨.hbm, 53, rfl⟩
abbrev main_v18 : Ref sig .tc := ⟨.hbm, 54, rfl⟩
abbrev main_call5_cst : Ref sig .tc := ⟨.hbm, 55, rfl⟩
abbrev main_call5_v0 : Ref sig .tc := ⟨.hbm, 56, rfl⟩
abbrev main_call5_cst_0 : Ref sig .tc := ⟨.hbm, 57, rfl⟩
abbrev main_call5_v1 : Ref sig .tc := ⟨.hbm, 58, rfl⟩
abbrev main_call5_v2 : Ref sig .tc := ⟨.hbm, 59, rfl⟩
abbrev main_call5_v3 : Ref sig .tc := ⟨.hbm, 60, rfl⟩
abbrev main_call5_v4 : Ref sig .tc := ⟨.hbm, 61, rfl⟩
abbrev main_call5_v5 : Ref sig .tc := ⟨.hbm, 62, rfl⟩
abbrev main_call5_v6 : Ref sig .tc := ⟨.hbm, 63, rfl⟩
abbrev main_call5_cst_1 : Ref sig .tc := ⟨.hbm, 64, rfl⟩
abbrev main_call5_v7 : Ref sig .tc := ⟨.hbm, 65, rfl⟩
abbrev main_call5_v8 : Ref sig .tc := ⟨.hbm, 66, rfl⟩
abbrev main_call5_v9 : Ref sig .tc := ⟨.hbm, 67, rfl⟩
abbrev main_call5_v10 : Ref sig .tc := ⟨.hbm, 68, rfl⟩
abbrev main_v19 : Ref sig .tc := ⟨.hbm, 69, rfl⟩
abbrev main_v20 : Ref sig .tc := ⟨.hbm, 70, rfl⟩
abbrev main_v21 : Ref sig .tc := ⟨.hbm, 71, rfl⟩
abbrev main_cst_0 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_call6_v0 : Ref sig .tc := ⟨.hbm, 78, rfl⟩
abbrev main_call6_cst : Ref sig .tc := ⟨.hbm, 79, rfl⟩
abbrev main_call6_c : Ref sig .tc := ⟨.hbm, 80, rfl⟩
abbrev main_call6_v1_0 : Ref sig .tc := ⟨.hbm, 81, rfl⟩
abbrev main_v27 : Ref sig .tc := ⟨.hbm, 82, rfl⟩
abbrev main_call7_v0 : Ref sig .tc := ⟨.hbm, 83, rfl⟩
abbrev main_call7_v1_0 : Ref sig .tc := ⟨.hbm, 84, rfl⟩
abbrev main_call7_v1_1 : Ref sig .tc := ⟨.hbm, 85, rfl⟩
abbrev main_v28 : Ref sig .tc := ⟨.hbm, 86, rfl⟩
abbrev main_c : Ref sig .tc := ⟨.hbm, 87, rfl⟩
abbrev main_v29 : Ref sig .tc := ⟨.hbm, 88, rfl⟩
abbrev main_v30 : Ref sig .tc := ⟨.hbm, 89, rfl⟩
abbrev main_c_1 : Ref sig .tc := ⟨.hbm, 90, rfl⟩
abbrev main_v31 : Ref sig .tc := ⟨.hbm, 91, rfl⟩
abbrev main_v32 : Ref sig .tc := ⟨.hbm, 92, rfl⟩
abbrev main_v33 : Ref sig .tc := ⟨.hbm, 93, rfl⟩
abbrev main_v34 : Ref sig .tc := ⟨.hbm, 94, rfl⟩
abbrev main_v35 : Ref sig .tc := ⟨.hbm, 95, rfl⟩
abbrev main_v36 : Ref sig .tc := ⟨.hbm, 96, rfl⟩
abbrev main_c_2 : Ref sig .tc := ⟨.hbm, 97, rfl⟩
abbrev main_v37 : Ref sig .tc := ⟨.hbm, 98, rfl⟩
abbrev main_v38 : Ref sig .tc := ⟨.hbm, 99, rfl⟩
abbrev main_v39 : Ref sig .tc := ⟨.hbm, 100, rfl⟩
abbrev main_c_3 : Ref sig .tc := ⟨.hbm, 101, rfl⟩
abbrev main_v40 : Ref sig .tc := ⟨.hbm, 102, rfl⟩
abbrev main_v41 : Ref sig .tc := ⟨.hbm, 103, rfl⟩
abbrev main_c_4 : Ref sig .tc := ⟨.hbm, 104, rfl⟩
abbrev main_v42 : Ref sig .tc := ⟨.hbm, 105, rfl⟩
abbrev main_v43 : Ref sig .tc := ⟨.hbm, 106, rfl⟩
abbrev main_v44 : Ref sig .tc := ⟨.hbm, 107, rfl⟩
abbrev main_v45 : Ref sig .tc := ⟨.hbm, 108, rfl⟩
abbrev main_v46 : Ref sig .tc := ⟨.hbm, 109, rfl⟩
abbrev main_v47 : Ref sig .tc := ⟨.hbm, 110, rfl⟩
abbrev main_c_5 : Ref sig .tc := ⟨.hbm, 111, rfl⟩
abbrev main_v48 : Ref sig .tc := ⟨.hbm, 112, rfl⟩
abbrev main_v49 : Ref sig .tc := ⟨.hbm, 113, rfl⟩
abbrev main_c_6 : Ref sig .tc := ⟨.hbm, 114, rfl⟩
abbrev main_v50 : Ref sig .tc := ⟨.hbm, 115, rfl⟩
abbrev main_c_7 : Ref sig .tc := ⟨.hbm, 116, rfl⟩
abbrev main_v51 : Ref sig .tc := ⟨.hbm, 117, rfl⟩
abbrev main_v52 : Ref sig .tc := ⟨.hbm, 118, rfl⟩
abbrev main_c_8 : Ref sig .tc := ⟨.hbm, 119, rfl⟩
abbrev main_v53 : Ref sig .tc := ⟨.hbm, 120, rfl⟩
abbrev main_v54 : Ref sig .tc := ⟨.hbm, 121, rfl⟩
abbrev main_v55 : Ref sig .tc := ⟨.hbm, 122, rfl⟩
abbrev main_v56 : Ref sig .tc := ⟨.hbm, 123, rfl⟩
abbrev main_v57 : Ref sig .tc := ⟨.hbm, 124, rfl⟩
abbrev main_v58 : Ref sig .tc := ⟨.hbm, 125, rfl⟩
abbrev main_call8_v0 : Ref sig .tc := ⟨.hbm, 126, rfl⟩
abbrev main_call8_cst : Ref sig .tc := ⟨.hbm, 127, rfl⟩
abbrev main_call8_v1 : Ref sig .tc := ⟨.hbm, 128, rfl⟩
abbrev main_call8_v2 : Ref sig .tc := ⟨.hbm, 129, rfl⟩
abbrev main_v59 : Ref sig .tc := ⟨.hbm, 130, rfl⟩
abbrev main_cst_9 : Ref sig .tc := ⟨.hbm, 131, rfl⟩
abbrev main_v60 : Ref sig .tc := ⟨.hbm, 132, rfl⟩
abbrev main_v61 : Ref sig .tc := ⟨.hbm, 133, rfl⟩
abbrev main_v62 : Ref sig .tc := ⟨.hbm, 134, rfl⟩
abbrev main_v63 : Ref sig .tc := ⟨.hbm, 135, rfl⟩
abbrev main_v64 : Ref sig .tc := ⟨.hbm, 136, rfl⟩
abbrev main_v65 : Ref sig .tc := ⟨.hbm, 137, rfl⟩
abbrev main_v66 : Ref sig .tc := ⟨.hbm, 138, rfl⟩
abbrev main_v67 : Ref sig .tc := ⟨.hbm, 139, rfl⟩
abbrev main_v68 : Ref sig .tc := ⟨.hbm, 140, rfl⟩
abbrev main_call9_v0 : Ref sig .tc := ⟨.hbm, 141, rfl⟩
abbrev main_call9_cst : Ref sig .tc := ⟨.hbm, 142, rfl⟩
abbrev main_call9_v1 : Ref sig .tc := ⟨.hbm, 143, rfl⟩
abbrev main_call9_v2 : Ref sig .tc := ⟨.hbm, 144, rfl⟩
abbrev main_v69 : Ref sig .tc := ⟨.hbm, 145, rfl⟩
abbrev main_cst_10 : Ref sig .tc := ⟨.hbm, 146, rfl⟩
abbrev main_v70 : Ref sig .tc := ⟨.hbm, 147, rfl⟩
abbrev main_v71 : Ref sig .tc := ⟨.hbm, 148, rfl⟩
abbrev main_v72 : Ref sig .tc := ⟨.hbm, 149, rfl⟩
abbrev main_v73 : Ref sig .tc := ⟨.hbm, 150, rfl⟩
abbrev main_v74 : Ref sig .tc := ⟨.hbm, 151, rfl⟩

abbrev nD : Nat := 1
abbrev τ : Topo := Topo.v7x

variable {F : FTy → Type} [FloatOps F]
-- ==== Proof.R0.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (c : Dev nD) → (b : Ref sig .tc) → Buf (Elt F) ((c : Thread nD τ).loc b))

abbrev V (c : Dev nD) (b : Ref sig .tc) : Buf (Elt F) ((c : Thread nD τ).loc b) := m c b

/-! ## The windows' blocks -/

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 10 = 0 :=
  (fun t => by
    have ht : t.val < 10 := Nat.lt_of_lt_of_eq t.isLt N_0
    have e0 : (grid0.coords t 0).val = t.val / 1 % 10 := Pipeline.Grid.coords_val t 0 (by decide) rfl
    simp only [cond0_0, e0]
    word_cmp
   : ∀ t : Fin grid0.N, cond0_0 (grid0.coords t) ↔ t.val % 10 = 0)

/-! ## The kernel body on any staging memrefs: a subtype the run finds -/

abbrev VO0_4 : View sig .tc .vmem S512x1 .f32 := (Memref.whole cc0_stg4_0 : Memref sig .tc .vmem S512x1 .f32).view
abbrev VO0_5 : View sig .tc .vmem S512x1 .i32 := (Memref.whole cc0_stg5_0 : Memref sig .tc .vmem S512x1 .i32).view
abbrev VO0_6 : View sig .tc .vmem S512x1 .f32 := (Memref.whole cc0_stg6_0 : Memref sig .tc .vmem S512x1 .f32).view
abbrev VO0_7 : View sig .tc .vmem S512x1 .f32 := (Memref.whole cc0_stg7_0 : Memref sig .tc .vmem S512x1 .f32).view
abbrev VO0_8 : View sig .tc .vmem S1x1000 .f32 := (Memref.whole cc0_stg8_0 : Memref sig .tc .vmem S1x1000 .f32).view
abbrev VO0_9 : View sig .tc .vmem S1000x512 .f32 := (Memref.whole cc0_stg9_0 : Memref sig .tc .vmem S1000x512 .f32).view
abbrev ms0_0 (t : Fin cfg0.N) : Memref sig .tc .vmem S512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1000x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1000 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1 .i32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x1 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1000 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1000x512 .f32 := win0_9.stage (cfg0.slots t 9)
abbrev hs0_9 (t : Fin cfg0.N) : (ms0_9 t).IsWhole := hstage0_9 ((cfg0.slots t 9).cast nbuf0_9)

-- (the run's proof term is large: the definition's epilogue — `abstractNestedProofs` — walks it past the default budget)
set_option maxHeartbeats 1000000 in
noncomputable def kernelRun0_A (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S1000x512 .f32) (harg3 : arg3.IsWhole) (arg4 : Memref sig .tc .vmem S1x1000 .f32) (harg4 : arg4.IsWhole) (arg5 : Memref sig .tc .vmem S512x1 .f32) (harg5 : arg5.IsWhole) (arg6 : Memref sig .tc .vmem S512x1 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S1x1000 .f32) (harg9 : arg9.IsWhole) (arg10 : Memref sig .tc .vmem S1000x512 .f32) (harg10 : arg10.IsWhole) (hc0 : cond0_0 i)
    (x0 : Vec F S512x512 .f32) (x1 : Vec F S512x512 .f32) (x2 : Vec F S1000x512 .f32) (x3 : Vec F S1x1000 .f32) :
    Σ' (L4 : List (View.Piece (Elt F) S512x1 .f32)), Σ' (L5 : List (View.Piece (Elt F) S512x1 .i32)), Σ' (L6 : List (View.Piece (Elt F) S512x1 .f32)), Σ' (L7 : List (View.Piece (Elt F) S512x1 .f32)), Σ' (L8 : List (View.Piece (Elt F) S1x1000 .f32)), { L9 : List (View.Piece (Elt F) S1000x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9)) -∗ K ⟨⟩))
          ⊢ wp frame (wpE (defs₀ (F := F)) Variants.none c none) E (cc0__stats_body i arg1 harg1 arg2 harg2 arg3 harg3 arg4 harg4 arg5 harg5 arg6 harg6 arg7 harg7 arg8 harg8 arg9 harg9 arg10 harg10) K } := by
  refine ⟨?_, ?_, ?_, ?_, ?_, ?_, fun E K => ?run⟩
  case run =>
    simp only [cc0__stats_body_eq_skeleton]; unfold cc0__stats_body_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [H7]; · iexists _; iexact H7
    isplitl [H8]; · iexists _; iexact H8
    iexists _; iexact H9

-- (the run's proof term is large: the definition's epilogue — `abstractNestedProofs` — walks it past the default budget)
set_option maxHeartbeats 1000000 in
noncomputable def kernelRun0_B (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S1000x512 .f32) (harg3 : arg3.IsWhole) (arg4 : Memref sig .tc .vmem S1x1000 .f32) (harg4 : arg4.IsWhole) (arg5 : Memref sig .tc .vmem S512x1 .f32) (harg5 : arg5.IsWhole) (arg6 : Memref sig .tc .vmem S512x1 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S1x1000 .f32) (harg9 : arg9.IsWhole) (arg10 : Memref sig .tc .vmem S1000x512 .f32) (harg10 : arg10.IsWhole) (hc0 : ¬cond0_0 i)
    (x0 : Vec F S512x512 .f32) (x1 : Vec F S512x512 .f32) (x2 : Vec F S1000x512 .f32) (x3 : Vec F S1x1000 .f32) (xo8 : Vec F S1x1000 .f32) (xo9 : Vec F S1000x512 .f32) :
    Σ' (L4 : List (View.Piece (Elt F) S512x1 .f32)), Σ' (L5 : List (View.Piece (Elt F) S512x1 .i32)), Σ' (L6 : List (View.Piece (Elt F) S512x1 .f32)), Σ' (L7 : List (View.Piece (Elt F) S512x1 .f32)), Σ' (L8 : List (View.Piece (Elt F) S1x1000 .f32)), { L9 : List (View.Piece (Elt F) S1000x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xo8 ∗ owns (c : Thread nD τ) arg10 fullShare xo9
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9)) -∗ K ⟨⟩))
          ⊢ wp frame (wpE (defs₀ (F := F)) Variants.none c none) E (cc0__stats_body i arg1 harg1 arg2 harg2 arg3 harg3 arg4 harg4 arg5 harg5 arg6 harg6 arg7 harg7 arg8 harg8 arg9 harg9 arg10 harg10) K } := by
  refine ⟨?_, ?_, ?_, ?_, ?_, ?_, fun E K => ?run⟩
  case run =>
    simp only [cc0__stats_body_eq_skeleton]; unfold cc0__stats_body_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%f8, %hf8, H8⟩, ⟨%f9, %hf9, H9⟩, Hk⟩
    obtain rfl := harg1.eq_unread hf0; obtain rfl := harg2.eq_unread hf1; obtain rfl := harg3.eq_unread hf2; obtain rfl := harg4.eq_unread hf3; obtain rfl := harg9.eq_unread hf8; obtain rfl := harg10.eq_unread hf9
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [H7]; · iexists _; iexact H7
    isplitl [H8]; · iexists _; iexact H8
    iexists _; iexact H9

theorem cover0_A_4 (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S1000x512 .f32) (harg3 : arg3.IsWhole) (arg4 : Memref sig .tc .vmem S1x1000 .f32) (harg4 : arg4.IsWhole) (arg5 : Memref sig .tc .vmem S512x1 .f32) (harg5 : arg5.IsWhole) (arg6 : Memref sig .tc .vmem S512x1 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S1x1000 .f32) (harg9 : arg9.IsWhole) (arg10 : Memref sig .tc .vmem S1000x512 .f32) (harg10 : arg10.IsWhole) (hc0 : cond0_0 i)
    (x0 : Vec F S512x512 .f32) (x1 : Vec F S512x512 .f32) (x2 : Vec F S1000x512 .f32) (x3 : Vec F S1x1000 .f32) (y : S512x1.Idx) :
    ∃ pc ∈ (kernelRun0_A c i arg1 harg1 arg2 harg2 arg3 harg3 arg4 harg4 arg5 harg5 arg6 harg6 arg7 harg7 arg8 harg8 arg9 harg9 arg10 harg10 hc0 x0 x1 x2 x3).1, y ∈ pc.1.set :=
  View.cover_of_tiledL (kernelRun0_A c i arg1 harg1 arg2 harg2 arg3 harg3 arg4 harg4 arg5 harg5 arg6 harg6 arg7 harg7 arg8 harg8 arg9 harg9 arg10 harg10 hc0 x0 x1 x2 x3).1 S512x1.size (by sl_kernel_rfl) y

def out0_A_4 (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S1000x512 .f32) (harg3 : arg3.IsWhole) (arg4 : Memref sig .tc .vmem S1x1000 .f32) (harg4 : arg4.IsWhole) (arg5 : Memref sig .tc .vmem S512x1 .f32) (harg5 : arg5.IsWhole) (arg6 : Memref sig .tc .vmem S512x1 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S1x1000 .f32) (harg9 : arg9.IsWhole) (arg10 : Memref sig .tc .vmem S1000x512 .f32) (harg10 : arg10.IsWhole) (hc0 : cond0_0 i)
    (x0 : Vec F S512x512 .f32) (x1 : Vec F S512x512 .f32) (x2 : Vec F S1000x512 .f32) (x3 : Vec F S1x1000 .f32) : Vec F S512x1 .f32 :=
  VO0_4.read (Elt F) (VO0_4.writes (Elt F) VO0_4.junk (kernelRun0_A c i arg1 harg1 arg2 harg2 arg3 harg3 arg4 harg4 arg5 harg5 arg6 harg6 arg7 harg7 arg8 harg8 arg9 harg9 arg10 harg10 hc0 x0 x1 x2 x3).1)

theorem cover0_A_5 (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S1000x512 .f32) (harg3 : arg3.IsWhole) (arg4 : Memref sig .tc .vmem S1x1000 .f32) (harg4 : arg4.IsWhole) (arg5 : Memref sig .tc .vmem S512x1 .f32) (harg5 : arg5.IsWhole) (arg6 : Memref sig .tc .vmem S512x1 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S1x1000 .f32) (harg9 : arg9.IsWhole) (arg10 : Memref sig .tc .vmem S1000x512 .f32) (harg10 : arg10.IsWhole) (hc0 : cond0_0 i)
    (x0 : Vec F S512x512 .f32) (x1 : Vec F S512x512 .f32) (x2 : Vec F S1000x512 .f32) (x3 : Vec F S1x1000 .f32) (y : S512x1.Idx) :
    ∃ pc ∈ (kernelRun0_A c i arg1 harg1 arg2 harg2 arg3 harg3 arg4 harg4 arg5 harg5 arg6 harg6 arg7 harg7 arg8 harg8 arg9 harg9 arg10 harg10 hc0 x0 x1 x2 x3).2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 x0 x1 x2 x3).2.1 S512x1.size (by sl_kernel_rfl) y

def out0_A_5 (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S1000x512 .f32) (harg3 : arg3.IsWhole) (arg4 : Memref sig .tc .vmem S1x1000 .f32) (harg4 : arg4.IsWhole) (arg5 : Memref sig .tc .vmem S512x1 .f32) (harg5 : arg5.IsWhole) (arg6 : Memref sig .tc .vmem S512x1 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S1x1000 .f32) (harg9 : arg9.IsWhole) (arg10 : Memref sig .tc .vmem S1000x512 .f32) (harg10 : arg10.IsWhole) (hc0 : cond0_0 i)
    (x0 : Vec F S512x512 .f32) (x1 : Vec F S512x512 .f32) (x2 : Vec F S1000x512 .f32) (x3 : Vec F S1x1000 .f32) : Vec F S512x1 .i32 :=
  VO0_5.read (Elt F) (VO0_5.writes (Elt F) VO0_5.junk (kernelRun0_A c i arg1 harg1 arg2 harg2 arg3 harg3 arg4 harg4 arg5 harg5 arg6 harg6 arg7 harg7 arg8 harg8 arg9 harg9 arg10 harg10 hc0 x0 x1 x2 x3).2.1)

theorem cover0_A_6 (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S1000x512 .f32) (harg3 : arg3.IsWhole) (arg4 : Memref sig .tc .vmem S1x1000 .f32) (harg4 : arg4.IsWhole) (arg5 : Memref sig .tc .vmem S512x1 .f32) (harg5 : arg5.IsWhole) (arg6 : Memref sig .tc .vmem S512x1 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S1x1000 .f32) (harg9 : arg9.IsWhole) (arg10 : Memref sig .tc .vmem S1000x512 .f32) (harg10 : arg10.IsWhole) (hc0 : cond0_0 i)
    (x0 : Vec F S512x512 .f32) (x1 : Vec F S512x512 .f32) (x2 : Vec F S1000x512 .f32) (x3 : Vec F S1x1000 .f32) (y : S512x1.Idx) :
    ∃ pc ∈ (kernelRun0_A c i arg1 harg1 arg2 harg2 arg3 harg3 arg4 harg4 arg5 harg5 arg6 harg6 arg7 harg7 arg8 harg8 arg9 harg9 arg10 harg10 hc0 x0 x1 x2 x3).2.2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 x0 x1 x2 x3).2.2.1 S512x1.size (by sl_kernel_rfl) y

def out0_A_6 (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S1000x512 .f32) (harg3 : arg3.IsWhole) (arg4 : Memref sig .tc .vmem S1x1000 .f32) (harg4 : arg4.IsWhole) (arg5 : Memref sig .tc .vmem S512x1 .f32) (harg5 : arg5.IsWhole) (arg6 : Memref sig .tc .vmem S512x1 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S1x1000 .f32) (harg9 : arg9.IsWhole) (arg10 : Memref sig .tc .vmem S1000x512 .f32) (harg10 : arg10.IsWhole) (hc0 : cond0_0 i)
    (x0 : Vec F S512x512 .f32) (x1 : Vec F S512x512 .f32) (x2 : Vec F S1000x512 .f32) (x3 : Vec F S1x1000 .f32) : Vec F S512x1 .f32 :=
  VO0_6.read (Elt F) (VO0_6.writes (Elt F) VO0_6.junk (kernelRun0_A c i arg1 harg1 arg2 harg2 arg3 harg3 arg4 harg4 arg5 harg5 arg6 harg6 arg7 harg7 arg8 harg8 arg9 harg9 arg10 harg10 hc0 x0 x1 x2 x3).2.2.1)

theorem cover0_A_7 (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S1000x512 .f32) (harg3 : arg3.IsWhole) (arg4 : Memref sig .tc .vmem S1x1000 .f32) (harg4 : arg4.IsWhole) (arg5 : Memref sig .tc .vmem S512x1 .f32) (harg5 : arg5.IsWhole) (arg6 : Memref sig .tc .vmem S512x1 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S1x1000 .f32) (harg9 : arg9.IsWhole) (arg10 : Memref sig .tc .vmem S1000x512 .f32) (harg10 : arg10.IsWhole) (hc0 : cond0_0 i)
    (x0 : Vec F S512x512 .f32) (x1 : Vec F S512x512 .f32) (x2 : Vec F S1000x512 .f32) (x3 : Vec F S1x1000 .f32) (y : S512x1.Idx) :
    ∃ pc ∈ (kernelRun0_A c i arg1 harg1 arg2 harg2 arg3 harg3 arg4 harg4 arg5 harg5 arg6 harg6 arg7 harg7 arg8 harg8 arg9 harg9 arg10 harg10 hc0 x0 x1 x2 x3).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 x0 x1 x2 x3).2.2.2.1 S512x1.size (by sl_kernel_rfl) y

def out0_A_7 (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S1000x512 .f32) (harg3 : arg3.IsWhole) (arg4 : Memref sig .tc .vmem S1x1000 .f32) (harg4 : arg4.IsWhole) (arg5 : Memref sig .tc .vmem S512x1 .f32) (harg5 : arg5.IsWhole) (arg6 : Memref sig .tc .vmem S512x1 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S1x1000 .f32) (harg9 : arg9.IsWhole) (arg10 : Memref sig .tc .vmem S1000x512 .f32) (harg10 : arg10.IsWhole) (hc0 : cond0_0 i)
    (x0 : Vec F S512x512 .f32) (x1 : Vec F S512x512 .f32) (x2 : Vec F S1000x512 .f32) (x3 : Vec F S1x1000 .f32) : Vec F S512x1 .f32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 hc0 x0 x1 x2 x3).2.2.2.1)

theorem cover0_A_8 (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S1000x512 .f32) (harg3 : arg3.IsWhole) (arg4 : Memref sig .tc .vmem S1x1000 .f32) (harg4 : arg4.IsWhole) (arg5 : Memref sig .tc .vmem S512x1 .f32) (harg5 : arg5.IsWhole) (arg6 : Memref sig .tc .vmem S512x1 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S1x1000 .f32) (harg9 : arg9.IsWhole) (arg10 : Memref sig .tc .vmem S1000x512 .f32) (harg10 : arg10.IsWhole) (hc0 : cond0_0 i)
    (x0 : Vec F S512x512 .f32) (x1 : Vec F S512x512 .f32) (x2 : Vec F S1000x512 .f32) (x3 : Vec F S1x1000 .f32) (y : S1x1000.Idx) :
    ∃ pc ∈ (kernelRun0_A c i arg1 harg1 arg2 harg2 arg3 harg3 arg4 harg4 arg5 harg5 arg6 harg6 arg7 harg7 arg8 harg8 arg9 harg9 arg10 harg10 hc0 x0 x1 x2 x3).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 x0 x1 x2 x3).2.2.2.2.1 S1x1000.size (by sl_kernel_rfl) y

def out0_A_8 (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S1000x512 .f32) (harg3 : arg3.IsWhole) (arg4 : Memref sig .tc .vmem S1x1000 .f32) (harg4 : arg4.IsWhole) (arg5 : Memref sig .tc .vmem S512x1 .f32) (harg5 : arg5.IsWhole) (arg6 : Memref sig .tc .vmem S512x1 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S1x1000 .f32) (harg9 : arg9.IsWhole) (arg10 : Memref sig .tc .vmem S1000x512 .f32) (harg10 : arg10.IsWhole) (hc0 : cond0_0 i)
    (x0 : Vec F S512x512 .f32) (x1 : Vec F S512x512 .f32) (x2 : Vec F S1000x512 .f32) (x3 : Vec F S1x1000 .f32) : Vec F S1x1000 .f32 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 hc0 x0 x1 x2 x3).2.2.2.2.1)

theorem cover0_A_9 (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S1000x512 .f32) (harg3 : arg3.IsWhole) (arg4 : Memref sig .tc .vmem S1x1000 .f32) (harg4 : arg4.IsWhole) (arg5 : Memref sig .tc .vmem S512x1 .f32) (harg5 : arg5.IsWhole) (arg6 : Memref sig .tc .vmem S512x1 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S1x1000 .f32) (harg9 : arg9.IsWhole) (arg10 : Memref sig .tc .vmem S1000x512 .f32) (harg10 : arg10.IsWhole) (hc0 : cond0_0 i)
    (x0 : Vec F S512x512 .f32) (x1 : Vec F S512x512 .f32) (x2 : Vec F S1000x512 .f32) (x3 : Vec F S1x1000 .f32) (y : S1000x512.Idx) :
    ∃ pc ∈ (kernelRun0_A c i arg1 harg1 arg2 harg2 arg3 harg3 arg4 harg4 arg5 harg5 arg6 harg6 arg7 harg7 arg8 harg8 arg9 harg9 arg10 harg10 hc0 x0 x1 x2 x3).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 x0 x1 x2 x3).2.2.2.2.2.1 S1000x512.size (by sl_kernel_rfl) y

def out0_A_9 (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S1000x512 .f32) (harg3 : arg3.IsWhole) (arg4 : Memref sig .tc .vmem S1x1000 .f32) (harg4 : arg4.IsWhole) (arg5 : Memref sig .tc .vmem S512x1 .f32) (harg5 : arg5.IsWhole) (arg6 : Memref sig .tc .vmem S512x1 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S1x1000 .f32) (harg9 : arg9.IsWhole) (arg10 : Memref sig .tc .vmem S1000x512 .f32) (harg10 : arg10.IsWhole) (hc0 : cond0_0 i)
    (x0 : Vec F S512x512 .f32) (x1 : Vec F S512x512 .f32) (x2 : Vec F S1000x512 .f32) (x3 : Vec F S1x1000 .f32) : Vec F S1000x512 .f32 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 hc0 x0 x1 x2 x3).2.2.2.2.2.1)

theorem cover0_B_4 (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S1000x512 .f32) (harg3 : arg3.IsWhole) (arg4 : Memref sig .tc .vmem S1x1000 .f32) (harg4 : arg4.IsWhole) (arg5 : Memref sig .tc .vmem S512x1 .f32) (harg5 : arg5.IsWhole) (arg6 : Memref sig .tc .vmem S512x1 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S1x1000 .f32) (harg9 : arg9.IsWhole) (arg10 : Memref sig .tc .vmem S1000x512 .f32) (harg10 : arg10.IsWhole) (hc0 : ¬cond0_0 i)
    (x0 : Vec F S512x512 .f32) (x1 : Vec F S512x512 .f32) (x2 : Vec F S1000x512 .f32) (x3 : Vec F S1x1000 .f32) (xo8 : Vec F S1x1000 .f32) (xo9 : Vec F S1000x512 .f32) (y : S512x1.Idx) :
    ∃ pc ∈ (kernelRun0_B c i arg1 harg1 arg2 harg2 arg3 harg3 arg4 harg4 arg5 harg5 arg6 harg6 arg7 harg7 arg8 harg8 arg9 harg9 arg10 harg10 hc0 x0 x1 x2 x3 xo8 xo9).1, y ∈ pc.1.set :=
  View.cover_of_tiledL (kernelRun0_B c i arg1 harg1 arg2 harg2 arg3 harg3 arg4 harg4 arg5 harg5 arg6 harg6 arg7 harg7 arg8 harg8 arg9 harg9 arg10 harg10 hc0 x0 x1 x2 x3 xo8 xo9).1 S512x1.size (by sl_kernel_rfl) y

def out0_B_4 (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S1000x512 .f32) (harg3 : arg3.IsWhole) (arg4 : Memref sig .tc .vmem S1x1000 .f32) (harg4 : arg4.IsWhole) (arg5 : Memref sig .tc .vmem S512x1 .f32) (harg5 : arg5.IsWhole) (arg6 : Memref sig .tc .vmem S512x1 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S1x1000 .f32) (harg9 : arg9.IsWhole) (arg10 : Memref sig .tc .vmem S1000x512 .f32) (harg10 : arg10.IsWhole) (hc0 : ¬cond0_0 i)
    (x0 : Vec F S512x512 .f32) (x1 : Vec F S512x512 .f32) (x2 : Vec F S1000x512 .f32) (x3 : Vec F S1x1000 .f32) (xo8 : Vec F S1x1000 .f32) (xo9 : Vec F S1000x512 .f32) : Vec F S512x1 .f32 :=
  VO0_4.read (Elt F) (VO0_4.writes (Elt F) VO0_4.junk (kernelRun0_B c i arg1 harg1 arg2 harg2 arg3 harg3 arg4 harg4 arg5 harg5 arg6 harg6 arg7 harg7 arg8 harg8 arg9 harg9 arg10 harg10 hc0 x0 x1 x2 x3 xo8 xo9).1)

theorem cover0_B_5 (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S1000x512 .f32) (harg3 : arg3.IsWhole) (arg4 : Memref sig .tc .vmem S1x1000 .f32) (harg4 : arg4.IsWhole) (arg5 : Memref sig .tc .vmem S512x1 .f32) (harg5 : arg5.IsWhole) (arg6 : Memref sig .tc .vmem S512x1 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S1x1000 .f32) (harg9 : arg9.IsWhole) (arg10 : Memref sig .tc .vmem S1000x512 .f32) (harg10 : arg10.IsWhole) (hc0 : ¬cond0_0 i)
    (x0 : Vec F S512x512 .f32) (x1 : Vec F S512x512 .f32) (x2 : Vec F S1000x512 .f32) (x3 : Vec F S1x1000 .f32) (xo8 : Vec F S1x1000 .f32) (xo9 : Vec F S1000x512 .f32) (y : S512x1.Idx) :
    ∃ pc ∈ (kernelRun0_B c i arg1 harg1 arg2 harg2 arg3 harg3 arg4 harg4 arg5 harg5 arg6 harg6 arg7 harg7 arg8 harg8 arg9 harg9 arg10 harg10 hc0 x0 x1 x2 x3 xo8 xo9).2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 x0 x1 x2 x3 xo8 xo9).2.1 S512x1.size (by sl_kernel_rfl) y

def out0_B_5 (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S1000x512 .f32) (harg3 : arg3.IsWhole) (arg4 : Memref sig .tc .vmem S1x1000 .f32) (harg4 : arg4.IsWhole) (arg5 : Memref sig .tc .vmem S512x1 .f32) (harg5 : arg5.IsWhole) (arg6 : Memref sig .tc .vmem S512x1 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S1x1000 .f32) (harg9 : arg9.IsWhole) (arg10 : Memref sig .tc .vmem S1000x512 .f32) (harg10 : arg10.IsWhole) (hc0 : ¬cond0_0 i)
    (x0 : Vec F S512x512 .f32) (x1 : Vec F S512x512 .f32) (x2 : Vec F S1000x512 .f32) (x3 : Vec F S1x1000 .f32) (xo8 : Vec F S1x1000 .f32) (xo9 : Vec F S1000x512 .f32) : Vec F S512x1 .i32 :=
  VO0_5.read (Elt F) (VO0_5.writes (Elt F) VO0_5.junk (kernelRun0_B c i arg1 harg1 arg2 harg2 arg3 harg3 arg4 harg4 arg5 harg5 arg6 harg6 arg7 harg7 arg8 harg8 arg9 harg9 arg10 harg10 hc0 x0 x1 x2 x3 xo8 xo9).2.1)

theorem cover0_B_6 (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S1000x512 .f32) (harg3 : arg3.IsWhole) (arg4 : Memref sig .tc .vmem S1x1000 .f32) (harg4 : arg4.IsWhole) (arg5 : Memref sig .tc .vmem S512x1 .f32) (harg5 : arg5.IsWhole) (arg6 : Memref sig .tc .vmem S512x1 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S1x1000 .f32) (harg9 : arg9.IsWhole) (arg10 : Memref sig .tc .vmem S1000x512 .f32) (harg10 : arg10.IsWhole) (hc0 : ¬cond0_0 i)
    (x0 : Vec F S512x512 .f32) (x1 : Vec F S512x512 .f32) (x2 : Vec F S1000x512 .f32) (x3 : Vec F S1x1000 .f32) (xo8 : Vec F S1x1000 .f32) (xo9 : Vec F S1000x512 .f32) (y : S512x1.Idx) :
    ∃ pc ∈ (kernelRun0_B c i arg1 harg1 arg2 harg2 arg3 harg3 arg4 harg4 arg5 harg5 arg6 harg6 arg7 harg7 arg8 harg8 arg9 harg9 arg10 harg10 hc0 x0 x1 x2 x3 xo8 xo9).2.2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 x0 x1 x2 x3 xo8 xo9).2.2.1 S512x1.size (by sl_kernel_rfl) y

def out0_B_6 (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S1000x512 .f32) (harg3 : arg3.IsWhole) (arg4 : Memref sig .tc .vmem S1x1000 .f32) (harg4 : arg4.IsWhole) (arg5 : Memref sig .tc .vmem S512x1 .f32) (harg5 : arg5.IsWhole) (arg6 : Memref sig .tc .vmem S512x1 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S1x1000 .f32) (harg9 : arg9.IsWhole) (arg10 : Memref sig .tc .vmem S1000x512 .f32) (harg10 : arg10.IsWhole) (hc0 : ¬cond0_0 i)
    (x0 : Vec F S512x512 .f32) (x1 : Vec F S512x512 .f32) (x2 : Vec F S1000x512 .f32) (x3 : Vec F S1x1000 .f32) (xo8 : Vec F S1x1000 .f32) (xo9 : Vec F S1000x512 .f32) : Vec F S512x1 .f32 :=
  VO0_6.read (Elt F) (VO0_6.writes (Elt F) VO0_6.junk (kernelRun0_B c i arg1 harg1 arg2 harg2 arg3 harg3 arg4 harg4 arg5 harg5 arg6 harg6 arg7 harg7 arg8 harg8 arg9 harg9 arg10 harg10 hc0 x0 x1 x2 x3 xo8 xo9).2.2.1)

theorem cover0_B_7 (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S1000x512 .f32) (harg3 : arg3.IsWhole) (arg4 : Memref sig .tc .vmem S1x1000 .f32) (harg4 : arg4.IsWhole) (arg5 : Memref sig .tc .vmem S512x1 .f32) (harg5 : arg5.IsWhole) (arg6 : Memref sig .tc .vmem S512x1 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S1x1000 .f32) (harg9 : arg9.IsWhole) (arg10 : Memref sig .tc .vmem S1000x512 .f32) (harg10 : arg10.IsWhole) (hc0 : ¬cond0_0 i)
    (x0 : Vec F S512x512 .f32) (x1 : Vec F S512x512 .f32) (x2 : Vec F S1000x512 .f32) (x3 : Vec F S1x1000 .f32) (xo8 : Vec F S1x1000 .f32) (xo9 : Vec F S1000x512 .f32) (y : S512x1.Idx) :
    ∃ pc ∈ (kernelRun0_B c i arg1 harg1 arg2 harg2 arg3 harg3 arg4 harg4 arg5 harg5 arg6 harg6 arg7 harg7 arg8 harg8 arg9 harg9 arg10 harg10 hc0 x0 x1 x2 x3 xo8 xo9).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 x0 x1 x2 x3 xo8 xo9).2.2.2.1 S512x1.size (by sl_kernel_rfl) y

def out0_B_7 (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S1000x512 .f32) (harg3 : arg3.IsWhole) (arg4 : Memref sig .tc .vmem S1x1000 .f32) (harg4 : arg4.IsWhole) (arg5 : Memref sig .tc .vmem S512x1 .f32) (harg5 : arg5.IsWhole) (arg6 : Memref sig .tc .vmem S512x1 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S1x1000 .f32) (harg9 : arg9.IsWhole) (arg10 : Memref sig .tc .vmem S1000x512 .f32) (harg10 : arg10.IsWhole) (hc0 : ¬cond0_0 i)
    (x0 : Vec F S512x512 .f32) (x1 : Vec F S512x512 .f32) (x2 : Vec F S1000x512 .f32) (x3 : Vec F S1x1000 .f32) (xo8 : Vec F S1x1000 .f32) (xo9 : Vec F S1000x512 .f32) : Vec F S512x1 .f32 :=
  VO0_7.read (Elt F) (VO0_7.writes (Elt F) VO0_7.junk (kernelRun0_B c i arg1 harg1 arg2 harg2 arg3 harg3 arg4 harg4 arg5 harg5 arg6 harg6 arg7 harg7 arg8 harg8 arg9 harg9 arg10 harg10 hc0 x0 x1 x2 x3 xo8 xo9).2.2.2.1)

theorem cover0_B_8 (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S1000x512 .f32) (harg3 : arg3.IsWhole) (arg4 : Memref sig .tc .vmem S1x1000 .f32) (harg4 : arg4.IsWhole) (arg5 : Memref sig .tc .vmem S512x1 .f32) (harg5 : arg5.IsWhole) (arg6 : Memref sig .tc .vmem S512x1 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S1x1000 .f32) (harg9 : arg9.IsWhole) (arg10 : Memref sig .tc .vmem S1000x512 .f32) (harg10 : arg10.IsWhole) (hc0 : ¬cond0_0 i)
    (x0 : Vec F S512x512 .f32) (x1 : Vec F S512x512 .f32) (x2 : Vec F S1000x512 .f32) (x3 : Vec F S1x1000 .f32) (xo8 : Vec F S1x1000 .f32) (xo9 : Vec F S1000x512 .f32) (y : S1x1000.Idx) :
    ∃ pc ∈ (kernelRun0_B c i arg1 harg1 arg2 harg2 arg3 harg3 arg4 harg4 arg5 harg5 arg6 harg6 arg7 harg7 arg8 harg8 arg9 harg9 arg10 harg10 hc0 x0 x1 x2 x3 xo8 xo9).2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 x0 x1 x2 x3 xo8 xo9).2.2.2.2.1 S1x1000.size (by sl_kernel_rfl) y

def out0_B_8 (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S1000x512 .f32) (harg3 : arg3.IsWhole) (arg4 : Memref sig .tc .vmem S1x1000 .f32) (harg4 : arg4.IsWhole) (arg5 : Memref sig .tc .vmem S512x1 .f32) (harg5 : arg5.IsWhole) (arg6 : Memref sig .tc .vmem S512x1 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S1x1000 .f32) (harg9 : arg9.IsWhole) (arg10 : Memref sig .tc .vmem S1000x512 .f32) (harg10 : arg10.IsWhole) (hc0 : ¬cond0_0 i)
    (x0 : Vec F S512x512 .f32) (x1 : Vec F S512x512 .f32) (x2 : Vec F S1000x512 .f32) (x3 : Vec F S1x1000 .f32) (xo8 : Vec F S1x1000 .f32) (xo9 : Vec F S1000x512 .f32) : Vec F S1x1000 .f32 :=
  VO0_8.read (Elt F) (VO0_8.writes (Elt F) VO0_8.junk (kernelRun0_B c i arg1 harg1 arg2 harg2 arg3 harg3 arg4 harg4 arg5 harg5 arg6 harg6 arg7 harg7 arg8 harg8 arg9 harg9 arg10 harg10 hc0 x0 x1 x2 x3 xo8 xo9).2.2.2.2.1)

theorem cover0_B_9 (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S1000x512 .f32) (harg3 : arg3.IsWhole) (arg4 : Memref sig .tc .vmem S1x1000 .f32) (harg4 : arg4.IsWhole) (arg5 : Memref sig .tc .vmem S512x1 .f32) (harg5 : arg5.IsWhole) (arg6 : Memref sig .tc .vmem S512x1 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S1x1000 .f32) (harg9 : arg9.IsWhole) (arg10 : Memref sig .tc .vmem S1000x512 .f32) (harg10 : arg10.IsWhole) (hc0 : ¬cond0_0 i)
    (x0 : Vec F S512x512 .f32) (x1 : Vec F S512x512 .f32) (x2 : Vec F S1000x512 .f32) (x3 : Vec F S1x1000 .f32) (xo8 : Vec F S1x1000 .f32) (xo9 : Vec F S1000x512 .f32) (y : S1000x512.Idx) :
    ∃ pc ∈ (kernelRun0_B c i arg1 harg1 arg2 harg2 arg3 harg3 arg4 harg4 arg5 harg5 arg6 harg6 arg7 harg7 arg8 harg8 arg9 harg9 arg10 harg10 hc0 x0 x1 x2 x3 xo8 xo9).2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 x0 x1 x2 x3 xo8 xo9).2.2.2.2.2.1 S1000x512.size (by sl_kernel_rfl) y

def out0_B_9 (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S1000x512 .f32) (harg3 : arg3.IsWhole) (arg4 : Memref sig .tc .vmem S1x1000 .f32) (harg4 : arg4.IsWhole) (arg5 : Memref sig .tc .vmem S512x1 .f32) (harg5 : arg5.IsWhole) (arg6 : Memref sig .tc .vmem S512x1 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S1x1000 .f32) (harg9 : arg9.IsWhole) (arg10 : Memref sig .tc .vmem S1000x512 .f32) (harg10 : arg10.IsWhole) (hc0 : ¬cond0_0 i)
    (x0 : Vec F S512x512 .f32) (x1 : Vec F S512x512 .f32) (x2 : Vec F S1000x512 .f32) (x3 : Vec F S1x1000 .f32) (xo8 : Vec F S1x1000 .f32) (xo9 : Vec F S1000x512 .f32) : Vec F S1000x512 .f32 :=
  VO0_9.read (Elt F) (VO0_9.writes (Elt F) VO0_9.junk (kernelRun0_B c i arg1 harg1 arg2 harg2 arg3 harg3 arg4 harg4 arg5 harg5 arg6 harg6 arg7 harg7 arg8 harg8 arg9 harg9 arg10 harg10 hc0 x0 x1 x2 x3 xo8 xo9).2.2.2.2.2.1)

/-! ## What the outputs hold after each point -/

def outsAt0 (c : Dev nD) : (n : ℕ) → n < cfg0.N → Vec F S512x1 .f32 × Vec F S512x1 .i32 × Vec F S512x1 .f32 × Vec F S512x1 .f32 × Vec F S1x1000 .f32 × Vec F S1000x512 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩))
  | n + 1, hn =>
    if h0 : (n + 1) % 10 = 0 then
      (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩))
    else
      (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.2.1 (outsAt0 c n (Nat.lt_of_succ_lt hn)).2.2.2.2.2, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.2.1 (outsAt0 c n (Nat.lt_of_succ_lt hn)).2.2.2.2.2, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.2.1 (outsAt0 c n (Nat.lt_of_succ_lt hn)).2.2.2.2.2, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.2.1 (outsAt0 c n (Nat.lt_of_succ_lt hn)).2.2.2.2.2, out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.2.1 (outsAt0 c n (Nat.lt_of_succ_lt hn)).2.2.2.2.2, out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.2.1 (outsAt0 c n (Nat.lt_of_succ_lt hn)).2.2.2.2.2)

theorem outsAt0_A (c : Dev nD) (t : Fin cfg0.N) (h0 : t.val % 10 = 0) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (iblk m c 0 t) (iblk m c 1 t) (iblk m c 2 t) (iblk m c 3 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (iblk m c 0 t) (iblk m c 1 t) (iblk m c 2 t) (iblk m c 3 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (iblk m c 0 t) (iblk m c 1 t) (iblk m c 2 t) (iblk m c 3 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (iblk m c 0 t) (iblk m c 1 t) (iblk m c 2 t) (iblk m c 3 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (iblk m c 0 t) (iblk m c 1 t) (iblk m c 2 t) (iblk m c 3 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (iblk m c 0 t) (iblk m c 1 t) (iblk m c 2 t) (iblk m c 3 t)) := by
  obtain ⟨n, hn⟩ := t
  cases n with
  | zero => exact rfl
  | succ n => exact (dif_pos h0).trans rfl

theorem outsAt0_B (c : Dev nD) (t : Fin cfg0.N) (h0 : ¬t.val % 10 = 0) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (iblk m c 0 t) (iblk m c 1 t) (iblk m c 2 t) (iblk m c 3 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (iblk m c 0 t) (iblk m c 1 t) (iblk m c 2 t) (iblk m c 3 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (iblk m c 0 t) (iblk m c 1 t) (iblk m c 2 t) (iblk m c 3 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (iblk m c 0 t) (iblk m c 1 t) (iblk m c 2 t) (iblk m c 3 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (iblk m c 0 t) (iblk m c 1 t) (iblk m c 2 t) (iblk m c 3 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (iblk m c 0 t) (iblk m c 1 t) (iblk m c 2 t) (iblk m c 3 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans rfl

/-! ## The pipeline's proof data -/

def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2.1
    | ⟨6, _⟩ => (outsAt0 m c t.val t.isLt).2.2.1
    | ⟨7, _⟩ => (outsAt0 m c t.val t.isLt).2.2.2.1
    | ⟨8, _⟩ => (outsAt0 m c t.val t.isLt).2.2.2.2.1
    | ⟨9, _⟩ => (outsAt0 m c t.val t.isLt).2.2.2.2.2
  Φ _ := Pipeline.ΦA spec0 c
  q _ := fullShare
  owed _ := 0

theorem A_eq (c : Dev nD) (w : Fin cfg0.W) : (dat m c).A w = V m c (Pipeline.arrRef spec0 w) := by
  dsimp only [dat]

theorem after0_0 (c : Dev nD) (t : Fin cfg0.N) : (dat m c).after 0 t = iblk m c 0 t := by dsimp only [dat]
theorem after0_1 (c : Dev nD) (t : Fin cfg0.N) : (dat m c).after 1 t = iblk m c 1 t := by dsimp only [dat]
theorem after0_2 (c : Dev nD) (t : Fin cfg0.N) : (dat m c).after 2 t = iblk m c 2 t := by dsimp only [dat]
theorem after0_3 (c : Dev nD) (t : Fin cfg0.N) : (dat m c).after 3 t = iblk m c 3 t := by dsimp only [dat]
theorem after0_4 (c : Dev nD) (t : Fin cfg0.N) : (dat m c).after 4 t = (outsAt0 m c t.val t.isLt).1 := by dsimp only [dat]
theorem after0_5 (c : Dev nD) (t : Fin cfg0.N) : (dat m c).after 5 t = (outsAt0 m c t.val t.isLt).2.1 := by dsimp only [dat]
theorem after0_6 (c : Dev nD) (t : Fin cfg0.N) : (dat m c).after 6 t = (outsAt0 m c t.val t.isLt).2.2.1 := by dsimp only [dat]
theorem after0_7 (c : Dev nD) (t : Fin cfg0.N) : (dat m c).after 7 t = (outsAt0 m c t.val t.isLt).2.2.2.1 := by dsimp only [dat]
theorem after0_8 (c : Dev nD) (t : Fin cfg0.N) : (dat m c).after 8 t = (outsAt0 m c t.val t.isLt).2.2.2.2.1 := by dsimp only [dat]
theorem after0_9 (c : Dev nD) (t : Fin cfg0.N) : (dat m c).after 9 t = (outsAt0 m c t.val t.isLt).2.2.2.2.2 := by dsimp only [dat]

theorem before0_0 (c : Dev nD) (t : Fin cfg0.N) (d) : (dat m c).before 0 t d = iblk m c 0 t :=
  before0_0_of m (dat m c) (A_eq m c 0) (after0_0 m c) t d
theorem before0_1 (c : Dev nD) (t : Fin cfg0.N) (d) : (dat m c).before 1 t d = iblk m c 1 t :=
  before0_1_of m (dat m c) (A_eq m c 1) (after0_1 m c) t d
theorem before0_2 (c : Dev nD) (t : Fin cfg0.N) (d) : (dat m c).before 2 t d = iblk m c 2 t :=
  before0_2_of m (dat m c) (A_eq m c 2) (after0_2 m c) t d
theorem before0_3 (c : Dev nD) (t : Fin cfg0.N) (d) : (dat m c).before 3 t d = iblk m c 3 t :=
  before0_3_of m (dat m c) (A_eq m c 3) (after0_3 m c) t d
theorem before0_8_B (c : Dev nD) (t : Fin cfg0.N) (h0 : ¬t.val % 10 = 0) (d) :
    (dat m c).before 8 t d = (outsAt0 m c (t.val - 1) (Nat.lt_of_le_of_lt (Nat.sub_le _ _) t.isLt)).2.2.2.2.1 := by
  have hN : t.val < 10 := lt_of_lt_of_eq t.isLt (show cfg0.N = 10 from N_0)
  rw [Dat.before_out_kept _ 8 rfl t (by omega) (Bool.eq_false_iff.mpr fun h => by have := (flush0_8 _).mp h; dsimp only at this; omega)
    (fun _ => rfl) (fun _ _ => rfl)]
  dsimp only [dat]
theorem before0_9_B (c : Dev nD) (t : Fin cfg0.N) (h0 : ¬t.val % 10 = 0) (d) :
    (dat m c).before 9 t d = (outsAt0 m c (t.val - 1) (Nat.lt_of_le_of_lt (Nat.sub_le _ _) t.isLt)).2.2.2.2.2 := by
  have hN : t.val < 10 := lt_of_lt_of_eq t.isLt (show cfg0.N = 10 from N_0)
  rw [Dat.before_out_kept _ 9 rfl t (by omega) (Bool.eq_false_iff.mpr fun h => by have := (flush0_9 _).mp h; dsimp only at this; omega)
    (fun _ => rfl) (fun _ _ => rfl)]
  dsimp only [dat]

/-! ## The body obligation, at a generic point -/

def bodyPre (c : Dev nD) (t : Fin cfg0.N) : sProp 𝕄 :=
  iprop((dat m c).Φ t.castSucc ∗ (dat m c).owesAt () t.castSucc
    ∗ (∃ d, owns (c : Thread nD τ) (ms0_0 t) fullShare ((dat m c).before 0 t d))
    ∗ (∃ d, owns (c : Thread nD τ) (ms0_1 t) fullShare ((dat m c).before 1 t d))
    ∗ (∃ d, owns (c : Thread nD τ) (ms0_2 t) fullShare ((dat m c).before 2 t d))
    ∗ (∃ d, owns (c : Thread nD τ) (ms0_3 t) fullShare ((dat m c).before 3 t d))
    ∗ (∃ d, owns (c : Thread nD τ) (ms0_4 t) fullShare ((dat m c).before 4 t d))
    ∗ (∃ d, owns (c : Thread nD τ) (ms0_5 t) fullShare ((dat m c).before 5 t d))
    ∗ (∃ d, owns (c : Thread nD τ) (ms0_6 t) fullShare ((dat m c).before 6 t d))
    ∗ (∃ d, owns (c : Thread nD τ) (ms0_7 t) fullShare ((dat m c).before 7 t d))
    ∗ (∃ d, owns (c : Thread nD τ) (ms0_8 t) fullShare ((dat m c).before 8 t d))
    ∗ (∃ d, owns (c : Thread nD τ) (ms0_9 t) fullShare ((dat m c).before 9 t d)))

def bodyPost (c : Dev nD) (t : Fin cfg0.N) : sProp 𝕄 :=
  iprop((dat m c).Φ t.succ ∗ (dat m c).owesAt () t.succ
    ∗ owns (c : Thread nD τ) (ms0_0 t) fullShare ((dat m c).after 0 t)
    ∗ owns (c : Thread nD τ) (ms0_1 t) fullShare ((dat m c).after 1 t)
    ∗ owns (c : Thread nD τ) (ms0_2 t) fullShare ((dat m c).after 2 t)
    ∗ owns (c : Thread nD τ) (ms0_3 t) fullShare ((dat m c).after 3 t)
    ∗ owns (c : Thread nD τ) (ms0_4 t) fullShare ((dat m c).after 4 t)
    ∗ owns (c : Thread nD τ) (ms0_5 t) fullShare ((dat m c).after 5 t)
    ∗ owns (c : Thread nD τ) (ms0_6 t) fullShare ((dat m c).after 6 t)
    ∗ owns (c : Thread nD τ) (ms0_7 t) fullShare ((dat m c).after 7 t)
    ∗ owns (c : Thread nD τ) (ms0_8 t) fullShare ((dat m c).after 8 t)
    ∗ owns (c : Thread nD τ) (ms0_9 t) fullShare ((dat m c).after 9 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dat m c).Φ t.succ = (dat m c).Φ t.castSucc from rfl,
    show (dat m c).owesAt () t.succ = (dat m c).owesAt () t.castSucc from rfl,
    after0_0, after0_1, after0_2, after0_3, after0_4, after0_5, after0_6, after0_7, after0_8, after0_9]
  have hN : t.val < 10 := lt_of_lt_of_eq t.isLt (show cfg0.N = 10 from N_0)
  by_cases h0 : t.val % 10 = 0
  · rw [outsAt0_A m c t h0]
    unfold out0_A_4 out0_A_5 out0_A_6 out0_A_7 out0_A_8 out0_A_9; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun0_A c (grid0.coords t) _ _ _ _ _ _ _ _ _ _ _ _ _ _ _ _ _ _ _ _ ((hcond0_0 t).mpr h0) (iblk m c 0 t) (iblk m c 1 t) (iblk m c 2 t) (iblk m c 3 t)).2.2.2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    iintro ⟨H0, H1, H2, H3, ⟨%e4, H4⟩, ⟨%e5, H5⟩, ⟨%e6, H6⟩, ⟨%e7, H7⟩, ⟨%e8, H8⟩, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_A_4 c _ _ _ _ _ _ _ _ _ _ _ _ _ _ _ _ _ _ _ _ _ _ _ _ _ _)
    isplitl [H5]
    · unfold owns; iexists _; isplitr
      swap; · iexact H5
      ipureintro; exact View.read_writes_of_cover _ _ _ _ _ (cover0_A_5 c _ _ _ _ _ _ _ _ _ _ _ _ _ _ _ _ _ _ _ _ _ _ _ _ _ _)
    isplitl [H6]
    · unfold owns; iexists _; isplitr
      swap; · iexact H6
      ipureintro; exact View.read_writes_of_cover _ _ _ _ _ (cover0_A_6 c _ _ _ _ _ _ _ _ _ _ _ _ _ _ _ _ _ _ _ _ _ _ _ _ _ _)
    isplitl [H7]
    · unfold owns; iexists _; isplitr
      swap; · iexact H7
      ipureintro; exact View.read_writes_of_cover _ _ _ _ _ (cover0_A_7 c _ _ _ _ _ _ _ _ _ _ _ _ _ _ _ _ _ _ _ _ _ _ _ _ _ _)
    isplitl [H8]
    · unfold owns; iexists _; isplitr
      swap; · iexact H8
      ipureintro; exact View.read_writes_of_cover _ _ _ _ _ (cover0_A_8 c _ _ _ _ _ _ _ _ _ _ _ _ _ _ _ _ _ _ _ _ _ _ _ _ _ _)
    unfold owns; iexists _; isplitr
    swap; · iexact H9
    ipureintro; exact View.read_writes_of_cover _ _ _ _ _ (cover0_A_9 c _ _ _ _ _ _ _ _ _ _ _ _ _ _ _ _ _ _ _ _ _ _ _ _ _ _)
  · rw [outsAt0_B m c t h0]
    simp only [before0_8_B m c t h0, before0_9_B m c t h0]
    unfold out0_B_4 out0_B_5 out0_B_6 out0_B_7 out0_B_8 out0_B_9; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun0_B c (grid0.coords t) _ _ _ _ _ _ _ _ _ _ _ _ _ _ _ _ _ _ _ _ (fun h => h0 ((hcond0_0 t).mp h)) (iblk m c 0 t) (iblk m c 1 t) (iblk m c 2 t) (iblk m c 3 t) _ _).2.2.2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [H8]; · iexact H8
    isplitl [H9]; · iexact H9
    iintro ⟨H0, H1, H2, H3, ⟨%e4, H4⟩, ⟨%e5, H5⟩, ⟨%e6, H6⟩, ⟨%e7, H7⟩, ⟨%e8, H8⟩, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_B_4 c _ _ _ _ _ _ _ _ _ _ _ _ _ _ _ _ _ _ _ _ _ _ _ _ _ _ _ _)
    isplitl [H5]
    · unfold owns; iexists _; isplitr
      swap; · iexact H5
      ipureintro; exact View.read_writes_of_cover _ _ _ _ _ (cover0_B_5 c _ _ _ _ _ _ _ _ _ _ _ _ _ _ _ _ _ _ _ _ _ _ _ _ _ _ _ _)
    isplitl [H6]
    · unfold owns; iexists _; isplitr
      swap; · iexact H6
      ipureintro; exact View.read_writes_of_cover _ _ _ _ _ (cover0_B_6 c _ _ _ _ _ _ _ _ _ _ _ _ _ _ _ _ _ _ _ _ _ _ _ _ _ _ _ _)
    isplitl [H7]
    · unfold owns; iexists _; isplitr
      swap; · iexact H7
      ipureintro; exact View.read_writes_of_cover _ _ _ _ _ (cover0_B_7 c _ _ _ _ _ _ _ _ _ _ _ _ _ _ _ _ _ _ _ _ _ _ _ _ _ _ _ _)
    isplitl [H8]
    · unfold owns; iexists _; isplitr
      swap; · iexact H8
      ipureintro; exact View.read_writes_of_cover _ _ _ _ _ (cover0_B_8 c _ _ _ _ _ _ _ _ _ _ _ _ _ _ _ _ _ _ _ _ _ _ _ _ _ _ _ _)
    unfold owns; iexists _; isplitr
    swap; · iexact H9
    ipureintro; exact View.read_writes_of_cover _ _ _ _ _ (cover0_B_9 c _ _ _ _ _ _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dat (F := F) m c) (defs₀ (F := F)) Variants.none () Set.univ := fun t => by
  rw [bigSep_W0, bigSep_W0, defs₀_row]
  exact triple_restated (sound_body m c t) rfl .rfl fun _ => .rfl

end Cert.KernelIdeal.R0

end
-- ==== Proof.R1.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (c : Dev nD) → (b : Ref sig .tc) → Buf (Elt F) ((c : Thread nD τ).loc b))

abbrev V (c : Dev nD) (b : Ref sig .tc) : Buf (Elt F) ((c : Thread nD τ).loc b) := m c b

/-! ## The windows' blocks -/

def iblk (c : Dev nD) (w : Fin cfg1.W) (t : Fin cfg1.N) : ((cfg1.win w).xblock (cfg1.grid.coords t)).Idx → Elt F (cfg1.win w).elt :=
  ((cfg1.win w).blk t).view.read (Elt F) (V m c (Pipeline.arrRef spec1 w))

theorem before1_0_of {c : Dev nD} (dat : Dat τ (Elt F) Unit ℕ (UR sig nD τ) ℕ cfg1 c) (hA : dat.A 0 = V m c (Pipeline.arrRef spec1 0))
    (hafter : ∀ t, dat.after 0 t = iblk m c 0 t) (t : Fin cfg1.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_1_of {c : Dev nD} (dat : Dat τ (Elt F) Unit ℕ (UR sig nD τ) ℕ cfg1 c) (hA : dat.A 1 = V m c (Pipeline.arrRef spec1 1))
    (hafter : ∀ t, dat.after 1 t = iblk m c 1 t) (t : Fin cfg1.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before1_2_of {c : Dev nD} (dat : Dat τ (Elt F) Unit ℕ (UR sig nD τ) ℕ cfg1 c) (hA : dat.A 2 = V m c (Pipeline.arrRef spec1 2))
    (hafter : ∀ t, dat.after 2 t = iblk m c 2 t) (t : Fin cfg1.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before1_3_of {c : Dev nD} (dat : Dat τ (Elt F) Unit ℕ (UR sig nD τ) ℕ cfg1 c) (hA : dat.A 3 = V m c (Pipeline.arrRef spec1 3))
    (hafter : ∀ t, dat.after 3 t = iblk m c 3 t) (t : Fin cfg1.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before1_4_of {c : Dev nD} (dat : Dat τ (Elt F) Unit ℕ (UR sig nD τ) ℕ cfg1 c) (hA : dat.A 4 = V m c (Pipeline.arrRef spec1 4))
    (hafter : ∀ t, dat.after 4 t = iblk m c 4 t) (t : Fin cfg1.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 10 = 0 :=
  (fun t => by
    have ht : t.val < 100 := Nat.lt_of_lt_of_eq t.isLt N_1
    have e0 : (grid1.coords t 0).val = t.val / 10 % 10 := Pipeline.Grid.coords_val t 0 (by decide) rfl
    have e1 : (grid1.coords t 1).val = t.val / 1 % 10 := Pipeline.Grid.coords_val t 1 (by decide) rfl
    simp only [cond1_0, e0, e1]
    word_cmp
   : ∀ t : Fin grid1.N, cond1_0 (grid1.coords t) ↔ t.val % 10 = 0)

abbrev cond1_1 (i : grid1.Coords) : Prop := k1_cond2 i = 1#1
theorem hcond1_1 : ∀ t : Fin cfg1.N, cond1_1 (grid1.coords t) ↔ t.val % 10 = 9 :=
  (fun t => by
    have ht : t.val < 100 := Nat.lt_of_lt_of_eq t.isLt N_1
    have e0 : (grid1.coords t 0).val = t.val / 10 % 10 := Pipeline.Grid.coords_val t 0 (by decide) rfl
    have e1 : (grid1.coords t 1).val = t.val / 1 % 10 := Pipeline.Grid.coords_val t 1 (by decide) rfl
    simp only [cond1_1, k1_cond2, e0, e1]
    word_cmp
   : ∀ t : Fin grid1.N, cond1_1 (grid1.coords t) ↔ t.val % 10 = 9)

/-! ## Where the windows are idle (the printed configuration's table `Cfg.idle`) -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem idleAt1_5_A : ∀ t : Fin cfg1.N, cond1_0 (grid1.coords t) → ¬cond1_1 (grid1.coords t) → cfg1.idle 5 (grid1.coords t) = true := by decide +kernel
theorem noFlush1_5_A : ∀ t : Fin cfg1.N, cond1_0 (grid1.coords t) → ¬cond1_1 (grid1.coords t) → (cfg1.win 5).flush t = false := by decide +kernel
theorem idleAt1_5_B : ∀ t : Fin cfg1.N, ¬cond1_0 (grid1.coords t) → ¬cond1_1 (grid1.coords t) → cfg1.idle 5 (grid1.coords t) = true := by decide +kernel
theorem noFlush1_5_B : ∀ t : Fin cfg1.N, ¬cond1_0 (grid1.coords t) → ¬cond1_1 (grid1.coords t) → (cfg1.win 5).flush t = false := by decide +kernel
theorem liveAt1_5_C : ∀ t : Fin cfg1.N, ¬cond1_0 (grid1.coords t) → cond1_1 (grid1.coords t) → cfg1.idle 5 (grid1.coords t) = false := by decide +kernel

/-! ## The kernel body on any staging memrefs: a subtype the run finds -/

abbrev VO1_5 : View sig .tc .vmem S512x1 .f32 := (Memref.whole cc1_stg5_0 : Memref sig .tc .vmem S512x1 .f32).view
abbrev ms1_0 (t : Fin cfg1.N) : Memref sig .tc .vmem S512x1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x512 .i32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x1 .f32 := win1_5.stage (cfg1.slots t 5)
abbrev hs1_5 (t : Fin cfg1.N) : (ms1_5 t).IsWhole := hstage1_5 ((cfg1.slots t 5).cast nbuf1_5)
abbrev scM1_0 : Memref sig .tc .vmem S512x1 .f32 := Memref.whole cc1_scratch0
abbrev VS1_0 : View sig .tc .vmem S512x1 .f32 := scM1_0.view

/-- What the region keeps beside its accumulator: the other scoped buffers and the generator's register. -/
def Rst (c : Dev nD) : sProp 𝕄 :=
  iprop(Pipeline.scopedRestBut (Ix := Unit) (Name := ℕ) (U := UR sig nD τ) (Lvl := ℕ) (Val := Elt F) spec1 c [cc1_scratch0] ∗ (∃ r, prngReg c r))

theorem PhiA1_eq (c : Dev nD) :
    (Pipeline.ΦA spec1 c : sProp 𝕄)
      = iprop(iprop((∃ d, owns (c : Thread nD τ) scM1_0 fullShare d)) ∗ Rst c) := by
  unfold Pipeline.ΦA Rst; rw [scopedRest1_split]; refine (Entails.antisymm BI.sep_assoc BI.sep_assoc').trans ?_; simp only [scM1_0, owns_whole]; try rfl

-- (the run's proof term is large: the definition's epilogue — `abstractNestedProofs` — walks it past the default budget)
set_option maxHeartbeats 1000000 in
noncomputable def kernelRun1_A (c : Dev nD) (i : grid1.Coords) (arg2 : Memref sig .tc .vmem S512x1 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S1x512 .f32) (harg5 : arg5.IsWhole) (arg6 : Memref sig .tc .vmem S1x512 .i32) (harg6 : arg6.IsWhole) (arg7 : Memref sig .tc .vmem S512x1 .f32) (harg7 : arg7.IsWhole) (arg8 : Memref sig .tc .vmem S512x1 .f32) (harg8 : arg8.IsWhole) (hc0 : cond1_0 i) (hc1 : ¬cond1_1 i)
    (x0 : Vec F S512x1 .f32) (x1 : Vec F S512x1 .i32) (x2 : Vec F S512x1 .f32) (x3 : Vec F S1x512 .f32) (x4 : Vec F S1x512 .i32) :
    Σ' (L5 : List (View.Piece (Elt F) S512x1 .f32)), { LS0 : List (View.Piece (Elt F) S512x1 .f32) //
      ∀ (xi5 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__rank_body i arg2 harg2 arg3 harg3 arg4 harg4 arg5 harg5 arg6 harg6 arg7 harg7 arg8 harg8) K } := by
  refine ⟨[], ?_, fun xi5 E K => ?run⟩
  case run =>
    simp only [cc1__rank_body_eq_skeleton]; unfold cc1__rank_body_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

-- (the run's proof term is large: the definition's epilogue — `abstractNestedProofs` — walks it past the default budget)
set_option maxHeartbeats 1000000 in
noncomputable def kernelRun1_B (c : Dev nD) (i : grid1.Coords) (arg2 : Memref sig .tc .vmem S512x1 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S1x512 .f32) (harg5 : arg5.IsWhole) (arg6 : Memref sig .tc .vmem S1x512 .i32) (harg6 : arg6.IsWhole) (arg7 : Memref sig .tc .vmem S512x1 .f32) (harg7 : arg7.IsWhole) (arg8 : Memref sig .tc .vmem S512x1 .f32) (harg8 : arg8.IsWhole) (hc0 : ¬cond1_0 i) (hc1 : ¬cond1_1 i)
    (x0 : Vec F S512x1 .f32) (x1 : Vec F S512x1 .i32) (x2 : Vec F S512x1 .f32) (x3 : Vec F S1x512 .f32) (x4 : Vec F S1x512 .i32) (xs0 : Vec F S512x1 .f32) :
    Σ' (L5 : List (View.Piece (Elt F) S512x1 .f32)), { LS0 : List (View.Piece (Elt F) S512x1 .f32) //
      ∀ (xi5 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__rank_body i arg2 harg2 arg3 harg3 arg4 harg4 arg5 harg5 arg6 harg6 arg7 harg7 arg8 harg8) K } := by
  refine ⟨[], ?_, fun xi5 E K => ?run⟩
  case run =>
    simp only [cc1__rank_body_eq_skeleton]; unfold cc1__rank_body_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

-- (the run's proof term is large: the definition's epilogue — `abstractNestedProofs` — walks it past the default budget)
set_option maxHeartbeats 1000000 in
noncomputable def kernelRun1_C (c : Dev nD) (i : grid1.Coords) (arg2 : Memref sig .tc .vmem S512x1 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S1x512 .f32) (harg5 : arg5.IsWhole) (arg6 : Memref sig .tc .vmem S1x512 .i32) (harg6 : arg6.IsWhole) (arg7 : Memref sig .tc .vmem S512x1 .f32) (harg7 : arg7.IsWhole) (arg8 : Memref sig .tc .vmem S512x1 .f32) (harg8 : arg8.IsWhole) (hc0 : ¬cond1_0 i) (hc1 : cond1_1 i)
    (x0 : Vec F S512x1 .f32) (x1 : Vec F S512x1 .i32) (x2 : Vec F S512x1 .f32) (x3 : Vec F S1x512 .f32) (x4 : Vec F S1x512 .i32) (xs0 : Vec F S512x1 .f32) :
    Σ' (L5 : List (View.Piece (Elt F) S512x1 .f32)), { LS0 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc1__rank_body i arg2 harg2 arg3 harg3 arg4 harg4 arg5 harg5 arg6 harg6 arg7 harg7 arg8 harg8) K } := by
  refine ⟨?_, ?_, fun E K => ?run⟩
  case run =>
    simp only [cc1__rank_body_eq_skeleton]; unfold cc1__rank_body_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

def out1_A_5 (c : Dev nD) (i : grid1.Coords) (arg2 : Memref sig .tc .vmem S512x1 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S1x512 .f32) (harg5 : arg5.IsWhole) (arg6 : Memref sig .tc .vmem S1x512 .i32) (harg6 : arg6.IsWhole) (arg7 : Memref sig .tc .vmem S512x1 .f32) (harg7 : arg7.IsWhole) (arg8 : Memref sig .tc .vmem S512x1 .f32) (harg8 : arg8.IsWhole) (hc0 : cond1_0 i) (hc1 : ¬cond1_1 i)
    (x0 : Vec F S512x1 .f32) (x1 : Vec F S512x1 .i32) (x2 : Vec F S512x1 .f32) (x3 : Vec F S1x512 .f32) (x4 : Vec F S1x512 .i32) : Vec F S512x1 .f32 :=
  VO1_5.read (Elt F) (VO1_5.writes (Elt F) VO1_5.junk (kernelRun1_A c i arg2 harg2 arg3 harg3 arg4 harg4 arg5 harg5 arg6 harg6 arg7 harg7 arg8 harg8 hc0 hc1 x0 x1 x2 x3 x4).1)

theorem scover1_A_0 (c : Dev nD) (i : grid1.Coords) (arg2 : Memref sig .tc .vmem S512x1 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S1x512 .f32) (harg5 : arg5.IsWhole) (arg6 : Memref sig .tc .vmem S1x512 .i32) (harg6 : arg6.IsWhole) (arg7 : Memref sig .tc .vmem S512x1 .f32) (harg7 : arg7.IsWhole) (arg8 : Memref sig .tc .vmem S512x1 .f32) (harg8 : arg8.IsWhole) (hc0 : cond1_0 i) (hc1 : ¬cond1_1 i)
    (x0 : Vec F S512x1 .f32) (x1 : Vec F S512x1 .i32) (x2 : Vec F S512x1 .f32) (x3 : Vec F S1x512 .f32) (x4 : Vec F S1x512 .i32) (y : S512x1.Idx) :
    ∃ pc ∈ (kernelRun1_A c i arg2 harg2 arg3 harg3 arg4 harg4 arg5 harg5 arg6 harg6 arg7 harg7 arg8 harg8 hc0 hc1 x0 x1 x2 x3 x4).2.1, y ∈ pc.1.set :=
  View.cover_of_tiledL (kernelRun1_A c i arg2 harg2 arg3 harg3 arg4 harg4 arg5 harg5 arg6 harg6 arg7 harg7 arg8 harg8 hc0 hc1 x0 x1 x2 x3 x4).2.1 S512x1.size (by sl_kernel_rfl) y

def sout1_A_0 (c : Dev nD) (i : grid1.Coords) (arg2 : Memref sig .tc .vmem S512x1 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S1x512 .f32) (harg5 : arg5.IsWhole) (arg6 : Memref sig .tc .vmem S1x512 .i32) (harg6 : arg6.IsWhole) (arg7 : Memref sig .tc .vmem S512x1 .f32) (harg7 : arg7.IsWhole) (arg8 : Memref sig .tc .vmem S512x1 .f32) (harg8 : arg8.IsWhole) (hc0 : cond1_0 i) (hc1 : ¬cond1_1 i)
    (x0 : Vec F S512x1 .f32) (x1 : Vec F S512x1 .i32) (x2 : Vec F S512x1 .f32) (x3 : Vec F S1x512 .f32) (x4 : Vec F S1x512 .i32) : Vec F S512x1 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 x2 x3 x4).2.1)

def out1_B_5 (c : Dev nD) (i : grid1.Coords) (arg2 : Memref sig .tc .vmem S512x1 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S1x512 .f32) (harg5 : arg5.IsWhole) (arg6 : Memref sig .tc .vmem S1x512 .i32) (harg6 : arg6.IsWhole) (arg7 : Memref sig .tc .vmem S512x1 .f32) (harg7 : arg7.IsWhole) (arg8 : Memref sig .tc .vmem S512x1 .f32) (harg8 : arg8.IsWhole) (hc0 : ¬cond1_0 i) (hc1 : ¬cond1_1 i)
    (x0 : Vec F S512x1 .f32) (x1 : Vec F S512x1 .i32) (x2 : Vec F S512x1 .f32) (x3 : Vec F S1x512 .f32) (x4 : Vec F S1x512 .i32) (xs0 : Vec F S512x1 .f32) : Vec F S512x1 .f32 :=
  VO1_5.read (Elt F) (VO1_5.writes (Elt F) VO1_5.junk (kernelRun1_B c i arg2 harg2 arg3 harg3 arg4 harg4 arg5 harg5 arg6 harg6 arg7 harg7 arg8 harg8 hc0 hc1 x0 x1 x2 x3 x4 xs0).1)

theorem scover1_B_0 (c : Dev nD) (i : grid1.Coords) (arg2 : Memref sig .tc .vmem S512x1 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S1x512 .f32) (harg5 : arg5.IsWhole) (arg6 : Memref sig .tc .vmem S1x512 .i32) (harg6 : arg6.IsWhole) (arg7 : Memref sig .tc .vmem S512x1 .f32) (harg7 : arg7.IsWhole) (arg8 : Memref sig .tc .vmem S512x1 .f32) (harg8 : arg8.IsWhole) (hc0 : ¬cond1_0 i) (hc1 : ¬cond1_1 i)
    (x0 : Vec F S512x1 .f32) (x1 : Vec F S512x1 .i32) (x2 : Vec F S512x1 .f32) (x3 : Vec F S1x512 .f32) (x4 : Vec F S1x512 .i32) (xs0 : Vec F S512x1 .f32) (y : S512x1.Idx) :
    ∃ pc ∈ (kernelRun1_B c i arg2 harg2 arg3 harg3 arg4 harg4 arg5 harg5 arg6 harg6 arg7 harg7 arg8 harg8 hc0 hc1 x0 x1 x2 x3 x4 xs0).2.1, y ∈ pc.1.set :=
  View.cover_of_tiledL (kernelRun1_B c i arg2 harg2 arg3 harg3 arg4 harg4 arg5 harg5 arg6 harg6 arg7 harg7 arg8 harg8 hc0 hc1 x0 x1 x2 x3 x4 xs0).2.1 S512x1.size (by sl_kernel_rfl) y

def sout1_B_0 (c : Dev nD) (i : grid1.Coords) (arg2 : Memref sig .tc .vmem S512x1 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S1x512 .f32) (harg5 : arg5.IsWhole) (arg6 : Memref sig .tc .vmem S1x512 .i32) (harg6 : arg6.IsWhole) (arg7 : Memref sig .tc .vmem S512x1 .f32) (harg7 : arg7.IsWhole) (arg8 : Memref sig .tc .vmem S512x1 .f32) (harg8 : arg8.IsWhole) (hc0 : ¬cond1_0 i) (hc1 : ¬cond1_1 i)
    (x0 : Vec F S512x1 .f32) (x1 : Vec F S512x1 .i32) (x2 : Vec F S512x1 .f32) (x3 : Vec F S1x512 .f32) (x4 : Vec F S1x512 .i32) (xs0 : Vec F S512x1 .f32) : Vec F S512x1 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 x2 x3 x4 xs0).2.1)

theorem cover1_C_5 (c : Dev nD) (i : grid1.Coords) (arg2 : Memref sig .tc .vmem S512x1 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S1x512 .f32) (harg5 : arg5.IsWhole) (arg6 : Memref sig .tc .vmem S1x512 .i32) (harg6 : arg6.IsWhole) (arg7 : Memref sig .tc .vmem S512x1 .f32) (harg7 : arg7.IsWhole) (arg8 : Memref sig .tc .vmem S512x1 .f32) (harg8 : arg8.IsWhole) (hc0 : ¬cond1_0 i) (hc1 : cond1_1 i)
    (x0 : Vec F S512x1 .f32) (x1 : Vec F S512x1 .i32) (x2 : Vec F S512x1 .f32) (x3 : Vec F S1x512 .f32) (x4 : Vec F S1x512 .i32) (xs0 : Vec F S512x1 .f32) (y : S512x1.Idx) :
    ∃ pc ∈ (kernelRun1_C c i arg2 harg2 arg3 harg3 arg4 harg4 arg5 harg5 arg6 harg6 arg7 harg7 arg8 harg8 hc0 hc1 x0 x1 x2 x3 x4 xs0).1, y ∈ pc.1.set :=
  View.cover_of_tiledL (kernelRun1_C c i arg2 harg2 arg3 harg3 arg4 harg4 arg5 harg5 arg6 harg6 arg7 harg7 arg8 harg8 hc0 hc1 x0 x1 x2 x3 x4 xs0).1 S512x1.size (by sl_kernel_rfl) y

def out1_C_5 (c : Dev nD) (i : grid1.Coords) (arg2 : Memref sig .tc .vmem S512x1 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S1x512 .f32) (harg5 : arg5.IsWhole) (arg6 : Memref sig .tc .vmem S1x512 .i32) (harg6 : arg6.IsWhole) (arg7 : Memref sig .tc .vmem S512x1 .f32) (harg7 : arg7.IsWhole) (arg8 : Memref sig .tc .vmem S512x1 .f32) (harg8 : arg8.IsWhole) (hc0 : ¬cond1_0 i) (hc1 : cond1_1 i)
    (x0 : Vec F S512x1 .f32) (x1 : Vec F S512x1 .i32) (x2 : Vec F S512x1 .f32) (x3 : Vec F S1x512 .f32) (x4 : Vec F S1x512 .i32) (xs0 : Vec F S512x1 .f32) : Vec F S512x1 .f32 :=
  VO1_5.read (Elt F) (VO1_5.writes (Elt F) VO1_5.junk (kernelRun1_C c i arg2 harg2 arg3 harg3 arg4 harg4 arg5 harg5 arg6 harg6 arg7 harg7 arg8 harg8 hc0 hc1 x0 x1 x2 x3 x4 xs0).1)

theorem scover1_C_0 (c : Dev nD) (i : grid1.Coords) (arg2 : Memref sig .tc .vmem S512x1 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S1x512 .f32) (harg5 : arg5.IsWhole) (arg6 : Memref sig .tc .vmem S1x512 .i32) (harg6 : arg6.IsWhole) (arg7 : Memref sig .tc .vmem S512x1 .f32) (harg7 : arg7.IsWhole) (arg8 : Memref sig .tc .vmem S512x1 .f32) (harg8 : arg8.IsWhole) (hc0 : ¬cond1_0 i) (hc1 : cond1_1 i)
    (x0 : Vec F S512x1 .f32) (x1 : Vec F S512x1 .i32) (x2 : Vec F S512x1 .f32) (x3 : Vec F S1x512 .f32) (x4 : Vec F S1x512 .i32) (xs0 : Vec F S512x1 .f32) (y : S512x1.Idx) :
    ∃ pc ∈ (kernelRun1_C c i arg2 harg2 arg3 harg3 arg4 harg4 arg5 harg5 arg6 harg6 arg7 harg7 arg8 harg8 hc0 hc1 x0 x1 x2 x3 x4 xs0).2.1, y ∈ pc.1.set :=
  View.cover_of_tiledL (kernelRun1_C c i arg2 harg2 arg3 harg3 arg4 harg4 arg5 harg5 arg6 harg6 arg7 harg7 arg8 harg8 hc0 hc1 x0 x1 x2 x3 x4 xs0).2.1 S512x1.size (by sl_kernel_rfl) y

def sout1_C_0 (c : Dev nD) (i : grid1.Coords) (arg2 : Memref sig .tc .vmem S512x1 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S1x512 .f32) (harg5 : arg5.IsWhole) (arg6 : Memref sig .tc .vmem S1x512 .i32) (harg6 : arg6.IsWhole) (arg7 : Memref sig .tc .vmem S512x1 .f32) (harg7 : arg7.IsWhole) (arg8 : Memref sig .tc .vmem S512x1 .f32) (harg8 : arg8.IsWhole) (hc0 : ¬cond1_0 i) (hc1 : cond1_1 i)
    (x0 : Vec F S512x1 .f32) (x1 : Vec F S512x1 .i32) (x2 : Vec F S512x1 .f32) (x3 : Vec F S1x512 .f32) (x4 : Vec F S1x512 .i32) (xs0 : Vec F S512x1 .f32) : Vec F S512x1 .f32 :=
  VS1_0.read (Elt F) (VS1_0.writes (Elt F) VS1_0.junk (kernelRun1_C c i arg2 harg2 arg3 harg3 arg4 harg4 arg5 harg5 arg6 harg6 arg7 harg7 arg8 harg8 hc0 hc1 x0 x1 x2 x3 x4 xs0).2.1)

/-! ## What the outputs hold after each point -/

def outsAt1 (c : Dev nD) : (n : ℕ) → n < cfg1.N → Vec F S512x1 .f32 × Vec F S512x1 .f32
  | 0, hn => (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 10 = 0 then
      if h1 : (n + 1) % 10 = 9 then
        False.elim (by have hN : n + 1 < 100 := lt_of_lt_of_eq hn (show cfg1.N = 100 from N_1); omega)
      else
        (out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      if h1 : (n + 1) % 10 = 9 then
        (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt1 c n (Nat.lt_of_succ_lt hn)).2)
      else
        (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt1 c n (Nat.lt_of_succ_lt hn)).2)

theorem outsAt1_A (c : Dev nD) (t : Fin cfg1.N) (h0 : t.val % 10 = 0) (h1 : ¬t.val % 10 = 9) :
    outsAt1 m c t.val t.isLt = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk m c 0 t) (iblk m c 1 t) (iblk m c 2 t) (iblk m c 3 t) (iblk m c 4 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk m c 0 t) (iblk m c 1 t) (iblk m c 2 t) (iblk m c 3 t) (iblk m c 4 t)) := by
  obtain ⟨n, hn⟩ := t
  cases n with
  | zero => exact rfl
  | succ n => exact (dif_pos h0).trans ((dif_neg h1).trans rfl)

theorem outsAt1_B (c : Dev nD) (t : Fin cfg1.N) (h0 : ¬t.val % 10 = 0) (h1 : ¬t.val % 10 = 9) :
    outsAt1 m c t.val t.isLt = (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk m c 0 t) (iblk m c 1 t) (iblk m c 2 t) (iblk m c 3 t) (iblk m c 4 t) (outsAt1 m c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk m c 0 t) (iblk m c 1 t) (iblk m c 2 t) (iblk m c 3 t) (iblk m c 4 t) (outsAt1 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 10 = 0) (h1 : t.val % 10 = 9) :
    outsAt1 m c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk m c 0 t) (iblk m c 1 t) (iblk m c 2 t) (iblk m c 3 t) (iblk m c 4 t) (outsAt1 m c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk m c 0 t) (iblk m c 1 t) (iblk m c 2 t) (iblk m c 3 t) (iblk m c 4 t) (outsAt1 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

def PhiS (c : Dev nD) : (n : ℕ) → n ≤ cfg1.N → sProp 𝕄
  | 0, _ => Pipeline.ΦA spec1 c
  | n + 1, hn => iprop(iprop(owns (c : Thread nD τ) scM1_0 fullShare ((outsAt1 m c n hn).2)) ∗ Rst c)

theorem PhiS_zero (c : Dev nD) (n : ℕ) (h : n ≤ cfg1.N) (hz : n = 0) : PhiS m c n h = Pipeline.ΦA spec1 c := by
  subst hz; rfl

theorem PhiS_succ (c : Dev nD) (n : ℕ) (hn : n < cfg1.N) :
    PhiS m c (n + 1) hn = iprop(iprop(owns (c : Thread nD τ) scM1_0 fullShare ((outsAt1 m c n hn).2)) ∗ Rst c) := rfl

theorem PhiS_pos (c : Dev nD) (n : ℕ) (h : n ≤ cfg1.N) (hz : n ≠ 0) :
    PhiS m c n h = iprop(iprop(owns (c : Thread nD τ) scM1_0 fullShare ((outsAt1 m c (n - 1) (by omega)).2)) ∗ Rst c) := by
  cases n with
  | zero => exact absurd rfl hz
  | succ n => rfl

/-! ## The pipeline's proof data -/

def dat (c : Dev nD) : Dat τ (Elt F) Unit ℕ (UR sig nD τ) ℕ cfg1 c where
  A w := V m c (Pipeline.arrRef spec1 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt1 m c t.val t.isLt).1
  Φ t := PhiS m c t.val (Nat.le_of_lt_succ t.isLt)
  q _ := fullShare
  owed _ := 0

theorem A_eq (c : Dev nD) (w : Fin cfg1.W) : (dat m c).A w = V m c (Pipeline.arrRef spec1 w) := by
  dsimp only [dat]

theorem PhiS_castSucc (c : Dev nD) (t : Fin cfg1.N) :
    (dat m c).Φ t.castSucc = PhiS m c t.val (Nat.le_of_lt t.isLt) := by
  dsimp only [dat]; exact Pipeline.Dat.Φ_castSucc (PhiS m c) t

theorem after1_0 (c : Dev nD) (t : Fin cfg1.N) : (dat m c).after 0 t = iblk m c 0 t := by dsimp only [dat]
theorem after1_1 (c : Dev nD) (t : Fin cfg1.N) : (dat m c).after 1 t = iblk m c 1 t := by dsimp only [dat]
theorem after1_2 (c : Dev nD) (t : Fin cfg1.N) : (dat m c).after 2 t = iblk m c 2 t := by dsimp only [dat]
theorem after1_3 (c : Dev nD) (t : Fin cfg1.N) : (dat m c).after 3 t = iblk m c 3 t := by dsimp only [dat]
theorem after1_4 (c : Dev nD) (t : Fin cfg1.N) : (dat m c).after 4 t = iblk m c 4 t := by dsimp only [dat]
theorem after1_5 (c : Dev nD) (t : Fin cfg1.N) : (dat m c).after 5 t = (outsAt1 m c t.val t.isLt).1 := by dsimp only [dat]

theorem before1_0 (c : Dev nD) (t : Fin cfg1.N) (d) : (dat m c).before 0 t d = iblk m c 0 t :=
  before1_0_of m (dat m c) (A_eq m c 0) (after1_0 m c) t d
theorem before1_1 (c : Dev nD) (t : Fin cfg1.N) (d) : (dat m c).before 1 t d = iblk m c 1 t :=
  before1_1_of m (dat m c) (A_eq m c 1) (after1_1 m c) t d
theorem before1_2 (c : Dev nD) (t : Fin cfg1.N) (d) : (dat m c).before 2 t d = iblk m c 2 t :=
  before1_2_of m (dat m c) (A_eq m c 2) (after1_2 m c) t d
theorem before1_3 (c : Dev nD) (t : Fin cfg1.N) (d) : (dat m c).before 3 t d = iblk m c 3 t :=
  before1_3_of m (dat m c) (A_eq m c 3) (after1_3 m c) t d
theorem before1_4 (c : Dev nD) (t : Fin cfg1.N) (d) : (dat m c).before 4 t d = iblk m c 4 t :=
  before1_4_of m (dat m c) (A_eq m c 4) (after1_4 m c) t d

/-! ## The body obligation, at a generic point -/

def bodyPre (c : Dev nD) (t : Fin cfg1.N) : sProp 𝕄 :=
  iprop((dat m c).Φ t.castSucc ∗ (dat m c).owesAt () t.castSucc
    ∗ (∃ d, owns (c : Thread nD τ) (ms1_0 t) fullShare ((dat m c).before 0 t d))
    ∗ (∃ d, owns (c : Thread nD τ) (ms1_1 t) fullShare ((dat m c).before 1 t d))
    ∗ (∃ d, owns (c : Thread nD τ) (ms1_2 t) fullShare ((dat m c).before 2 t d))
    ∗ (∃ d, owns (c : Thread nD τ) (ms1_3 t) fullShare ((dat m c).before 3 t d))
    ∗ (∃ d, owns (c : Thread nD τ) (ms1_4 t) fullShare ((dat m c).before 4 t d))
    ∗ (∃ d, owns (c : Thread nD τ) (ms1_5 t) fullShare ((dat m c).before 5 t d)))

def bodyPost (c : Dev nD) (t : Fin cfg1.N) : sProp 𝕄 :=
  iprop((dat m c).Φ t.succ ∗ (dat m c).owesAt () t.succ
    ∗ (dat m c).leavesExact 0 t
    ∗ (dat m c).leavesExact 1 t
    ∗ (dat m c).leavesExact 2 t
    ∗ (dat m c).leavesExact 3 t
    ∗ (dat m c).leavesExact 4 t
    ∗ (dat m c).leavesExact 5 t)

set_option maxHeartbeats 4800000 in
theorem sound_body (c : Dev nD) (t : Fin cfg1.N) :
    bodyPre m c t ⊢ wp frame (wpE (defs₀ (F := F)) Variants.none c none) Set.univ (bodyAt1 t) (fun _ => bodyPost m c t) := by
  unfold bodyPre bodyPost bodyAt1
  simp only [before1_0, before1_1, before1_2, before1_3, before1_4]
  rw [show (dat m c).owesAt () t.succ = (dat m c).owesAt () t.castSucc from rfl]
  rw [show (dat m c).Φ t.succ = PhiS m c (t.val + 1) t.isLt from rfl, PhiS_succ]
  have hN : t.val < 100 := lt_of_lt_of_eq t.isLt (show cfg1.N = 100 from N_1)
  by_cases h0 : t.val % 10 = 0
  · by_cases h1 : t.val % 10 = 9
    · exfalso; omega
    · rw [show (dat m c).leavesExact 0 t = owns (c : Thread nD τ) (ms1_0 t) fullShare ((dat m c).after 0 t) from by
      unfold Dat.leavesExact; rw [liveAt1_0 t], after1_0]
      rw [show (dat m c).leavesExact 1 t = owns (c : Thread nD τ) (ms1_1 t) fullShare ((dat m c).after 1 t) from by
      unfold Dat.leavesExact; rw [liveAt1_1 t], after1_1]
      rw [show (dat m c).leavesExact 2 t = owns (c : Thread nD τ) (ms1_2 t) fullShare ((dat m c).after 2 t) from by
      unfold Dat.leavesExact; rw [liveAt1_2 t], after1_2]
      rw [show (dat m c).leavesExact 3 t = owns (c : Thread nD τ) (ms1_3 t) fullShare ((dat m c).after 3 t) from by
      unfold Dat.leavesExact; rw [liveAt1_3 t], after1_3]
      rw [show (dat m c).leavesExact 4 t = owns (c : Thread nD τ) (ms1_4 t) fullShare ((dat m c).after 4 t) from by
      unfold Dat.leavesExact; rw [liveAt1_4 t], after1_4]
      rw [Dat.leavesExact_idle (dat m c) 5 t (idleAt1_5_A t ((hcond1_0 t).mpr h0) (fun h => h1 ((hcond1_1 t).mp h))) (noFlush1_5_A t ((hcond1_0 t).mpr h0) (fun h => h1 ((hcond1_1 t).mp h)))]
      by_cases hz : t.val = 0
      · rw [PhiS_castSucc m c t, PhiS_zero m c _ _ hz, PhiA1_eq]
        rw [outsAt1_A m c t h0 h1]
        unfold sout1_A_0; (try dsimp only)
        iintro ⟨⟨HS0, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ ((hcond1_0 t).mpr h0) (fun h => h1 ((hcond1_1 t).mp h)) (iblk m c 0 t) (iblk m c 1 t) (iblk m c 2 t) (iblk m c 3 t) (iblk m c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 Hg]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS_castSucc m c t, PhiS_pos m c _ _ hz]
        rw [outsAt1_A m c t h0 h1]
        unfold sout1_A_0; (try dsimp only)
        iintro ⟨⟨HS0, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ ((hcond1_0 t).mpr h0) (fun h => h1 ((hcond1_1 t).mp h)) (iblk m c 0 t) (iblk m c 1 t) (iblk m c 2 t) (iblk m c 3 t) (iblk m c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HS0 Hg]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 10 = 9
    · rw [show (dat m c).leavesExact 0 t = owns (c : Thread nD τ) (ms1_0 t) fullShare ((dat m c).after 0 t) from by
      unfold Dat.leavesExact; rw [liveAt1_0 t], after1_0]
      rw [show (dat m c).leavesExact 1 t = owns (c : Thread nD τ) (ms1_1 t) fullShare ((dat m c).after 1 t) from by
      unfold Dat.leavesExact; rw [liveAt1_1 t], after1_1]
      rw [show (dat m c).leavesExact 2 t = owns (c : Thread nD τ) (ms1_2 t) fullShare ((dat m c).after 2 t) from by
      unfold Dat.leavesExact; rw [liveAt1_2 t], after1_2]
      rw [show (dat m c).leavesExact 3 t = owns (c : Thread nD τ) (ms1_3 t) fullShare ((dat m c).after 3 t) from by
      unfold Dat.leavesExact; rw [liveAt1_3 t], after1_3]
      rw [show (dat m c).leavesExact 4 t = owns (c : Thread nD τ) (ms1_4 t) fullShare ((dat m c).after 4 t) from by
      unfold Dat.leavesExact; rw [liveAt1_4 t], after1_4]
      rw [show (dat m c).leavesExact 5 t = owns (c : Thread nD τ) (ms1_5 t) fullShare ((dat m c).after 5 t) from by
      unfold Dat.leavesExact; rw [liveAt1_5_C t (fun h => h0 ((hcond1_0 t).mp h)) ((hcond1_1 t).mpr h1)], after1_5]
      by_cases hz : t.val = 0
      · exfalso; have hN : t.val < 100 := lt_of_lt_of_eq t.isLt (show cfg1.N = 100 from N_1); omega
      · rw [PhiS_castSucc m c t, PhiS_pos m c _ _ hz]
        rw [outsAt1_C m c t h0 h1]
        unfold out1_C_5 sout1_C_0; (try dsimp only)
        iintro ⟨⟨HS0, Hg⟩, Ho, ⟨%d0, H0⟩, ⟨%d1, H1⟩, ⟨%d2, H2⟩, ⟨%d3, H3⟩, ⟨%d4, H4⟩, ⟨%d5, H5⟩⟩
        iapply ((kernelRun1_C c (grid1.coords t) _ _ _ _ _ _ _ _ _ _ _ _ _ _ (fun h => h0 ((hcond1_0 t).mp h)) ((hcond1_1 t).mpr h1) (iblk m c 0 t) (iblk m c 1 t) (iblk m c 2 t) (iblk m c 3 t) (iblk m c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [HS0 Hg]
        · isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover1_C_5 c _ _ _ _ _ _ _ _ _ _ _ _ _ _ _ _ _ _ _ _ _ _ _)
    · rw [show (dat m c).leavesExact 0 t = owns (c : Thread nD τ) (ms1_0 t) fullShare ((dat m c).after 0 t) from by
      unfold Dat.leavesExact; rw [liveAt1_0 t], after1_0]
      rw [show (dat m c).leavesExact 1 t = owns (c : Thread nD τ) (ms1_1 t) fullShare ((dat m c).after 1 t) from by
      unfold Dat.leavesExact; rw [liveAt1_1 t], after1_1]
      rw [show (dat m c).leavesExact 2 t = owns (c : Thread nD τ) (ms1_2 t) fullShare ((dat m c).after 2 t) from by
      unfold Dat.leavesExact; rw [liveAt1_2 t], after1_2]
      rw [show (dat m c).leavesExact 3 t = owns (c : Thread nD τ) (ms1_3 t) fullShare ((dat m c).after 3 t) from by
      unfold Dat.leavesExact; rw [liveAt1_3 t], after1_3]
      rw [show (dat m c).leavesExact 4 t = owns (c : Thread nD τ) (ms1_4 t) fullShare ((dat m c).after 4 t) from by
      unfold Dat.leavesExact; rw [liveAt1_4 t], after1_4]
      rw [Dat.leavesExact_idle (dat m c) 5 t (idleAt1_5_B t (fun h => h0 ((hcond1_0 t).mp h)) (fun h => h1 ((hcond1_1 t).mp h))) (noFlush1_5_B t (fun h => h0 ((hcond1_0 t).mp h)) (fun h => h1 ((hcond1_1 t).mp h)))]
      by_cases hz : t.val = 0
      · exfalso; have hN : t.val < 100 := lt_of_lt_of_eq t.isLt (show cfg1.N = 100 from N_1); omega
      · rw [PhiS_castSucc m c t, PhiS_pos m c _ _ hz]
        rw [outsAt1_B m c t h0 h1]
        unfold sout1_B_0; (try dsimp only)
        iintro ⟨⟨HS0, Hg⟩, Ho, ⟨%d0, H0⟩, ⟨%d1, H1⟩, ⟨%d2, H2⟩, ⟨%d3, H3⟩, ⟨%d4, H4⟩, ⟨%d5, H5⟩⟩
        iapply ((kernelRun1_B c (grid1.coords t) _ _ _ _ _ _ _ _ _ _ _ _ _ _ (fun h => h0 ((hcond1_0 t).mp h)) (fun h => h1 ((hcond1_1 t).mp h)) (iblk m c 0 t) (iblk m c 1 t) (iblk m c 2 t) (iblk m c 3 t) (iblk m c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 Hg]
        · isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

theorem defs₀_row (t : Fin cfg1.N) :
    defs₀ (F := F) .tc cfg1.body (cfg1.bodyArgs t (cfg1.slots t)) = bodyAt1 t := by
  unfold defs₀; rw [Defs.onTc_tc]

theorem body_obligation (c : Dev nD) : BodyObligation (dat (F := F) m c) (defs₀ (F := F)) Variants.none () Set.univ := fun t => by
  rw [bigSep_W1, bigSep_W1, defs₀_row]
  exact triple_restated (sound_body m c t) rfl .rfl fun _ => .rfl

theorem hin (c : Dev nD) : Pipeline.ΦA spec1 c ⊢ (dat m c).Φ 0 := by
  rw [show (dat m c).Φ 0 = PhiS m c 0 (Nat.zero_le _) from rfl, PhiS_zero m c 0 _ rfl]
  try exact Idealize.SL.BI.Entails.refl _

theorem Phi_out (c : Dev nD) (t : Fin (cfg1.N + 1)) (ht : t.val ≠ 0) : (dat m c).Φ t ⊢ Pipeline.ΦA spec1 c := by
  rw [show (dat m c).Φ t = PhiS m c t.val (Nat.le_of_lt_succ t.isLt) from rfl, PhiS_pos m c _ _ ht, PhiA1_eq]
  iintro ⟨HS0, Hg⟩
  isplitl [HS0]
  · iexists _; iexact HS0
  iexact Hg

theorem hout (c : Dev nD) : (dat m c).Φ (Fin.last cfg1.N) ⊢ Pipeline.ΦA spec1 c :=
  Phi_out m c _ (by rw [Fin.val_last]; have : cfg1.N = 100 := N_1; omega)

end Cert.KernelIdeal.R1

end
-- ==== Proof.R2.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (c : Dev nD) → (b : Ref sig .tc) → Buf (Elt F) ((c : Thread nD τ).loc b))

abbrev V (c : Dev nD) (b : Ref sig .tc) : Buf (Elt F) ((c : Thread nD τ).loc b) := m c b

/-! ## The windows' blocks -/

def iblk (c : Dev nD) (w : Fin cfg2.W) (t : Fin cfg2.N) : ((cfg2.win w).xblock (cfg2.grid.coords t)).Idx → Elt F (cfg2.win w).elt :=
  ((cfg2.win w).blk t).view.read (Elt F) (V m c (Pipeline.arrRef spec2 w))

theorem before2_0_of {c : Dev nD} (dat : Dat τ (Elt F) Unit ℕ (UR sig nD τ) ℕ cfg2 c) (hA : dat.A 0 = V m c (Pipeline.arrRef spec2 0))
    (hafter : ∀ t, dat.after 0 t = iblk m c 0 t) (t : Fin cfg2.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before2_1_of {c : Dev nD} (dat : Dat τ (Elt F) Unit ℕ (UR sig nD τ) ℕ cfg2 c) (hA : dat.A 1 = V m c (Pipeline.arrRef spec2 1))
    (hafter : ∀ t, dat.after 1 t = iblk m c 1 t) (t : Fin cfg2.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_2_of {c : Dev nD} (dat : Dat τ (Elt F) Unit ℕ (UR sig nD τ) ℕ cfg2 c) (hA : dat.A 2 = V m c (Pipeline.arrRef spec2 2))
    (hafter : ∀ t, dat.after 2 t = iblk m c 2 t) (t : Fin cfg2.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before2_3_of {c : Dev nD} (dat : Dat τ (Elt F) Unit ℕ (UR sig nD τ) ℕ cfg2 c) (hA : dat.A 3 = V m c (Pipeline.arrRef spec2 3))
    (hafter : ∀ t, dat.after 3 t = iblk m c 3 t) (t : Fin cfg2.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val % 10 = 0 :=
  (fun t => by
    have ht : t.val < 10 := Nat.lt_of_lt_of_eq t.isLt N_2
    have e0 : (grid2.coords t 0).val = t.val / 1 % 10 := Pipeline.Grid.coords_val t 0 (by decide) rfl
    simp only [cond2_0, e0]
    word_cmp
   : ∀ t : Fin grid2.N, cond2_0 (grid2.coords t) ↔ t.val % 10 = 0)

/-! ## The kernel body on any staging memrefs: a subtype the run finds -/

abbrev VO2_4 : View sig .tc .vmem S1000x512 .f32 := (Memref.whole cc2_stg4_0 : Memref sig .tc .vmem S1000x512 .f32).view
abbrev ms2_0 (t : Fin cfg2.N) : Memref sig .tc .vmem S512x512 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x512 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x1 .i32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S512x1 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1000x512 .f32 := win2_4.stage (cfg2.slots t 4)
abbrev hs2_4 (t : Fin cfg2.N) : (ms2_4 t).IsWhole := hstage2_4 ((cfg2.slots t 4).cast nbuf2_4)

-- (the run's proof term is large: the definition's epilogue — `abstractNestedProofs` — walks it past the default budget)
set_option maxHeartbeats 1000000 in
noncomputable def kernelRun2_A (c : Dev nD) (i : grid2.Coords) (arg1 : Memref sig .tc .vmem S512x512 .f32) (harg1 : arg1.IsWhole) (arg2 : Memref sig .tc .vmem S512x512 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S1000x512 .f32) (harg5 : arg5.IsWhole) (hc0 : cond2_0 i)
    (x0 : Vec F S512x512 .f32) (x1 : Vec F S512x512 .f32) (x2 : Vec F S512x1 .i32) (x3 : Vec F S512x1 .f32) :
    { L4 : List (View.Piece (Elt F) S1000x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4)) -∗ K ⟨⟩))
          ⊢ wp frame (wpE (defs₀ (F := F)) Variants.none c none) E (cc2__weights_body i arg1 harg1 arg2 harg2 arg3 harg3 arg4 harg4 arg5 harg5) K } := by
  refine ⟨?_, fun E K => ?run⟩
  case run =>
    simp only [cc2__weights_body_eq_skeleton]; unfold cc2__weights_body_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact H4

-- (the run's proof term is large: the definition's epilogue — `abstractNestedProofs` — walks it past the default budget)
set_option maxHeartbeats 1000000 in
noncomputable def kernelRun2_B (c : Dev nD) (i : grid2.Coords) (arg1 : Memref sig .tc .vmem S512x512 .f32) (harg1 : arg1.IsWhole) (arg2 : Memref sig .tc .vmem S512x512 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S1000x512 .f32) (harg5 : arg5.IsWhole) (hc0 : ¬cond2_0 i)
    (x0 : Vec F S512x512 .f32) (x1 : Vec F S512x512 .f32) (x2 : Vec F S512x1 .i32) (x3 : Vec F S512x1 .f32) (xo4 : Vec F S1000x512 .f32) :
    { L4 : List (View.Piece (Elt F) S1000x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xo4
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4)) -∗ K ⟨⟩))
          ⊢ wp frame (wpE (defs₀ (F := F)) Variants.none c none) E (cc2__weights_body i arg1 harg1 arg2 harg2 arg3 harg3 arg4 harg4 arg5 harg5) K } := by
  refine ⟨?_, fun E K => ?run⟩
  case run =>
    simp only [cc2__weights_body_eq_skeleton]; unfold cc2__weights_body_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact H4

theorem cover2_A_4 (c : Dev nD) (i : grid2.Coords) (arg1 : Memref sig .tc .vmem S512x512 .f32) (harg1 : arg1.IsWhole) (arg2 : Memref sig .tc .vmem S512x512 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S1000x512 .f32) (harg5 : arg5.IsWhole) (hc0 : cond2_0 i)
    (x0 : Vec F S512x512 .f32) (x1 : Vec F S512x512 .f32) (x2 : Vec F S512x1 .i32) (x3 : Vec F S512x1 .f32) (y : S1000x512.Idx) :
    ∃ pc ∈ (kernelRun2_A c i arg1 harg1 arg2 harg2 arg3 harg3 arg4 harg4 arg5 harg5 hc0 x0 x1 x2 x3).1, y ∈ pc.1.set :=
  View.cover_of_tiledL (kernelRun2_A c i arg1 harg1 arg2 harg2 arg3 harg3 arg4 harg4 arg5 harg5 hc0 x0 x1 x2 x3).1 S1000x512.size (by sl_kernel_rfl) y

def out2_A_4 (c : Dev nD) (i : grid2.Coords) (arg1 : Memref sig .tc .vmem S512x512 .f32) (harg1 : arg1.IsWhole) (arg2 : Memref sig .tc .vmem S512x512 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S1000x512 .f32) (harg5 : arg5.IsWhole) (hc0 : cond2_0 i)
    (x0 : Vec F S512x512 .f32) (x1 : Vec F S512x512 .f32) (x2 : Vec F S512x1 .i32) (x3 : Vec F S512x1 .f32) : Vec F S1000x512 .f32 :=
  VO2_4.read (Elt F) (VO2_4.writes (Elt F) VO2_4.junk (kernelRun2_A c i arg1 harg1 arg2 harg2 arg3 harg3 arg4 harg4 arg5 harg5 hc0 x0 x1 x2 x3).1)

theorem cover2_B_4 (c : Dev nD) (i : grid2.Coords) (arg1 : Memref sig .tc .vmem S512x512 .f32) (harg1 : arg1.IsWhole) (arg2 : Memref sig .tc .vmem S512x512 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S1000x512 .f32) (harg5 : arg5.IsWhole) (hc0 : ¬cond2_0 i)
    (x0 : Vec F S512x512 .f32) (x1 : Vec F S512x512 .f32) (x2 : Vec F S512x1 .i32) (x3 : Vec F S512x1 .f32) (xo4 : Vec F S1000x512 .f32) (y : S1000x512.Idx) :
    ∃ pc ∈ (kernelRun2_B c i arg1 harg1 arg2 harg2 arg3 harg3 arg4 harg4 arg5 harg5 hc0 x0 x1 x2 x3 xo4).1, y ∈ pc.1.set :=
  View.cover_of_tiledL (kernelRun2_B c i arg1 harg1 arg2 harg2 arg3 harg3 arg4 harg4 arg5 harg5 hc0 x0 x1 x2 x3 xo4).1 S1000x512.size (by sl_kernel_rfl) y

def out2_B_4 (c : Dev nD) (i : grid2.Coords) (arg1 : Memref sig .tc .vmem S512x512 .f32) (harg1 : arg1.IsWhole) (arg2 : Memref sig .tc .vmem S512x512 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S1000x512 .f32) (harg5 : arg5.IsWhole) (hc0 : ¬cond2_0 i)
    (x0 : Vec F S512x512 .f32) (x1 : Vec F S512x512 .f32) (x2 : Vec F S512x1 .i32) (x3 : Vec F S512x1 .f32) (xo4 : Vec F S1000x512 .f32) : Vec F S1000x512 .f32 :=
  VO2_4.read (Elt F) (VO2_4.writes (Elt F) VO2_4.junk (kernelRun2_B c i arg1 harg1 arg2 harg2 arg3 harg3 arg4 harg4 arg5 harg5 hc0 x0 x1 x2 x3 xo4).1)

/-! ## What the outputs hold after each point -/

def outsAt2 (c : Dev nD) : (n : ℕ) → n < cfg2.N → Vec F S1000x512 .f32
  | 0, hn => out2_A_4 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) ((hcond2_0 ⟨0, hn⟩).mpr (Nat.zero_mod _)) (iblk m c 0 ⟨0, hn⟩) (iblk m c 1 ⟨0, hn⟩) (iblk m c 2 ⟨0, hn⟩) (iblk m c 3 ⟨0, hn⟩)
  | n + 1, hn =>
    if h0 : (n + 1) % 10 = 0 then
      out2_A_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) ((hcond2_0 ⟨n + 1, hn⟩).mpr h0) (iblk m c 0 ⟨n + 1, hn⟩) (iblk m c 1 ⟨n + 1, hn⟩) (iblk m c 2 ⟨n + 1, hn⟩) (iblk m c 3 ⟨n + 1, hn⟩)
    else
      out2_B_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (fun h => h0 ((hcond2_0 ⟨n + 1, hn⟩).mp h)) (iblk m c 0 ⟨n + 1, hn⟩) (iblk m c 1 ⟨n + 1, hn⟩) (iblk m c 2 ⟨n + 1, hn⟩) (iblk m c 3 ⟨n + 1, hn⟩) (outsAt2 c n (Nat.lt_of_succ_lt hn))

theorem outsAt2_A (c : Dev nD) (t : Fin cfg2.N) (h0 : t.val % 10 = 0) :
    outsAt2 m c t.val t.isLt = out2_A_4 c (grid2.coords t) (ms2_0 t) (hs2_0 t) (ms2_1 t) (hs2_1 t) (ms2_2 t) (hs2_2 t) (ms2_3 t) (hs2_3 t) (ms2_4 t) (hs2_4 t) ((hcond2_0 t).mpr h0) (iblk m c 0 t) (iblk m c 1 t) (iblk m c 2 t) (iblk m c 3 t) := by
  obtain ⟨n, hn⟩ := t
  cases n with
  | zero => exact rfl
  | succ n => exact (dif_pos h0).trans rfl

theorem outsAt2_B (c : Dev nD) (t : Fin cfg2.N) (h0 : ¬t.val % 10 = 0) :
    outsAt2 m c t.val t.isLt = out2_B_4 c (grid2.coords t) (ms2_0 t) (hs2_0 t) (ms2_1 t) (hs2_1 t) (ms2_2 t) (hs2_2 t) (ms2_3 t) (hs2_3 t) (ms2_4 t) (hs2_4 t) (fun h => h0 ((hcond2_0 t).mp h)) (iblk m c 0 t) (iblk m c 1 t) (iblk m c 2 t) (iblk m c 3 t) (outsAt2 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

def dat (c : Dev nD) : Dat τ (Elt F) Unit ℕ (UR sig nD τ) ℕ cfg2 c where
  A w := V m c (Pipeline.arrRef spec2 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt2 m c t.val t.isLt)
  Φ _ := Pipeline.ΦA spec2 c
  q _ := fullShare
  owed _ := 0

theorem A_eq (c : Dev nD) (w : Fin cfg2.W) : (dat m c).A w = V m c (Pipeline.arrRef spec2 w) := by
  dsimp only [dat]

theorem after2_0 (c : Dev nD) (t : Fin cfg2.N) : (dat m c).after 0 t = iblk m c 0 t := by dsimp only [dat]
theorem after2_1 (c : Dev nD) (t : Fin cfg2.N) : (dat m c).after 1 t = iblk m c 1 t := by dsimp only [dat]
theorem after2_2 (c : Dev nD) (t : Fin cfg2.N) : (dat m c).after 2 t = iblk m c 2 t := by dsimp only [dat]
theorem after2_3 (c : Dev nD) (t : Fin cfg2.N) : (dat m c).after 3 t = iblk m c 3 t := by dsimp only [dat]
theorem after2_4 (c : Dev nD) (t : Fin cfg2.N) : (dat m c).after 4 t = (outsAt2 m c t.val t.isLt) := by dsimp only [dat]

theorem before2_0 (c : Dev nD) (t : Fin cfg2.N) (d) : (dat m c).before 0 t d = iblk m c 0 t :=
  before2_0_of m (dat m c) (A_eq m c 0) (after2_0 m c) t d
theorem before2_1 (c : Dev nD) (t : Fin cfg2.N) (d) : (dat m c).before 1 t d = iblk m c 1 t :=
  before2_1_of m (dat m c) (A_eq m c 1) (after2_1 m c) t d
theorem before2_2 (c : Dev nD) (t : Fin cfg2.N) (d) : (dat m c).before 2 t d = iblk m c 2 t :=
  before2_2_of m (dat m c) (A_eq m c 2) (after2_2 m c) t d
theorem before2_3 (c : Dev nD) (t : Fin cfg2.N) (d) : (dat m c).before 3 t d = iblk m c 3 t :=
  before2_3_of m (dat m c) (A_eq m c 3) (after2_3 m c) t d
theorem before2_4_B (c : Dev nD) (t : Fin cfg2.N) (h0 : ¬t.val % 10 = 0) (d) :
    (dat m c).before 4 t d = (outsAt2 m c (t.val - 1) (Nat.lt_of_le_of_lt (Nat.sub_le _ _) t.isLt)) := by
  have hN : t.val < 10 := lt_of_lt_of_eq t.isLt (show cfg2.N = 10 from N_2)
  rw [Dat.before_out_kept _ 4 rfl t (by omega) (Bool.eq_false_iff.mpr fun h => by have := (flush2_4 _).mp h; dsimp only at this; omega)
    (fun _ => rfl) (fun _ _ => rfl)]
  dsimp only [dat]

/-! ## The body obligation, at a generic point -/

def bodyPre (c : Dev nD) (t : Fin cfg2.N) : sProp 𝕄 :=
  iprop((dat m c).Φ t.castSucc ∗ (dat m c).owesAt () t.castSucc
    ∗ (∃ d, owns (c : Thread nD τ) (ms2_0 t) fullShare ((dat m c).before 0 t d))
    ∗ (∃ d, owns (c : Thread nD τ) (ms2_1 t) fullShare ((dat m c).before 1 t d))
    ∗ (∃ d, owns (c : Thread nD τ) (ms2_2 t) fullShare ((dat m c).before 2 t d))
    ∗ (∃ d, owns (c : Thread nD τ) (ms2_3 t) fullShare ((dat m c).before 3 t d))
    ∗ (∃ d, owns (c : Thread nD τ) (ms2_4 t) fullShare ((dat m c).before 4 t d)))

def bodyPost (c : Dev nD) (t : Fin cfg2.N) : sProp 𝕄 :=
  iprop((dat m c).Φ t.succ ∗ (dat m c).owesAt () t.succ
    ∗ owns (c : Thread nD τ) (ms2_0 t) fullShare ((dat m c).after 0 t)
    ∗ owns (c : Thread nD τ) (ms2_1 t) fullShare ((dat m c).after 1 t)
    ∗ owns (c : Thread nD τ) (ms2_2 t) fullShare ((dat m c).after 2 t)
    ∗ owns (c : Thread nD τ) (ms2_3 t) fullShare ((dat m c).after 3 t)
    ∗ owns (c : Thread nD τ) (ms2_4 t) fullShare ((dat m c).after 4 t))

set_option maxHeartbeats 800000 in
theorem sound_body (c : Dev nD) (t : Fin cfg2.N) :
    bodyPre m c t ⊢ wp frame (wpE (defs₀ (F := F)) Variants.none c none) Set.univ (bodyAt2 t) (fun _ => bodyPost m c t) := by
  unfold bodyPre bodyPost bodyAt2
  simp only [before2_0, before2_1, before2_2, before2_3]
  rw [show (dat m c).Φ t.succ = (dat m c).Φ t.castSucc from rfl,
    show (dat m c).owesAt () t.succ = (dat m c).owesAt () t.castSucc from rfl,
    after2_0, after2_1, after2_2, after2_3, after2_4]
  have hN : t.val < 10 := lt_of_lt_of_eq t.isLt (show cfg2.N = 10 from N_2)
  by_cases h0 : t.val % 10 = 0
  · rw [outsAt2_A m c t h0]
    unfold out2_A_4
    iintro ⟨HΦ, Ho, ⟨%d0, H0⟩, ⟨%d1, H1⟩, ⟨%d2, H2⟩, ⟨%d3, H3⟩, ⟨%d4, H4⟩⟩
    iapply ((kernelRun2_A c (grid2.coords t) _ _ _ _ _ _ _ _ _ _ ((hcond2_0 t).mpr h0) (iblk m c 0 t) (iblk m c 1 t) (iblk m c 2 t) (iblk m c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover2_A_4 c _ _ _ _ _ _ _ _ _ _ _ _ _ _ _ _)
  · rw [outsAt2_B m c t h0]
    simp only [before2_4_B m c t h0]
    unfold out2_B_4
    iintro ⟨HΦ, Ho, ⟨%d0, H0⟩, ⟨%d1, H1⟩, ⟨%d2, H2⟩, ⟨%d3, H3⟩, ⟨%d4, H4⟩⟩
    iapply ((kernelRun2_B c (grid2.coords t) _ _ _ _ _ _ _ _ _ _ (fun h => h0 ((hcond2_0 t).mp h)) (iblk m c 0 t) (iblk m c 1 t) (iblk m c 2 t) (iblk m c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover2_B_4 c _ _ _ _ _ _ _ _ _ _ _ _ _ _ _ _ _)

theorem defs₀_row (t : Fin cfg2.N) :
    defs₀ (F := F) .tc cfg2.body (cfg2.bodyArgs t (cfg2.slots t)) = bodyAt2 t := by
  unfold defs₀; rw [Defs.onTc_tc]

theorem body_obligation (c : Dev nD) : BodyObligation (dat (F := F) m c) (defs₀ (F := F)) Variants.none () Set.univ := fun t => by
  rw [bigSep_W2, bigSep_W2, defs₀_row]
  exact triple_restated (sound_body m c t) rfl .rfl fun _ => .rfl

end Cert.KernelIdeal.R2

end
-- ==== Proof.R3.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.R3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (c : Dev nD) → (b : Ref sig .tc) → Buf (Elt F) ((c : Thread nD τ).loc b))

abbrev V (c : Dev nD) (b : Ref sig .tc) : Buf (Elt F) ((c : Thread nD τ).loc b) := m c b

/-! ## The windows' blocks -/

def iblk (c : Dev nD) (w : Fin cfg3.W) (t : Fin cfg3.N) : ((cfg3.win w).xblock (cfg3.grid.coords t)).Idx → Elt F (cfg3.win w).elt :=
  ((cfg3.win w).blk t).view.read (Elt F) (V m c (Pipeline.arrRef spec3 w))

theorem before3_0_of {c : Dev nD} (dat : Dat τ (Elt F) Unit ℕ (UR sig nD τ) ℕ cfg3 c) (hA : dat.A 0 = V m c (Pipeline.arrRef spec3 0))
    (hafter : ∀ t, dat.after 0 t = iblk m c 0 t) (t : Fin cfg3.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before3_1_of {c : Dev nD} (dat : Dat τ (Elt F) Unit ℕ (UR sig nD τ) ℕ cfg3 c) (hA : dat.A 1 = V m c (Pipeline.arrRef spec3 1))
    (hafter : ∀ t, dat.after 1 t = iblk m c 1 t) (t : Fin cfg3.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r3_0 : Rect S1000x512 := Rect.unit (s := S1000x512) ![0, 0] S1000x512.size inb_S1000x512_S1000x512_0_0
abbrev r3_1 : Rect S512x512 := Rect.unit (s := S512x512) ![0, 0] S512x512.size inb_S512x512_S512x512_0_0
abbrev r3_2 : Rect S512x1000 := Rect.unit (s := S512x1000) ![0, 0] S512x1000.size inb_S512x1000_S512x1000_0_0

/-! ## What the body leaves in each output window's buffer -/

def out3_2 (x0 : Vec F S512x512 .f32) (x1 : Vec F S1000x512 .f32) : Vec F S512x1000 .f32 :=
  View.canon [⟨r3_2, k3_pay1 (View.ld x1 r3_0) (View.ld x0 r3_1)⟩]

theorem cover3_2 (p0 : Vec F S512x1000 .f32) (y : S512x1000.Idx) :
    ∃ pc ∈ ([⟨r3_2, p0⟩] : List (View.Piece (Elt F) S512x1000 .f32)), y ∈ pc.1.set :=
  View.cover_of_tiled [⟨r3_2, p0⟩] S512x1000.size (by rfl) y

/-! ## The body's triple -/

set_option maxHeartbeats 1000000 in
theorem sound_kernel (c : Dev nD) (E : Set ℕ) (i : grid3.Coords) (arg1 : Memref sig .tc .vmem S512x512 .f32) (harg1 : arg1.IsWhole) (arg2 : Memref sig .tc .vmem S1000x512 .f32) (harg2 : arg2.IsWhole) (arg3 : Memref sig .tc .vmem S512x1000 .f32) (harg3 : arg3.IsWhole)
    (x0 : Vec F S512x512 .f32) (x1 : Vec F S1000x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__out_body i arg1 harg1 arg2 harg2 arg3 harg3) K := by
  simp only [cc3__out_body_eq_skeleton]; unfold cc3__out_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

def dat (c : Dev nD) : Dat τ (Elt F) Unit ℕ (UR sig nD τ) ℕ cfg3 c where
  A w := V m c (Pipeline.arrRef spec3 w)
  after w t := match w with
    | ⟨0, _⟩ => iblk m c 0 t
    | ⟨1, _⟩ => iblk m c 1 t
    | ⟨2, _⟩ => out3_2 (iblk m c 0 t) (iblk m c 1 t)
  Φ _ := Pipeline.ΦA spec3 c
  q _ := fullShare
  owed _ := 0

theorem A_eq (c : Dev nD) (w : Fin cfg3.W) : (dat m c).A w = V m c (Pipeline.arrRef spec3 w) := by
  dsimp only [dat]

theorem after3_0 (c : Dev nD) (t : Fin cfg3.N) : (dat m c).after 0 t = iblk m c 0 t := by dsimp only [dat]
theorem after3_1 (c : Dev nD) (t : Fin cfg3.N) : (dat m c).after 1 t = iblk m c 1 t := by dsimp only [dat]
theorem after3_2 (c : Dev nD) (t : Fin cfg3.N) : (dat m c).after 2 t = out3_2 (iblk m c 0 t) (iblk m c 1 t) := by dsimp only [dat]

theorem before3_0 (c : Dev nD) (t : Fin cfg3.N) (d) : (dat m c).before 0 t d = iblk m c 0 t :=
  before3_0_of m (dat m c) (A_eq m c 0) (after3_0 m c) t d
theorem before3_1 (c : Dev nD) (t : Fin cfg3.N) (d) : (dat m c).before 1 t d = iblk m c 1 t :=
  before3_1_of m (dat m c) (A_eq m c 1) (after3_1 m c) t d

/-! ## The body obligation, at a generic point -/

def bodyPre (c : Dev nD) (t : Fin cfg3.N) : sProp 𝕄 :=
  iprop((dat m c).Φ t.castSucc ∗ (dat m c).owesAt () t.castSucc
    ∗ (∃ d, owns (c : Thread nD τ) (st3_0 t) fullShare ((dat m c).before 0 t d))
    ∗ (∃ d, owns (c : Thread nD τ) (st3_1 t) fullShare ((dat m c).before 1 t d))
    ∗ (∃ d, owns (c : Thread nD τ) (st3_2 t) fullShare ((dat m c).before 2 t d)))

def bodyPost (c : Dev nD) (t : Fin cfg3.N) : sProp 𝕄 :=
  iprop((dat m c).Φ t.succ ∗ (dat m c).owesAt () t.succ
    ∗ owns (c : Thread nD τ) (st3_0 t) fullShare ((dat m c).after 0 t)
    ∗ owns (c : Thread nD τ) (st3_1 t) fullShare ((dat m c).after 1 t)
    ∗ owns (c : Thread nD τ) (st3_2 t) fullShare ((dat m c).after 2 t))

theorem sound_body (c : Dev nD) (t : Fin cfg3.N) :
    bodyPre m c t ⊢ wp frame (wpE (defs₀ (F := F)) Variants.none c none) Set.univ (bodyAt3 t) (fun _ => bodyPost m c t) := by
  unfold bodyPre bodyPost bodyAt3
  simp only [before3_0, before3_1]
  rw [show (dat m c).Φ t.succ = (dat m c).Φ t.castSucc from rfl,
    show (dat m c).owesAt () t.succ = (dat m c).owesAt () t.castSucc from rfl,
    after3_0, after3_1, after3_2]
  iintro ⟨HΦ, Ho, ⟨%d0, H0⟩, ⟨%d1, H1⟩, ⟨%d2, H2⟩⟩
  iapply (sound_kernel c Set.univ (grid3.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem defs₀_row (t : Fin cfg3.N) :
    defs₀ (F := F) .tc cfg3.body (cfg3.bodyArgs t (cfg3.slots t)) = bodyAt3 t := by
  unfold defs₀; rw [Defs.onTc_tc]

theorem body_obligation (c : Dev nD) : BodyObligation (dat (F := F) m c) (defs₀ (F := F)) Variants.none () Set.univ := fun t => by
  rw [bigSep_W3, bigSep_W3, defs₀_row]
  exact triple_restated (sound_body m c t) rfl .rfl fun _ => .rfl

end Cert.KernelIdeal.R3

end
-- ==== Proof.Run.lean ====
module

public import proofs.«01_k».proof.Proof.R0
public import proofs.«01_k».proof.Proof.R1
public import proofs.«01_k».proof.Proof.R2
public import proofs.«01_k».proof.Proof.R3
public import Idealize.ShloMosaic.Lib.Pipeline.RegionsLoop
public import Idealize.ShloMosaic.Lib.HostLoop
public import Idealize.ShloMosaic.Lib.Tactic

@[expose] public section

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (after held)
open Idealize.ShloMosaic.Pipeline (Dat Cfg Window BodyObligation cellOf)

variable {F : FTy → Type} [FloatOps F]

local notation "𝕄" => MT nD τ sig Unit (Elt F) ℕ (UR sig nD τ) ℕ

abbrev 𝒱₀ : Variants := Variants.none
abbrev L : GSem nD τ sig → Finset Unit := fun _ => ∅
abbrev lv : GSem nD τ sig → Unit → ℕ := fun _ _ => 0
abbrev adm : (p : Fin 4) → (pcfgs (F := F) p).Adm := fun p => (cfgs p).toPCfg_adm

/-- The buffers of the device that are no staging buffers and no scratch. -/
def ucRefs : Finset (DevRef τ sig) := (StableHlo.tcRefs τ sig).filter fun b => ¬ b.isScoped

omit [FloatOps F] in
theorem unscopedBufs_held (c : Dev nD) (W : Valuation τ sig (Elt F)) :
    (unscopedBufs c (fun b => W b) : sProp 𝕄) = held (c : Thread nD τ) ucRefs W := by
  unfold unscopedBufs held ucRefs StableHlo.tcRefs
  rw [Finset.filter_map, bigSep_map]
  rfl

theorem sub_ucRefs (op : HloOp τ sig (Elt F)) (h : op.bufs ⊆ StableHlo.tcRefs τ sig) : op.bufs ⊆ ucRefs := fun b hb =>
  Finset.mem_filter.mpr ⟨h hb, fun h' => Bool.false_ne_true ((op.no_scoped b hb).symm.trans h')⟩

/-- What rides beside the buffers: nothing owed, and the generator's register. -/
abbrev R (c : Dev nD) : sProp 𝕄 :=
  iprop((∃ W, owes (c : Thread nD τ) (0 : CellTallies nD τ sig Unit) W) ∗ (∃ r, prngReg c r))

/-- Proof data of the four regions, each from the buffers it is entered with. -/
def pdats (W0 W1 W2 W3 : Dev nD → Valuation τ sig (Elt F)) :
    (p : Fin 4) → (c : Dev nD) → Dat τ (Elt F) Unit ℕ (UR sig nD τ) ℕ (Pipeline.pin (pcfgs (F := F)) adm p) c
  | ⟨0, _⟩ => fun c => R0.dat (fun c b => W0 c b) c
  | ⟨1, _⟩ => fun c => R1.dat (fun c b => W1 c b) c
  | ⟨2, _⟩ => fun c => R2.dat (fun c b => W2 c b) c
  | ⟨3, _⟩ => fun c => R3.dat (fun c b => W3 c b) c

set_option backward.isDefEq.respectTransparency.types false in
/-- A region from every buffer at `V` to every buffer at `V'`. -/
def mkReg (pdats : (p : Fin 4) → (c : Dev nD) → Dat τ (Elt F) Unit ℕ (UR sig nD τ) ℕ (Pipeline.pin (pcfgs (F := F)) adm p) c)
    (p : Fin 4) (la : Pipeline.LaunchFacts (nD := nD) (τ := τ) cfgs p)
    (V V' : Dev nD → Valuation τ sig (Elt F))
    (hbody : ∀ c, BodyObligation (pdats p c) (defs₀ (F := F)) 𝒱₀ () Set.univ)
    (howed : ∀ c t, (pdats p c).owed t = 0)
    (hrec : ∀ c x, x ∈ (pdats p c).recorded 0)
    (hshare : ∀ c w, (pdats p c).share w = fullShare)
    (hA : ∀ c w, (pdats p c).A w = V c (Pipeline.arrRef (cfgs p).spec w))
    (hin : ∀ c, Pipeline.ΦA (cfgs p).spec c ⊢ (pdats p c).Φ 0)
    (hout : ∀ c, (pdats p c).Φ (Fin.last (cfgs p).N) ⊢ Pipeline.ΦA (cfgs p).spec c)
    (hF : ∀ c w, (pdats p c).arrAt w (cfgs p).N = V' c (Pipeline.arrRef (cfgs p).spec w))
    (hrest : ∀ c (b : Ref sig .tc), b ∉ Finset.univ.image (Pipeline.arrRef (cfgs p).spec) → V' c b = V c b) :
    Pipeline.RegionSeg (pcfgs (F := F)) adm pdats () defs₀ 𝒱₀ L lv p where
  win := la.win.to₀
  block_pos := la.block_pos
  stage_whole := la.stage_whole
  K := PEmpty
  osem k := k.elim
  ho := Pipeline.OwnSemFacts.none _
  hbody c := (hbody c).loose
  hwaits := Pipeline.hwaits_of_owed_zero _ _ _ _ L lv p howed
  pre c := iprop(held (c : Thread nD τ) ucRefs (V c) ∗ R c)
  post c := iprop(held (c : Thread nD τ) ucRefs (V' c) ∗ R c)
  X c := iprop(∃ r, prngReg c r)
  Y c := iprop(∃ r, prngReg c r)
  Z c := iprop(Pipeline.unscopedRest (Ix := Unit) (Name := ℕ) (U := UR sig nD τ) (Lvl := ℕ) (cfgs p).spec c (fun b => V c b))
  hentry c := by
    rw [Pipeline.ownSems0_none, ← unscopedBufs_held c (V c)]
    have hsplit := Pipeline.arrays_of_unscopedBufs (p := p) (pcfgs (F := F)) adm pdats la.win la.arr_whole c
      (hshare c) (fun b => V c b) (hA c)
    iintro ⟨⟨Hub, HO, HP⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed]
      icases HO with ⟨%W, HO⟩; iexists W; isplitr; · ipureintro; exact fun _ _ => Or.inl (hrec c _)
      iexact HO
    isplitl [HP] <;> iassumption
  hin c := by
    refine BIBase.Entails.trans ?_ (hin c)
    unfold Pipeline.ΦA
    iintro ⟨HP, -, Hr⟩
    isplitl [Hr]; · iexact Hr
    iexact HP
  hout c := by
    refine (hout c).trans ?_
    rw [Pipeline.ownSems0_none]
    unfold Pipeline.ΦA
    iintro ⟨Hr, HP⟩
    isplitl [HP]; · iexact HP
    isplitr; · iempintro
    iexact Hr
  hexit c := by
    rw [← unscopedBufs_held c (V' c)]
    have hjoin := Pipeline.unscopedBufs_of_arrays (p := p) (pcfgs (F := F)) adm (Ix := Unit) (Name := ℕ) (U := UR sig nD τ) (Lvl := ℕ) la.win la.arr_whole c
      pdats (hshare c) (fun b => V c b) (fun b => V' c b) ((pdats p c).arrAt · (cfgs p).N) (hF c) (hrest c)
    iintro ⟨Ha, HO, HP, Hrest⟩
    imodintro
    isplitl [Ha Hrest]
    · iapply hjoin; isplitl [Ha] <;> iassumption
    isplitl [HO]
    · unfold Pipeline.Dat.owesAt Pipeline.owesWithin
      rw [howed]
      icases HO with ⟨%W, -, HO⟩; iexists W; iexact HO
    iexact HP

/-! ## The buffers' contents through the program -/

/-- The contents `V` with buffer `b` at `x`. -/
def put (V : Valuation τ sig (Elt F)) (b : Ref sig .tc) (x : (Proc.devRef .tc b : DevRef τ sig).ty.Contents (Elt F)) : Valuation τ sig (Elt F) :=
  Function.update V (Proc.devRef .tc b) x

omit [FloatOps F] in
theorem put_same (V : Valuation τ sig (Elt F)) (b : Ref sig .tc) (x : (Proc.devRef .tc b : DevRef τ sig).ty.Contents (Elt F)) :
    put V b x b = x := Function.update_self ..

omit [FloatOps F] in
theorem put_ne (V : Valuation τ sig (Elt F)) (b b' : Ref sig .tc) (x : (Proc.devRef .tc b : DevRef τ sig).ty.Contents (Elt F)) (h : b' ≠ b) :
    put V b x b' = V b' := Function.update_of_ne (StableHlo.devRef_ne_of_ne h) ..

/-- The read of the branch's word. -/
abbrev rdOp : HloOp τ sig (Elt F) :=
  StableHlo.unary main_v6 main_v7 ((extui 32 · natLt_1_32) : (⟨S_, .i1⟩ : BufTy).Contents (Elt F) → (⟨S_, .i32⟩ : BufTy).Contents (Elt F))
abbrev rdProg : Prog (TpuEff nD τ sig (Elt F) (Pipeline.Sig Λ₀ (Fin 4) fun p => (pcfgs (F := F) p).Adm) .tc) (BitVec 32) :=
  hlo rfl (rdOp (F := F)) (HostLoop.elt main_v7)
/-- The host operations of the two branches. -/
abbrev fastOps : List (HloOp τ sig (Elt F)) := [StableHlo.unary main_v3_5 main_v8 id]
abbrev slowOps0 : List (HloOp τ sig (Elt F)) :=
  [ StableHlo.reshape main_v3_0 main_case0b1_v10 (rfl : (.f32 : EltTy) = .f32) shapeCasts_S5120x1_S1x5120,
    StableHlo.reshape main_v3_1 main_case0b1_v11 (rfl : (.i32 : EltTy) = .i32) shapeCasts_S5120x1_S1x5120 ]
abbrev slowOps1 : List (HloOp τ sig (Elt F)) := [StableHlo.unary main_case0b1_v13 main_v8 id]

variable (m : (ℓ : Loc nD τ sig) → Buf (Elt F) ℓ) (ρ : Dev nD → PrngReg)

abbrev V0 (c : Dev nD) : Valuation τ sig (Elt F) := fun b => m (c, b)
/-- Before the first region, -/
def A0 (c : Dev nD) : Valuation τ sig (Elt F) := after hostOps0 (V0 m c)
abbrev D0 (c : Dev nD) := R0.dat (F := F) (fun c b => A0 m c b) c
/-- after it, -/
def A1 (c : Dev nD) : Valuation τ sig (Elt F) :=
  put (put (put (put (put (put (A0 m c) main_v3_0 ((D0 m c).arrAt 4 cfg0.N)) main_v3_1 ((D0 m c).arrAt 5 cfg0.N))
    main_v3_2 ((D0 m c).arrAt 6 cfg0.N)) main_v3_3 ((D0 m c).arrAt 7 cfg0.N)) main_v3_4 ((D0 m c).arrAt 8 cfg0.N))
    main_v3_5 ((D0 m c).arrAt 9 cfg0.N)
/-- after the comparison of the counts, -/
def A2 (c : Dev nD) : Valuation τ sig (Elt F) := after hostOps1 (A1 m c)
/-- after the read of its outcome, -/
def A3 (c : Dev nD) : Valuation τ sig (Elt F) := after [rdOp] (A2 m c)
/-- the branch taken, -/
def arm (c : Dev nD) : Fin 2 := HostLoop.branch (A3 m c main_v7 HostLoop.idx0) 1
/-- in the slow branch before the ranks, -/
def A4 (c : Dev nD) : Valuation τ sig (Elt F) := after slowOps0 (A3 m c)
abbrev D1 (c : Dev nD) := R1.dat (F := F) (fun c b => A4 m c b) c
/-- after the ranks, -/
def A5 (c : Dev nD) : Valuation τ sig (Elt F) := put (A4 m c) main_case0b1_v12 ((D1 m c).arrAt 5 cfg1.N)
abbrev D2 (c : Dev nD) := R2.dat (F := F) (fun c b => A5 m c b) c
/-- after the weights, -/
def A6 (c : Dev nD) : Valuation τ sig (Elt F) := put (A5 m c) main_case0b1_v13 ((D2 m c).arrAt 4 cfg2.N)
/-- after the branch, -/
def A7 (c : Dev nD) : Valuation τ sig (Elt F) :=
  if arm m c = 0 then after fastOps (A3 m c) else after slowOps1 (A6 m c)
abbrev D3 (c : Dev nD) := R3.dat (F := F) (fun c b => A7 m c b) c
/-- at the end. -/
def A8 (c : Dev nD) : Valuation τ sig (Elt F) := put (A7 m c) main_v9 ((D3 m c).arrAt 2 cfg3.N)

abbrev dats := pdats (F := F) (A0 m) (A4 m) (A5 m) (A7 m)

/-! ## The segments -/

theorem A1_in (c : Dev nD) (b : Ref sig .tc) (h : b ≠ main_v3_0 ∧ b ≠ main_v3_1 ∧ b ≠ main_v3_2 ∧ b ≠ main_v3_3 ∧ b ≠ main_v3_4 ∧ b ≠ main_v3_5) :
    A1 m c b = A0 m c b := by
  obtain ⟨h0, h1, h2, h3, h4, h5⟩ := h
  unfold A1
  rw [put_ne _ _ _ _ h5, put_ne _ _ _ _ h4, put_ne _ _ _ _ h3, put_ne _ _ _ _ h2, put_ne _ _ _ _ h1, put_ne _ _ _ _ h0]

theorem A1_0 (c : Dev nD) : A1 m c main_v3_0 = (D0 m c).arrAt 4 cfg0.N := by
  unfold A1
  rw [put_ne _ _ _ _ (by decide), put_ne _ _ _ _ (by decide), put_ne _ _ _ _ (by decide), put_ne _ _ _ _ (by decide), put_ne _ _ _ _ (by decide), put_same]
theorem A1_1 (c : Dev nD) : A1 m c main_v3_1 = (D0 m c).arrAt 5 cfg0.N := by
  unfold A1
  rw [put_ne _ _ _ _ (by decide), put_ne _ _ _ _ (by decide), put_ne _ _ _ _ (by decide), put_ne _ _ _ _ (by decide), put_same]
theorem A1_2 (c : Dev nD) : A1 m c main_v3_2 = (D0 m c).arrAt 6 cfg0.N := by
  unfold A1
  rw [put_ne _ _ _ _ (by decide), put_ne _ _ _ _ (by decide), put_ne _ _ _ _ (by decide), put_same]
theorem A1_3 (c : Dev nD) : A1 m c main_v3_3 = (D0 m c).arrAt 7 cfg0.N := by
  unfold A1
  rw [put_ne _ _ _ _ (by decide), put_ne _ _ _ _ (by decide), put_same]
theorem A1_4 (c : Dev nD) : A1 m c main_v3_4 = (D0 m c).arrAt 8 cfg0.N := by
  unfold A1
  rw [put_ne _ _ _ _ (by decide), put_same]
theorem A1_5 (c : Dev nD) : A1 m c main_v3_5 = (D0 m c).arrAt 9 cfg0.N := by
  unfold A1
  rw [put_same]

theorem not_arr {W : ℕ} (f : Fin W → Ref sig .tc) (b : Ref sig .tc) (hb : b ∉ Finset.univ.image f) (w : Fin W) : b ≠ f w :=
  fun h => hb (h ▸ Finset.mem_image.mpr ⟨w, Finset.mem_univ _, rfl⟩)

theorem A5_ne (c : Dev nD) (b : Ref sig .tc) (h : b ≠ main_case0b1_v12) : A5 m c b = A4 m c b := put_ne _ _ _ _ h
theorem A5_out (c : Dev nD) : A5 m c main_case0b1_v12 = (D1 m c).arrAt 5 cfg1.N := put_same _ _ _
theorem A6_ne (c : Dev nD) (b : Ref sig .tc) (h : b ≠ main_case0b1_v13) : A6 m c b = A5 m c b := put_ne _ _ _ _ h
theorem A6_out (c : Dev nD) : A6 m c main_case0b1_v13 = (D2 m c).arrAt 4 cfg2.N := put_same _ _ _
theorem A8_ne (c : Dev nD) (b : Ref sig .tc) (h : b ≠ main_v9) : A8 m c b = A7 m c b := put_ne _ _ _ _ h
theorem A8_out (c : Dev nD) : A8 m c main_v9 = (D3 m c).arrAt 2 cfg3.N := put_same _ _ _

def reg0 : Pipeline.RegionSeg (pcfgs (F := F)) adm (dats m) () defs₀ 𝒱₀ L lv 0 :=
  mkReg (dats m) 0 launch0 (A0 m) (A1 m)
    (fun c => R0.body_obligation (fun c b => A0 m c b) c) (fun _ _ => rfl) (fun _ _ => trivial)
    (fun c w => (D0 m c).share_full (fun _ => rfl) w)
    (fun c w => R0.A_eq (fun c b => A0 m c b) c w)
    (fun c => .rfl) (fun c => .rfl)
    (fun c w => by
      match w with
      | ⟨0, _⟩ => exact ((D0 m c).arrAt_in 0 rfl _).trans ((R0.A_eq (fun c b => A0 m c b) c 0).trans (A1_in m c main_v1 (by decide)).symm)
      | ⟨1, _⟩ => exact ((D0 m c).arrAt_in 1 rfl _).trans ((R0.A_eq (fun c b => A0 m c b) c 1).trans (A1_in m c main_arg0 (by decide)).symm)
      | ⟨2, _⟩ => exact ((D0 m c).arrAt_in 2 rfl _).trans ((R0.A_eq (fun c b => A0 m c b) c 2).trans (A1_in m c main_arg1 (by decide)).symm)
      | ⟨3, _⟩ => exact ((D0 m c).arrAt_in 3 rfl _).trans ((R0.A_eq (fun c b => A0 m c b) c 3).trans (A1_in m c main_v2 (by decide)).symm)
      | ⟨4, _⟩ => exact (A1_0 m c).symm
      | ⟨5, _⟩ => exact (A1_1 m c).symm
      | ⟨6, _⟩ => exact (A1_2 m c).symm
      | ⟨7, _⟩ => exact (A1_3 m c).symm
      | ⟨8, _⟩ => exact (A1_4 m c).symm
      | ⟨9, _⟩ => exact (A1_5 m c).symm)
    (fun c b hb => A1_in m c b ⟨not_arr _ b hb 4, not_arr _ b hb 5, not_arr _ b hb 6, not_arr _ b hb 7, not_arr _ b hb 8, not_arr _ b hb 9⟩)

def reg1 : Pipeline.RegionSeg (pcfgs (F := F)) adm (dats m) () defs₀ 𝒱₀ L lv 1 :=
  mkReg (dats m) 1 launch1 (A4 m) (A5 m)
    (fun c => R1.body_obligation (fun c b => A4 m c b) c) (fun _ _ => rfl) (fun _ _ => trivial)
    (fun c w => (D1 m c).share_full (fun _ => rfl) w)
    (fun c w => R1.A_eq (fun c b => A4 m c b) c w)
    (fun c => R1.hin (fun c b => A4 m c b) c) (fun c => R1.hout (fun c b => A4 m c b) c)
    (fun c w => by
      match w with
      | ⟨0, _⟩ => exact ((D1 m c).arrAt_in 0 rfl _).trans ((R1.A_eq (fun c b => A4 m c b) c 0).trans (A5_ne m c main_v3_0 (by decide)).symm)
      | ⟨1, _⟩ => exact ((D1 m c).arrAt_in 1 rfl _).trans ((R1.A_eq (fun c b => A4 m c b) c 1).trans (A5_ne m c main_v3_1 (by decide)).symm)
      | ⟨2, _⟩ => exact ((D1 m c).arrAt_in 2 rfl _).trans ((R1.A_eq (fun c b => A4 m c b) c 2).trans (A5_ne m c main_v3_2 (by decide)).symm)
      | ⟨3, _⟩ => exact ((D1 m c).arrAt_in 3 rfl _).trans ((R1.A_eq (fun c b => A4 m c b) c 3).trans (A5_ne m c main_case0b1_v10 (by decide)).symm)
      | ⟨4, _⟩ => exact ((D1 m c).arrAt_in 4 rfl _).trans ((R1.A_eq (fun c b => A4 m c b) c 4).trans (A5_ne m c main_case0b1_v11 (by decide)).symm)
      | ⟨5, _⟩ => exact (A5_out m c).symm)
    (fun c b hb => A5_ne m c b (not_arr _ b hb 5))

def reg2 : Pipeline.RegionSeg (pcfgs (F := F)) adm (dats m) () defs₀ 𝒱₀ L lv 2 :=
  mkReg (dats m) 2 launch2 (A5 m) (A6 m)
    (fun c => R2.body_obligation (fun c b => A5 m c b) c) (fun _ _ => rfl) (fun _ _ => trivial)
    (fun c w => (D2 m c).share_full (fun _ => rfl) w)
    (fun c w => R2.A_eq (fun c b => A5 m c b) c w)
    (fun c => .rfl) (fun c => .rfl)
    (fun c w => by
      match w with
      | ⟨0, _⟩ => exact ((D2 m c).arrAt_in 0 rfl _).trans ((R2.A_eq (fun c b => A5 m c b) c 0).trans (A6_ne m c main_v1 (by decide)).symm)
      | ⟨1, _⟩ => exact ((D2 m c).arrAt_in 1 rfl _).trans ((R2.A_eq (fun c b => A5 m c b) c 1).trans (A6_ne m c main_arg0 (by decide)).symm)
      | ⟨2, _⟩ => exact ((D2 m c).arrAt_in 2 rfl _).trans ((R2.A_eq (fun c b => A5 m c b) c 2).trans (A6_ne m c main_v3_1 (by decide)).symm)
      | ⟨3, _⟩ => exact ((D2 m c).arrAt_in 3 rfl _).trans ((R2.A_eq (fun c b => A5 m c b) c 3).trans (A6_ne m c main_case0b1_v12 (by decide)).symm)
      | ⟨4, _⟩ => exact (A6_out m c).symm)
    (fun c b hb => A6_ne m c b (not_arr _ b hb 4))

def reg3 : Pipeline.RegionSeg (pcfgs (F := F)) adm (dats m) () defs₀ 𝒱₀ L lv 3 :=
  mkReg (dats m) 3 launch3 (A7 m) (A8 m)
    (fun c => R3.body_obligation (fun c b => A7 m c b) c) (fun _ _ => rfl) (fun _ _ => trivial)
    (fun c w => (D3 m c).share_full (fun _ => rfl) w)
    (fun c w => R3.A_eq (fun c b => A7 m c b) c w)
    (fun c => .rfl) (fun c => .rfl)
    (fun c w => by
      match w with
      | ⟨0, _⟩ => exact ((D3 m c).arrAt_in 0 rfl _).trans ((R3.A_eq (fun c b => A7 m c b) c 0).trans (A8_ne m c main_arg0 (by decide)).symm)
      | ⟨1, _⟩ => exact ((D3 m c).arrAt_in 1 rfl _).trans ((R3.A_eq (fun c b => A7 m c b) c 1).trans (A8_ne m c main_v8 (by decide)).symm)
      | ⟨2, _⟩ => exact (A8_out m c).symm)
    (fun c b hb => A8_ne m c b (not_arr _ b hb 2))

abbrev hostSeg (ops : List (HloOp τ sig (Elt F))) (hs : ops.Forall fun op => op.bufs ⊆ StableHlo.tcRefs τ sig)
    (hf : ops.Forall fun op => op.fresh = ∅) (V : Dev nD → Valuation τ sig (Elt F)) :
    Pipeline.HostSeg (Name := ℕ) (U := UR sig nD τ) (pcfgs (F := F)) defs₀ 𝒱₀ L lv :=
  Pipeline.HostSeg.ofOps _ _ _ _ _ ucRefs ops (fun op h => sub_ucRefs op ((List.forall_iff_forall_mem.mp hs) op h))
    (fun op h => (List.forall_iff_forall_mem.mp hf) op h) V R

abbrev host0 := hostSeg (F := F) hostOps0 hostOps0_sub ⟨rfl, rfl, rfl, rfl⟩ (V0 m)
abbrev host1 := hostSeg (F := F) hostOps1 hostOps1_sub ⟨rfl, rfl, rfl, rfl, rfl⟩ (A1 m)
abbrev hostFast := hostSeg (F := F) fastOps (StableHlo.unary_bufs_sub ..) rfl (A3 m)
abbrev hostSlow0 := hostSeg (F := F) slowOps0 ⟨StableHlo.reshape_bufs_sub .., StableHlo.reshape_bufs_sub ..⟩ ⟨rfl, rfl⟩ (A3 m)
abbrev hostSlow1 := hostSeg (F := F) slowOps1 (StableHlo.unary_bufs_sub ..) rfl (A6 m)

set_option backward.isDefEq.respectTransparency.types false in
/-- The read of the branch's word, with the branch it names. -/
def readSeg (k : Fin 2) : Pipeline.HostSeg (Name := ℕ) (U := UR sig nD τ) (pcfgs (F := F)) defs₀ 𝒱₀ L lv where
  prog := rdProg >>= fun x => Prog.op (.assume (HostLoop.branch x 1 = k) inferInstance) fun _ => .ret ⟨⟩
  pre c := iprop(⌜arm m c = k⌝ ∗ held (c : Thread nD τ) ucRefs (A2 m c) ∗ R c)
  post c := iprop(held (c : Thread nD τ) ucRefs (A3 m c) ∗ R c)
  run c {β} kk K := by
    rw [bind_assoc]
    iintro ⟨Hk, Hb, ⟨%hk, Hh, HR⟩, -⟩
    rw [wp_bind]
    unfold rdProg
    iapply (StableHlo.wp_hlo_within (Variants.lift 𝒱₀) (c : Thread nD τ) none Set.univ (sub_ucRefs _ (StableHlo.unary_bufs_sub ..))) $$ [Hb Hh]
    · isplitl [Hb]; · iexact Hb
      iexact Hh
    iintro ⟨Hb, Hh⟩
    rw [HostLoop.elt_apply, wp_ret]; imodintro
    iapply (wp_assume (Variants.lift 𝒱₀) (c : Thread nD τ) none Set.univ hk)
    iapply Hk
    isplitl [Hb]; · iexact Hb
    isplitl [Hh]; · unfold A3; rw [StableHlo.after_cons, StableHlo.after_nil]; iexact Hh
    iexact HR

end Cert.KernelIdeal.Run

end
-- ==== Proof.Whole.lean ====
module

public import proofs.«01_k».proof.Proof.Run
public import Idealize.ShloMosaic.Adequacy
public import Idealize.ShloMosaic.Init

@[expose] public section

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (after held)
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev SegT := Pipeline.Seg (pcfgs (F := F)) adm (dats m) () defs₀ 𝒱₀ L lv

/-- The program's stretches where no class is overfull, and where one is. -/
abbrev segsFast : List (SegT m) :=
  [.host (host0 m), .region (reg0 m), .host (host1 m), .host (readSeg m 0), .host (hostFast m), .region (reg3 m)]
abbrev segsSlow : List (SegT m) :=
  [.host (host0 m), .region (reg0 m), .host (host1 m), .host (readSeg m 1), .host (hostSlow0 m), .region (reg1 m), .region (reg2 m), .host (hostSlow1 m), .region (reg3 m)]

@[irreducible] def segs (c : Dev nD) : List (SegT m) := if arm m c = 0 then segsFast m else segsSlow m

theorem segs_fast (c : Dev nD) (h : arm m c = 0) : segs m c = segsFast m := by unfold segs; exact if_pos h
theorem segs_slow (c : Dev nD) (h : ¬ arm m c = 0) : segs m c = segsSlow m := by unfold segs; exact if_neg h

abbrev armProg : Fin 2 → Prog (TpuEff nD τ sig (Elt F) (Pipeline.Sig Λ₀ (Fin 4) fun p => (pcfgs (F := F) p).Adm) .tc) PUnit
  | 0 => do
      hlo rfl (StableHlo.unary main_v3_5 main_v8 id) (fun _ => .ret ⟨⟩)
      pure ⟨⟩
  | 1 => do
      hlo rfl (StableHlo.reshape main_v3_0 main_case0b1_v10 (rfl : (.f32 : EltTy) = .f32) shapeCasts_S5120x1_S1x5120) (fun _ => .ret ⟨⟩)
      hlo rfl (StableHlo.reshape main_v3_1 main_case0b1_v11 (rfl : (.i32 : EltTy) = .i32) shapeCasts_S5120x1_S1x5120) (fun _ => .ret ⟨⟩)
      Prog.lift (.customCall (Pipeline.entry 1) ())
      Prog.lift (.customCall (Pipeline.entry 2) ())
      hlo rfl (StableHlo.unary main_case0b1_v13 main_v8 id) (fun _ => .ret ⟨⟩)
      pure ⟨⟩
  | ⟨_ + 2, h⟩ => absurd h (Nat.not_lt.2 (Nat.le_add_left _ _))

/-- The read with the branch `k` it names. -/
abbrev rdA (k : Fin 2) : Prog (TpuEff nD τ sig (Elt F) (Pipeline.Sig Λ₀ (Fin 4) fun p => (pcfgs (F := F) p).Adm) .tc) PUnit :=
  rdProg >>= fun x => Prog.op (.assume (HostLoop.branch x 1 = k) inferInstance) fun _ => .ret PUnit.unit

/-- The branch's item, with the branch known, against the item as written. -/
theorem item_le (c : Dev nD) (k : Fin 2) (rest : Prog (TpuEff nD τ sig (Elt F) (Pipeline.Sig Λ₀ (Fin 4) fun p => (pcfgs (F := F) p).Adm) .tc) PUnit) (Q : PUnit → sProp 𝕄) :
    wp frame (wpE (Pipeline.defs (pcfgs (F := F)) defs₀) (Variants.lift 𝒱₀) (c.tc : Thread nD τ) none) Set.univ (rdA k >>= fun _ => (armProg k >>= fun _ => rest)) Q
      ⊢ wp frame (wpE (Pipeline.defs (pcfgs (F := F)) defs₀) (Variants.lift 𝒱₀) (c.tc : Thread nD τ) none) Set.univ ((rdProg >>= fun x => HostLoop.case 2 x armProg) >>= fun _ => rest) Q := by
  unfold rdA
  rw [bind_assoc, bind_assoc, wp_bind, wp_bind]
  refine wp_mono _ _ _ fun x => ?_
  refine (BIBase.Entails.of_eq (wp_assume_eq (Variants.lift 𝒱₀) (c.tc : Thread nD τ) none Set.univ)).trans ?_
  rw [← fupd_wp_eq (p := HostLoop.case 2 x armProg >>= fun _ => rest)]
  refine BI.fupd_mono (exists_elim fun h => ?_)
  have hx : HostLoop.branch x 1 = k := h.down
  rw [show HostLoop.case 2 x armProg = armProg (F := F) k from hx ▸ rfl]
  exact .rfl

abbrev last : Prog (TpuEff nD τ sig (Elt F) (Pipeline.Sig Λ₀ (Fin 4) fun p => (pcfgs (F := F) p).Adm) .tc) PUnit :=
  Pipeline.chain [Prog.lift (.customCall (Pipeline.entry 3) ())]

theorem run_fast : Pipeline.Seg.run (segsFast m) = (StableHlo.seq hostOps0 >>= fun _ => Prog.lift (.customCall (Pipeline.entry 0) ()) >>= fun _ =>
    StableHlo.seq hostOps1 >>= fun _ => rdA 0 >>= fun _ => (armProg 0 >>= fun _ => last)) := by chain_rfl

theorem run_slow : Pipeline.Seg.run (segsSlow m) = (StableHlo.seq hostOps0 >>= fun _ => Prog.lift (.customCall (Pipeline.entry 0) ()) >>= fun _ =>
    StableHlo.seq hostOps1 >>= fun _ => rdA 1 >>= fun _ => (armProg 1 >>= fun _ => last)) := by chain_rfl

theorem main_eq (c : Dev nD) : main (F := F) c = (StableHlo.seq hostOps0 >>= fun _ => Prog.lift (.customCall (Pipeline.entry 0) ()) >>= fun _ =>
    StableHlo.seq hostOps1 >>= fun _ => (rdProg >>= fun x => HostLoop.case 2 x armProg) >>= fun _ => last) := main_chain c

abbrev WP (c : Dev nD) (p : Prog (TpuEff nD τ sig (Elt F) (Pipeline.Sig Λ₀ (Fin 4) fun p => (pcfgs (F := F) p).Adm) .tc) PUnit) (Q : PUnit → sProp 𝕄) : sProp 𝕄 :=
  wp frame (wpE (Pipeline.defs (pcfgs (F := F)) defs₀) (Variants.lift 𝒱₀) (c.tc : Thread nD τ) none) Set.univ p Q

theorem bind_le (c : Dev nD) (p : Prog (TpuEff nD τ sig (Elt F) (Pipeline.Sig Λ₀ (Fin 4) fun p => (pcfgs (F := F) p).Adm) .tc) PUnit)
    (k k' : Prog (TpuEff nD τ sig (Elt F) (Pipeline.Sig Λ₀ (Fin 4) fun p => (pcfgs (F := F) p).Adm) .tc) PUnit) (Q : PUnit → sProp 𝕄)
    (h : WP c k Q ⊢ WP c k' Q) : WP c (p >>= fun _ => k) Q ⊢ WP c (p >>= fun _ => k') Q := by
  unfold WP
  rw [wp_bind, wp_bind]
  exact wp_mono _ _ _ fun _ => h

theorem to_main (c : Dev nD) (k : Fin 2) (Q : PUnit → sProp 𝕄) (l : List (SegT m))
    (hl : Pipeline.Seg.run l = (StableHlo.seq hostOps0 >>= fun _ => Prog.lift (.customCall (Pipeline.entry 0) ()) >>= fun _ =>
    StableHlo.seq hostOps1 >>= fun _ => rdA k >>= fun _ => (armProg k >>= fun _ => last))) :
    WP c (Pipeline.Seg.run l) Q ⊢ WP c (main (F := F) c) Q := by
  rw [hl, main_eq]
  exact bind_le c _ _ _ Q (bind_le c _ _ _ Q (bind_le c _ _ _ Q (item_le c k _ Q)))

theorem hmain (c : Dev nD) (Q : PUnit → sProp 𝕄) : WP c (Pipeline.Seg.run (segs m c)) Q ⊢ WP c (main (F := F) c) Q := by
  by_cases h : arm m c = 0
  · exact to_main m c 0 Q _ ((congrArg Pipeline.Seg.run (segs_fast m c h)).trans (run_fast m))
  · exact to_main m c 1 Q _ ((congrArg Pipeline.Seg.run (segs_slow m c h)).trans (run_slow m))

abbrev St (A : Dev nD → Valuation τ sig (Elt F)) (c : Dev nD) : sProp 𝕄 := iprop(held (c : Thread nD τ) ucRefs (A c) ∗ R c)
abbrev Tn (c : Dev nD) : sProp 𝕄 :=
  iprop(iprop(held (c : Thread nD τ) ucRefs (A8 m c) ∗ (∃ r, prngReg c r)) ∗ ∃ W, owes (c.tc : Thread nD τ) (0 : CellTallies nD τ sig Unit) W)

theorem hend (c : Dev nD) : St (A8 m) c ⊢ Tn m c := by
  iintro ⟨Hh, HO, HP⟩
  isplitr [HO]
  · isplitl [Hh] <;> iassumption
  iexact HO

theorem to_read (c : Dev nD) (k : Fin 2) (h : arm m c = k) : St (A2 m) c ⊢ (readSeg m k).pre c := by
  show St (A2 m) c ⊢ iprop(⌜arm m c = k⌝ ∗ held (c : Thread nD τ) ucRefs (A2 m c) ∗ R c)
  iintro ⟨Hh, HR⟩
  isplitr; · ipureintro; exact h
  isplitl [Hh] <;> iassumption

theorem reg0_pre (c : Dev nD) : (reg0 m).pre c = St (A0 m) c := rfl
theorem reg0_post (c : Dev nD) : (reg0 m).post c = St (A1 m) c := rfl
theorem reg1_pre (c : Dev nD) : (reg1 m).pre c = St (A4 m) c := rfl
theorem reg1_post (c : Dev nD) : (reg1 m).post c = St (A5 m) c := rfl
theorem reg2_pre (c : Dev nD) : (reg2 m).pre c = St (A5 m) c := rfl
theorem reg2_post (c : Dev nD) : (reg2 m).post c = St (A6 m) c := rfl
theorem reg3_pre (c : Dev nD) : (reg3 m).pre c = St (A7 m) c := rfl
theorem reg3_post (c : Dev nD) : (reg3 m).post c = St (A8 m) c := rfl

theorem fast_to (c : Dev nD) (h : arm m c = 0) : (hostFast m).post c ⊢ (reg3 m).pre c := by
  rw [reg3_pre]
  exact BIBase.Entails.of_eq (congrArg (fun A => iprop(held (c : Thread nD τ) ucRefs A ∗ R c)) (show after fastOps (A3 m c) = A7 m c from (if_pos h).symm))
theorem slow_to (c : Dev nD) (h : ¬ arm m c = 0) : (hostSlow1 m).post c ⊢ (reg3 m).pre c := by
  rw [reg3_pre]
  exact BIBase.Entails.of_eq (congrArg (fun A => iprop(held (c : Thread nD τ) ucRefs A ∗ R c)) (show after slowOps1 (A6 m c) = A7 m c from (if_neg h).symm))

theorem link (c : Dev nD) (T T' : Dev nD → sProp 𝕄) (s : SegT m) (l : List (SegT m)) (h : T c ⊢ s.pre c)
    (hl : Pipeline.Seg.ChainsAt c s.post l T') : Pipeline.Seg.ChainsAt c T (s :: l) T' := ⟨h, hl⟩

theorem hch_fast (c : Dev nD) (h : arm m c = 0) : Pipeline.Seg.ChainsAt c (St (V0 m)) (segsFast m) (Tn m) := by
  refine link m c _ _ _ _ .rfl ?_
  refine link m c _ _ _ _ (BIBase.Entails.of_eq (reg0_pre m c).symm) ?_
  refine link m c _ _ _ _ (BIBase.Entails.of_eq (reg0_post m c)) ?_
  refine link m c _ _ _ _ (to_read m c 0 h) ?_
  refine link m c _ _ _ _ .rfl ?_
  refine link m c _ _ _ _ (fast_to m c h) ?_
  exact (BIBase.Entails.of_eq (reg3_post m c)).trans (hend m c)

theorem hch_slow (c : Dev nD) (h : ¬ arm m c = 0) : Pipeline.Seg.ChainsAt c (St (V0 m)) (segsSlow m) (Tn m) := by
  refine link m c _ _ _ _ .rfl ?_
  refine link m c _ _ _ _ (BIBase.Entails.of_eq (reg0_pre m c).symm) ?_
  refine link m c _ _ _ _ (BIBase.Entails.of_eq (reg0_post m c)) ?_
  refine link m c _ _ _ _ (to_read m c 1 (Fin.eq_one_of_ne_zero _ h)) ?_
  refine link m c _ _ _ _ .rfl ?_
  refine link m c _ _ _ _ (BIBase.Entails.of_eq (reg1_pre m c).symm) ?_
  refine link m c _ _ _ _ (BIBase.Entails.of_eq ((reg1_post m c).trans (reg2_pre m c).symm)) ?_
  refine link m c _ _ _ _ (BIBase.Entails.of_eq (reg2_post m c)) ?_
  refine link m c _ _ _ _ (slow_to m c h) ?_
  exact (BIBase.Entails.of_eq (reg3_post m c)).trans (hend m c)

theorem hch (c : Dev nD) : Pipeline.Seg.ChainsAt c (St (V0 m)) (segs m c) (Tn m) :=
  (Classical.em (arm m c = 0)).elim
    (fun h => (congrArg (fun l => Pipeline.Seg.ChainsAt c (St (V0 m)) l (Tn m)) (segs_fast m c h)).mpr (hch_fast m c h))
    (fun h => (congrArg (fun l => Pipeline.Seg.ChainsAt c (St (V0 m)) l (Tn m)) (segs_slow m c h)).mpr (hch_slow m c h))

set_option backward.isDefEq.respectTransparency.types false in
/-- The run: every buffer ends at `A8`, and every semaphore at zero. -/
theorem run_all : θ_run defs (onTc (τ := τ) (main (F := F))) ⟨m, fun _ => 0, ρ⟩
    (fun r => (∀ c : Dev nD, ∀ b ∈ ucRefs, r.2.mem (c, b) = A8 m c b) ∧ r.2.sem = fun _ => 0) :=
  Pipeline.θ_run_regions_kit_dev_sems (pcfgs (F := F)) adm (dats m) () cellOf_inj emb₁ defs₀ 𝒱₀ L lv m ρ main (segs m)
    (hmain m)
    (fun c => by
      by_cases h : arm m c = 0
      · rw [segs_fast m c h]
        simp only [Pipeline.Seg.pipes_host, Pipeline.Seg.pipes_region, Pipeline.Seg.pipes_nil]; decide
      · rw [segs_slow m c h]
        simp only [Pipeline.Seg.pipes_host, Pipeline.Seg.pipes_region, Pipeline.Seg.pipes_nil]; decide) (O₀ := 0) (hL := fun _ _ => rfl) (G := fun _ => iprop(emp)) (u₀ := initOf (Pipeline.cells cfgs cellOf_inj) (Pipeline.launchToks cfgs cellOf_inj))
    (hu₀ := by
      iintro Hu
      imodintro
      isplitl [Hu]
      · iapply (show (ownU (initOf (Pipeline.cells cfgs cellOf_inj) (Pipeline.launchToks cfgs cellOf_inj)) : sProp 𝕄)
          ⊢ BI.own (emb₁ (initOf (Pipeline.cells (Pipeline.pin (pcfgs (F := F)) adm) cellOf_inj) (Pipeline.launchToks (Pipeline.pin (pcfgs (F := F)) adm) cellOf_inj))) from .rfl)
        iexact Hu
      iapply (show (BI.emp : sProp 𝕄) ⊢ bigSep Finset.univ (fun _ : Dev nD => (BI.emp : sProp 𝕄)) from by rw [BI.bigSep_emp_const])
      iempintro)
    (T₀ := St (V0 m))
    (Tₙ := fun c => iprop(held (c : Thread nD τ) ucRefs (A8 m c) ∗ (∃ r, prngReg c r)))
    (hch := hch m)
    (hinit := by
      refine Pipeline.initEach L lv fun c => ?_
      rw [show unscopedBufs c (fun b => m ((c : Thread nD τ).loc b)) = held (c : Thread nD τ) ucRefs (V0 m c) from unscopedBufs_held c (V0 m c)]
      iintro ⟨⟨Hh, -, HO, -, HP, -⟩, -⟩
      imodintro
      isplitl [Hh]; · iexact Hh
      isplitl [HO]
      · iexists ∅; iexact HO
      iexists _; iexact HP)
    (QY := fun c s => ∀ b ∈ ucRefs, s.mem (c, b) = A8 m c b)
    (hfin := fun c s' => by
      unfold held
      iintro ⟨⟨Hh, -⟩, HSI⟩
      ihave Hr := (pointsTo_read_all ucRefs (fun b => ((c, b) : Loc nD τ sig)) (fun b => A8 m c b) s') $$ [Hh HSI]
      · isplitl [Hh] <;> iassumption
      icases Hr with ⟨%ha, HSI⟩
      imodintro
      isplitr; · ipureintro; exact ha
      iexact HSI)
    (hQ := fun _ h hz => ⟨h, funext fun g => hz g (.inr (by revert g; decide +kernel))⟩)

end Cert.KernelIdeal.Run

end
-- ==== Proof.Same.lean ====
module

public import proofs.«01_k».proof.Proof.Gen.Kernel
public import proofs.«01_k».proof.Proof.Gen.KernelIdeal
public import Idealize.ShloMosaic.PureOps.BitExact
@[expose] public section
set_option maxRecDepth 65536
noncomputable section

/-! The kernel's program and its idealization are one text: every name of the one equals the other's. -/

namespace Cert.Same

open Idealize.ShloMosaic Idealize.SL.Sem
theorem sig_eq : Cert.Kernel.sig = Cert.KernelIdeal.sig := rfl

set_option maxHeartbeats 0 in
theorem main_eq {F : FTy → Type} [FloatOps F] [Cert.Kernel.Facts] [Cert.KernelIdeal.Facts] : @Cert.Kernel.main F _ _ = @Cert.KernelIdeal.main F _ _ := by
  exact rfl

section
variable {F : FTy → Type} [FloatOps F] [Cert.Kernel.Facts] [Cert.KernelIdeal.Facts]
set_option maxHeartbeats 0 in
theorem defs0_eq : @Cert.Kernel.defs₀ F _ _ = @Cert.KernelIdeal.defs₀ F _ _ := by
  unfold Cert.Kernel.defs₀ Cert.KernelIdeal.defs₀
  refine congrArg Defs.onTc ?_
  funext ℓ a
  match ℓ, a with
  | ⟨0, _⟩, (t, s) => exact rfl
  | ⟨1, _⟩, (t, s) => exact rfl
  | ⟨2, _⟩, (t, s) => exact rfl
  | ⟨3, _⟩, (t, s) => exact rfl
set_option maxHeartbeats 0 in
theorem pcfgs_eq : @Cert.Kernel.pcfgs F _ = @Cert.KernelIdeal.pcfgs F _ := by
  funext p
  match p with
  | ⟨0, _⟩ => exact rfl
  | ⟨1, _⟩ => exact rfl
  | ⟨2, _⟩ => exact rfl
  | ⟨3, _⟩ => exact rfl
set_option maxHeartbeats 0 in
theorem defs_eq : @Cert.Kernel.defs F _ _ = @Cert.KernelIdeal.defs F _ _ := by
  exact congrArg (Pipeline.defs (@Cert.KernelIdeal.pcfgs F _)) (defs0_eq (F := F))
end

end Cert.Same

end
-- ==== Proof.Frame.lean ====
module

public import proofs.«01_k».proof.Proof.Whole
public import proofs.«01_k».proof.Proof.Same
public import Idealize.ShloMosaic.Lib.StableHlo.RunRead

@[expose] public section

noncomputable section

namespace Cert.KernelIdeal.Run

open Cert.KernelIdeal Cert.KernelIdeal.Gen
open Idealize.ShloMosaic Idealize.ShloMosaic.TcCoe Idealize.SL.Sem
open Idealize.ShloMosaic.StableHlo (after held)

variable {F : FTy → Type} [FloatOps F]
variable (m : (ℓ : Loc nD τ sig) → Buf (Elt F) ℓ) (ρ : Dev nD → PrngReg)

/-! ## The arguments' buffers are written by nothing -/

theorem keep0 (c : Dev nD) (b : Ref sig .tc) (hb : b = main_arg0 ∨ b = main_arg1 ∨ b = main_arg2) : A0 m c b = m (c, b) := by
  unfold A0
  obtain rfl | rfl | rfl := hb <;> after_reads_simp
theorem keep1 (c : Dev nD) (b : Ref sig .tc) (hb : b = main_arg0 ∨ b = main_arg1 ∨ b = main_arg2) : A1 m c b = m (c, b) :=
  (A1_in m c b (by obtain rfl | rfl | rfl := hb <;> decide)).trans (keep0 m c b hb)
theorem keep2 (c : Dev nD) (b : Ref sig .tc) (hb : b = main_arg0 ∨ b = main_arg1 ∨ b = main_arg2) : A2 m c b = m (c, b) := by
  rw [← keep1 m c b hb]
  unfold A2
  obtain rfl | rfl | rfl := hb <;> after_reads_simp
theorem keep3 (c : Dev nD) (b : Ref sig .tc) (hb : b = main_arg0 ∨ b = main_arg1 ∨ b = main_arg2) : A3 m c b = m (c, b) := by
  rw [← keep2 m c b hb]
  unfold A3
  obtain rfl | rfl | rfl := hb <;> after_reads_simp
theorem keep4 (c : Dev nD) (b : Ref sig .tc) (hb : b = main_arg0 ∨ b = main_arg1 ∨ b = main_arg2) : A4 m c b = m (c, b) := by
  rw [← keep3 m c b hb]
  unfold A4
  obtain rfl | rfl | rfl := hb <;> after_reads_simp
theorem keep6 (c : Dev nD) (b : Ref sig .tc) (hb : b = main_arg0 ∨ b = main_arg1 ∨ b = main_arg2) : A6 m c b = m (c, b) := by
  rw [← keep4 m c b hb]
  exact (A6_ne m c b (by obtain rfl | rfl | rfl := hb <;> decide)).trans (A5_ne m c b (by obtain rfl | rfl | rfl := hb <;> decide))
theorem keepFast (c : Dev nD) (b : Ref sig .tc) (hb : b = main_arg0 ∨ b = main_arg1 ∨ b = main_arg2) : after fastOps (A3 m c) b = m (c, b) := by
  rw [← keep3 m c b hb]
  obtain rfl | rfl | rfl := hb <;> after_reads_simp
theorem keepSlow (c : Dev nD) (b : Ref sig .tc) (hb : b = main_arg0 ∨ b = main_arg1 ∨ b = main_arg2) : after slowOps1 (A6 m c) b = m (c, b) := by
  rw [← keep6 m c b hb]
  obtain rfl | rfl | rfl := hb <;> after_reads_simp
theorem A7_fast (c : Dev nD) (h : arm m c = 0) : A7 m c = after fastOps (A3 m c) := if_pos h
theorem A7_slow (c : Dev nD) (h : ¬ arm m c = 0) : A7 m c = after slowOps1 (A6 m c) := if_neg h
theorem keep7 (c : Dev nD) (b : Ref sig .tc) (hb : b = main_arg0 ∨ b = main_arg1 ∨ b = main_arg2) : A7 m c b = m (c, b) :=
  (Classical.em (arm m c = 0)).elim (fun h => (congrFun (A7_fast m c h) _).trans (keepFast m c b hb))
    (fun h => (congrFun (A7_slow m c h) _).trans (keepSlow m c b hb))
theorem keep8 (c : Dev nD) (b : Ref sig .tc) (hb : b = main_arg0 ∨ b = main_arg1 ∨ b = main_arg2) : A8 m c b = m (c, b) :=
  (A8_ne m c b (by obtain rfl | rfl | rfl := hb <;> decide)).trans (keep7 m c b hb)

/-- The run: the result ends at `A8`, the arguments unchanged, every semaphore at zero. -/
theorem run_main : θ_run defs (onTc (τ := τ) (main (F := F))) ⟨m, fun _ => 0, ρ⟩
    (fun r => (∀ c : Dev nD, r.2.mem ((c.tc : Thread nD τ).loc main_v9) = A8 m c main_v9
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0) :=
  (θ_run defs _ _).mono (fun r h => ⟨fun c => ⟨h.1 c main_v9 (by decide),
    (h.1 c main_arg0 (by decide)).trans (keep8 m c _ (.inl rfl)),
    (h.1 c main_arg1 (by decide)).trans (keep8 m c _ (.inr (.inl rfl))),
    (h.1 c main_arg2 (by decide)).trans (keep8 m c _ (.inr (.inr rfl)))⟩, h.2⟩) (run_all m ρ)

theorem frame_run : θ_run defs (onTc (τ := τ) (main (F := F))) ⟨m, fun _ => 0, ρ⟩
    (fun r => (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0) :=
  (θ_run defs _ _).mono (fun r h => ⟨fun c => (h.1 c).2, h.2⟩) (run_main m ρ)

end Cert.KernelIdeal.Run

namespace Cert.Kernel.Run

open Cert.Kernel Idealize.ShloMosaic Idealize.ShloMosaic.TcCoe Idealize.SL.Sem

set_option maxHeartbeats 4000000 in
theorem frame_run {F : FTy → Type} [FloatOps F] [Cert.Kernel.Facts] (m : (ℓ : Loc nD τ sig) → Buf (Elt F) ℓ) (ρ : Dev nD → PrngReg) :
    θ_run defs (onTc (τ := τ) (main (F := F))) ⟨m, fun _ => 0, ρ⟩
    (fun r => (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0) := by
  rw [Cert.Same.main_eq, Cert.Same.defs_eq]
  exact Cert.KernelIdeal.Run.frame_run m ρ

end Cert.Kernel.Run

end
-- ==== Proof.Pre.lean ====
module

public import proofs.«01_k».proof.Defs
public import Idealize.ShloMosaic.Lib.Pointwise
public import Idealize.ShloMosaic.Lib.ReduceAll
public import Idealize.ShloMosaic.Lib.WordCmp

@[expose] public section

set_option maxRecDepth 16384

/-! What the precondition says: every entry of the first two arguments is a real number. -/

noncomputable section

namespace Cert.Pre_finite

open Idealize.ShloMosaic

theorem facts : Facts where
  bcast_S_S4096x512 := by decide
  reducesTo_S4096x512_S_d0_1 := by decide
  h_S_ := by decide
  bcast_S_S1000x512 := by decide
  reducesTo_S1000x512_S_d0_1 := by decide

instance : Subsingleton S_.Idx := ⟨fun a b => funext fun i => i.elim0⟩

theorem ofBits_top : Ideal.ofBits .f32 0x7F800000#32 = ⊤ := by simp [Ideal.ofBits, Ideal.ieee]

theorem real_of_lt (x : EReal) (h : max x (-x) < ⊤) : ∃ r : ℝ, x = r := by
  have h1 : x ≠ ⊤ := fun e => by rw [e] at h; exact absurd (lt_of_le_of_lt (le_max_left _ _) h) (lt_irrefl _)
  have h2 : x ≠ ⊥ := fun e => by rw [e, EReal.neg_bot] at h; exact absurd (lt_of_le_of_lt (le_max_right _ _) h) (lt_irrefl _)
  exact ⟨_, (EReal.coe_toReal h1 h2).symm⟩

theorem bit_real (x y : EReal) (hy : y = ⊤) (h : FloatOps.cmpf (F := Ideal) (φ := .f32) .olt (max x (-x)) y = 1#1) : ∃ r : ℝ, x = r := by
  subst hy
  refine real_of_lt x ?_
  by_contra hn
  simp [Ideal.cmpf_def, Ideal.cmp, hn] at h

theorem real_of_pre [hF : Facts] (x : FVec Ideal S4096x512 .f32) (W : FVec Ideal S1000x512 .f32) (b : FVec Ideal S1000 .f32)
    (h : fn (F := Ideal) x W b = fun _ => 1#1) : (∀ i, ∃ r : ℝ, (x i : EReal) = r) ∧ ∀ i, ∃ r : ℝ, (W i : EReal) = r := by
  have h0 := congrFun h (fun i => i.elim0)
  obtain ⟨h1, h2⟩ := IntOp.andi_eq_one.1 h0
  refine ⟨fun i => ?_, fun i => ?_⟩
  · have e := Host.reduce_andi_all _ _ _ _ _ h1 i
    exact bit_real (x i) _ ofBits_top e
  · have e := Host.reduce_andi_all _ _ _ _ _ h2 i
    exact bit_real (W i) _ ofBits_top e

end Cert.Pre_finite

end
-- ==== Proof.RefOps.lean ====
module

public import proofs.«01_k».proof.Proof.Gen.ReferenceIdeal
public import Idealize.ShloMosaic.Lib.StableHlo.Run

@[expose] public section

noncomputable section

/-! # The reference's run

The reference's operations in order as a list, each writing a tensor of its own, read back one equation per tensor. -/

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The operations, a called function's in its call's place. -/
abbrev ops : List (HloOp τ sig (Elt F)) :=
  [ unary main_arg1 main_v0 ((transpose S512x1000 [1, 0] · transposes_S1000x512_S512x1000_1_0) : (⟨S1000x512, .f32⟩ : BufTy).Contents (Elt F) → (⟨S512x1000, .f32⟩ : BufTy).Contents (Elt F)),
    binary main_arg1 main_v0 main_v1 ((fun l r => Host.dotGeneral dot_S1000x512_S512x1000_S1000x1000_1_0_0_1_n_n none l r) : (⟨S1000x512, .f32⟩ : BufTy).Contents (Elt F) → (⟨S512x1000, .f32⟩ : BufTy).Contents (Elt F) → (⟨S1000x1000, .f32⟩ : BufTy).Contents (Elt F)),
    unary main_arg2 main_v2 (broadcastInDim S1x1000 ![1] bcast_S1000_S1x1000_1 : (⟨S1000, .f32⟩ : BufTy).Contents (Elt F) → (⟨S1x1000, .f32⟩ : BufTy).Contents (Elt F)),
    unary main_v2 main_v3 (broadcastInDim S1000x1000 ![0, 1] bcast_S1x1000_S1000x1000_0_1 : (⟨S1x1000, .f32⟩ : BufTy).Contents (Elt F) → (⟨S1000x1000, .f32⟩ : BufTy).Contents (Elt F)),
    binary main_v1 main_v3 main_v4 (addf : (⟨S1000x1000, .f32⟩ : BufTy).Contents (Elt F) → (⟨S1000x1000, .f32⟩ : BufTy).Contents (Elt F) → (⟨S1000x1000, .f32⟩ : BufTy).Contents (Elt F)),
    TRef.nullary (TRef.of (T := ⟨S_, .f32⟩) main_call0_cst) (constant S_ .f32 0xFF800000#32),
    TRef.binary (TRef.of (T := ⟨S1000x1000, .f32⟩) main_v4) (TRef.of (T := ⟨S_, .f32⟩) main_call0_cst) (TRef.of (T := ⟨S1000, .f32⟩) main_call0_v0) (fun x v => Host.reduce FloatOps.maximumf x v reducesTo_S1000x1000_S1000_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S1000, .f32⟩) main_call0_v1) (broadcastInDim S1000 ![] bcast_S_S1000),
    TRef.binary (TRef.of (T := ⟨S1000, .f32⟩) main_call0_v1) (TRef.of (T := ⟨S1000, .f32⟩) main_call0_v0) (TRef.of (T := ⟨S1000, .f32⟩) main_call0_v2) maximumf,
    TRef.unary (TRef.of (T := ⟨S1000, .f32⟩) main_call0_v2) (TRef.of (T := ⟨S1000x1, .f32⟩) main_call0_v3) (broadcastInDim S1000x1 ![0] bcast_S1000_S1000x1_0),
    TRef.unary (TRef.of (T := ⟨S1000x1, .f32⟩) main_call0_v3) (TRef.of (T := ⟨S1000x1000, .f32⟩) main_call0_v4) (broadcastInDim S1000x1000 ![0, 1] bcast_S1000x1_S1000x1000_0_1),
    TRef.binary (TRef.of (T := ⟨S1000x1000, .f32⟩) main_v4) (TRef.of (T := ⟨S1000x1000, .f32⟩) main_call0_v4) (TRef.of (T := ⟨S1000x1000, .f32⟩) main_call0_v5) subf,
    TRef.unary (TRef.of (T := ⟨S1000x1000, .f32⟩) main_call0_v5) (TRef.of (T := ⟨S1000x1000, .f32⟩) main_call0_v6) Host.exp,
    TRef.nullary (TRef.of (T := ⟨S_, .f32⟩) main_call0_cst_1) (constant S_ .f32 0x00000000#32),
    TRef.binary (TRef.of (T := ⟨S1000x1000, .f32⟩) main_call0_v6) (TRef.of (T := ⟨S_, .f32⟩) main_call0_cst_1) (TRef.of (T := ⟨S1000, .f32⟩) main_call0_v7) (fun x v => Host.reduceAdd x v reducesTo_S1000x1000_S1000_d1 h_S_),
    TRef.unary (TRef.of (T := ⟨S1000, .f32⟩) main_call0_v7) (TRef.of (T := ⟨S1000x1, .f32⟩) main_call0_v8) (broadcastInDim S1000x1 ![0] bcast_S1000_S1000x1_0),
    TRef.unary (TRef.of (T := ⟨S1000x1, .f32⟩) main_call0_v8) (TRef.of (T := ⟨S1000x1, .f32⟩) main_call0_v9) Host.log,
    TRef.unary (TRef.of (T := ⟨S1000x1, .f32⟩) main_call0_v9) (TRef.of (T := ⟨S1000x1000, .f32⟩) main_call0_v10) (broadcastInDim S1000x1000 ![0, 1] bcast_S1000x1_S1000x1000_0_1),
    TRef.binary (TRef.of (T := ⟨S1000x1000, .f32⟩) main_call0_v5) (TRef.of (T := ⟨S1000x1000, .f32⟩) main_call0_v10) (TRef.of (T := ⟨S1000x1000, .f32⟩) main_v5) subf,
    unary main_v5 main_v6 (Host.exp : (⟨S1000x1000, .f32⟩ : BufTy).Contents (Elt F) → (⟨S1000x1000, .f32⟩ : BufTy).Contents (Elt F)),
    binary main_v6 main_v5 main_v7 (mulf : (⟨S1000x1000, .f32⟩ : BufTy).Contents (Elt F) → (⟨S1000x1000, .f32⟩ : BufTy).Contents (Elt F) → (⟨S1000x1000, .f32⟩ : BufTy).Contents (Elt F)),
    nullary main_cst ((constant S_ .f32 0x00000000#32) : (⟨S_, .f32⟩ : BufTy).Contents (Elt F)),
    binary main_v7 main_cst main_v8 ((fun x v => Host.reduceAdd x v reducesTo_S1000x1000_S1000_d1 h_S_) : (⟨S1000x1000, .f32⟩ : BufTy).Contents (Elt F) → (⟨S_, .f32⟩ : BufTy).Contents (Elt F) → (⟨S1000, .f32⟩ : BufTy).Contents (Elt F)),
    unary main_v8 main_v9 (Host.negf : (⟨S1000, .f32⟩ : BufTy).Contents (Elt F) → (⟨S1000, .f32⟩ : BufTy).Contents (Elt F)),
    TRef.nullary (TRef.of (T := ⟨S1000x1000, .i32⟩) main_call1_v0) (iotaInDim S1000x1000 32 1),
    TRef.nullary (TRef.of (T := ⟨S_, .f32⟩) main_call1_cst) (constant S_ .f32 0xFF800000#32),
    TRef.nullary (TRef.of (T := ⟨S_, .i32⟩) main_call1_c) (constantI S_ 32 0#32),
    TRef.quaternary (TRef.of (T := ⟨S1000x1000, .f32⟩) main_v4) (TRef.of (T := ⟨S1000x1000, .i32⟩) main_call1_v0) (TRef.of (T := ⟨S_, .f32⟩) main_call1_cst) (TRef.of (T := ⟨S_, .i32⟩) main_call1_c) (TRef.of (T := ⟨S1000, .f32⟩) main_call1_v1_0) (fun x y u v j => (Host.argReduce reducer_argmax_f32_i32 x y u v reducesTo_S1000x1000_S1000_d1 h_S_ j).1),
    TRef.quaternary (TRef.of (T := ⟨S1000x1000, .f32⟩) main_v4) (TRef.of (T := ⟨S1000x1000, .i32⟩) main_call1_v0) (TRef.of (T := ⟨S_, .f32⟩) main_call1_cst) (TRef.of (T := ⟨S_, .i32⟩) main_call1_c) (TRef.of (T := ⟨S1000, .i32⟩) main_v10) (fun x y u v j => (Host.argReduce reducer_argmax_f32_i32 x y u v reducesTo_S1000x1000_S1000_d1 h_S_ j).2),
    TRef.unary (TRef.of (T := ⟨S1000, .i32⟩) main_v10) (TRef.of (T := ⟨S1000x1, .i32⟩) main_call2_v0) (broadcastInDim S1000x1 ![0] bcast_S1000_S1000x1_0),
    TRef.nullary (TRef.of (T := ⟨S1x1000, .i32⟩) main_call2_v1) (iotaInDim S1x1000 32 1),
    TRef.unary (TRef.of (T := ⟨S1000x1, .i32⟩) main_call2_v0) (TRef.of (T := ⟨S1000x1000, .i32⟩) main_call2_v2) (broadcastInDim S1000x1000 ![0, 1] bcast_S1000x1_S1000x1000_0_1),
    TRef.unary (TRef.of (T := ⟨S1x1000, .i32⟩) main_call2_v1) (TRef.of (T := ⟨S1000x1000, .i32⟩) main_call2_v3) (broadcastInDim S1000x1000 ![0, 1] bcast_S1x1000_S1000x1000_0_1),
    TRef.binary (TRef.of (T := ⟨S1000x1000, .i32⟩) main_call2_v2) (TRef.of (T := ⟨S1000x1000, .i32⟩) main_call2_v3) (TRef.of (T := ⟨S1000x1000, .i1⟩) main_call2_v4) (cmpi .eq),
    TRef.unary (TRef.of (T := ⟨S1000x1000, .i1⟩) main_call2_v4) (TRef.of (T := ⟨S1000x1000, .f32⟩) main_v11) (uitofp .f32),
    unary main_arg1 main_v12 ((transpose S512x1000 [1, 0] · transposes_S1000x512_S512x1000_1_0) : (⟨S1000x512, .f32⟩ : BufTy).Contents (Elt F) → (⟨S512x1000, .f32⟩ : BufTy).Contents (Elt F)),
    binary main_arg0 main_v12 main_v13 ((fun l r => Host.dotGeneral dot_S4096x512_S512x1000_S4096x1000_1_0_0_1_n_n none l r) : (⟨S4096x512, .f32⟩ : BufTy).Contents (Elt F) → (⟨S512x1000, .f32⟩ : BufTy).Contents (Elt F) → (⟨S4096x1000, .f32⟩ : BufTy).Contents (Elt F)),
    unary main_arg2 main_v14 (broadcastInDim S1x1000 ![1] bcast_S1000_S1x1000_1 : (⟨S1000, .f32⟩ : BufTy).Contents (Elt F) → (⟨S1x1000, .f32⟩ : BufTy).Contents (Elt F)),
    unary main_v14 main_v15 (broadcastInDim S4096x1000 ![0, 1] bcast_S1x1000_S4096x1000_0_1 : (⟨S1x1000, .f32⟩ : BufTy).Contents (Elt F) → (⟨S4096x1000, .f32⟩ : BufTy).Contents (Elt F)),
    binary main_v13 main_v15 main_v16 (addf : (⟨S4096x1000, .f32⟩ : BufTy).Contents (Elt F) → (⟨S4096x1000, .f32⟩ : BufTy).Contents (Elt F) → (⟨S4096x1000, .f32⟩ : BufTy).Contents (Elt F)),
    TRef.nullary (TRef.of (T := ⟨S4096x1000, .i32⟩) main_call3_v0) (iotaInDim S4096x1000 32 1),
    TRef.nullary (TRef.of (T := ⟨S_, .f32⟩) main_call3_cst) (constant S_ .f32 0xFF800000#32),
    TRef.nullary (TRef.of (T := ⟨S_, .i32⟩) main_call3_c) (constantI S_ 32 0#32),
    TRef.quaternary (TRef.of (T := ⟨S4096x1000, .f32⟩) main_v16) (TRef.of (T := ⟨S4096x1000, .i32⟩) main_call3_v0) (TRef.of (T := ⟨S_, .f32⟩) main_call3_cst) (TRef.of (T := ⟨S_, .i32⟩) main_call3_c) (TRef.of (T := ⟨S4096, .f32⟩) main_call3_v1_0) (fun x y u v j => (Host.argReduce reducer_argmax_f32_i32 x y u v reducesTo_S4096x1000_S4096_d1 h_S_ j).1),
    TRef.quaternary (TRef.of (T := ⟨S4096x1000, .f32⟩) main_v16) (TRef.of (T := ⟨S4096x1000, .i32⟩) main_call3_v0) (TRef.of (T := ⟨S_, .f32⟩) main_call3_cst) (TRef.of (T := ⟨S_, .i32⟩) main_call3_c) (TRef.of (T := ⟨S4096, .i32⟩) main_v17) (fun x y u v j => (Host.argReduce reducer_argmax_f32_i32 x y u v reducesTo_S4096x1000_S4096_d1 h_S_ j).2),
    TRef.unary (TRef.of (T := ⟨S4096, .i32⟩) main_v17) (TRef.of (T := ⟨S4096x1, .i32⟩) main_call4_v0) (broadcastInDim S4096x1 ![0] bcast_S4096_S4096x1_0),
    TRef.nullary (TRef.of (T := ⟨S1x1000, .i32⟩) main_call4_v1) (iotaInDim S1x1000 32 1),
    TRef.unary (TRef.of (T := ⟨S4096x1, .i32⟩) main_call4_v0) (TRef.of (T := ⟨S4096x1000, .i32⟩) main_call4_v2) (broadcastInDim S4096x1000 ![0, 1] bcast_S4096x1_S4096x1000_0_1),
    TRef.unary (TRef.of (T := ⟨S1x1000, .i32⟩) main_call4_v1) (TRef.of (T := ⟨S4096x1000, .i32⟩) main_call4_v3) (broadcastInDim S4096x1000 ![0, 1] bcast_S1x1000_S4096x1000_0_1),
    TRef.binary (TRef.of (T := ⟨S4096x1000, .i32⟩) main_call4_v2) (TRef.of (T := ⟨S4096x1000, .i32⟩) main_call4_v3) (TRef.of (T := ⟨S4096x1000, .i1⟩) main_call4_v4) (cmpi .eq),
    TRef.unary (TRef.of (T := ⟨S4096x1000, .i1⟩) main_call4_v4) (TRef.of (T := ⟨S4096x1000, .f32⟩) main_v18) (uitofp .f32),
    TRef.nullary (TRef.of (T := ⟨S_, .f32⟩) main_call5_cst) (constant S_ .f32 0xFF800000#32),
    TRef.binary (TRef.of (T := ⟨S4096x1000, .f32⟩) main_v16) (TRef.of (T := ⟨S_, .f32⟩) main_call5_cst) (TRef.of (T := ⟨S4096, .f32⟩) main_call5_v0) (fun x v => Host.reduce FloatOps.maximumf x v reducesTo_S4096x1000_S4096_d1 h_S_),
    TRef.nullary (TRef.of (T := ⟨S_, .f32⟩) main_call5_cst_0) (constant S_ .f32 0xFF800000#32),
    TRef.unary (TRef.of (T := ⟨S_, .f32⟩) main_call5_cst_0) (TRef.of (T := ⟨S4096, .f32⟩) main_call5_v1) (broadcastInDim S4096 ![] bcast_S_S4096),
    TRef.binary (TRef.of (T := ⟨S4096, .f32⟩) main_call5_v1) (TRef.of (T := ⟨S4096, .f32⟩) main_call5_v0) (TRef.of (T := ⟨S4096, .f32⟩) main_call5_v2) maximumf,
    TRef.unary (TRef.of (T := ⟨S4096, .f32⟩) main_call5_v2) (TRef.of (T := ⟨S4096x1, .f32⟩) main_call5_v3) (broadcastInDim S4096x1 ![0] bcast_S4096_S4096x1_0),
    TRef.unary (TRef.of (T := ⟨S4096x1, .f32⟩) main_call5_v3) (TRef.of (T := ⟨S4096x1000, .f32⟩) main_call5_v4) (broadcastInDim S4096x1000 ![0, 1] bcast_S4096x1_S4096x1000_0_1),
    TRef.binary (TRef.of (T := ⟨S4096x1000, .f32⟩) main_v16) (TRef.of (T := ⟨S4096x1000, .f32⟩) main_call5_v4) (TRef.of (T := ⟨S4096x1000, .f32⟩) main_call5_v5) subf,
    TRef.unary (TRef.of (T := ⟨S4096x1000, .f32⟩) main_call5_v5) (TRef.of (T := ⟨S4096x1000, .f32⟩) main_call5_v6) Host.exp,
    TRef.nullary (TRef.of (T := ⟨S_, .f32⟩) main_call5_cst_1) (constant S_ .f32 0x00000000#32),
    TRef.binary (TRef.of (T := ⟨S4096x1000, .f32⟩) main_call5_v6) (TRef.of (T := ⟨S_, .f32⟩) main_call5_cst_1) (TRef.of (T := ⟨S4096, .f32⟩) main_call5_v7) (fun x v => Host.reduceAdd x v reducesTo_S4096x1000_S4096_d1 h_S_),
    TRef.unary (TRef.of (T := ⟨S4096, .f32⟩) main_call5_v7) (TRef.of (T := ⟨S4096x1, .f32⟩) main_call5_v8) (broadcastInDim S4096x1 ![0] bcast_S4096_S4096x1_0),
    TRef.unary (TRef.of (T := ⟨S4096x1, .f32⟩) main_call5_v8) (TRef.of (T := ⟨S4096x1, .f32⟩) main_call5_v9) Host.log,
    TRef.unary (TRef.of (T := ⟨S4096x1, .f32⟩) main_call5_v9) (TRef.of (T := ⟨S4096x1000, .f32⟩) main_call5_v10) (broadcastInDim S4096x1000 ![0, 1] bcast_S4096x1_S4096x1000_0_1),
    TRef.binary (TRef.of (T := ⟨S4096x1000, .f32⟩) main_call5_v5) (TRef.of (T := ⟨S4096x1000, .f32⟩) main_call5_v10) (TRef.of (T := ⟨S4096x1000, .f32⟩) main_v19) subf,
    unary main_v19 main_v20 (Host.exp : (⟨S4096x1000, .f32⟩ : BufTy).Contents (Elt F) → (⟨S4096x1000, .f32⟩ : BufTy).Contents (Elt F)),
    binary main_v20 main_v19 main_v21 (mulf : (⟨S4096x1000, .f32⟩ : BufTy).Contents (Elt F) → (⟨S4096x1000, .f32⟩ : BufTy).Contents (Elt F) → (⟨S4096x1000, .f32⟩ : BufTy).Contents (Elt F)),
    nullary main_cst_0 ((constant S_ .f32 0x00000000#32) : (⟨S_, .f32⟩ : BufTy).Contents (Elt F)),
    binary main_v21 main_cst_0 main_v22 ((fun x v => Host.reduceAdd x v reducesTo_S4096x1000_S4096_d1 h_S_) : (⟨S4096x1000, .f32⟩ : BufTy).Contents (Elt F) → (⟨S_, .f32⟩ : BufTy).Contents (Elt F) → (⟨S4096, .f32⟩ : BufTy).Contents (Elt F)),
    unary main_v22 main_v23 (Host.negf : (⟨S4096, .f32⟩ : BufTy).Contents (Elt F) → (⟨S4096, .f32⟩ : BufTy).Contents (Elt F)),
    binary main_arg1 main_arg0 main_v24 ((fun a b => concatenate S5096x512 0 [⟨S1000x512, a⟩, ⟨S4096x512, b⟩] concatenates_S1000x512_S4096x512_S5096x512_d0) : (⟨S1000x512, .f32⟩ : BufTy).Contents (Elt F) → (⟨S4096x512, .f32⟩ : BufTy).Contents (Elt F) → (⟨S5096x512, .f32⟩ : BufTy).Contents (Elt F)),
    binary main_v11 main_v18 main_v25 ((fun a b => concatenate S5096x1000 0 [⟨S1000x1000, a⟩, ⟨S4096x1000, b⟩] concatenates_S1000x1000_S4096x1000_S5096x1000_d0) : (⟨S1000x1000, .f32⟩ : BufTy).Contents (Elt F) → (⟨S4096x1000, .f32⟩ : BufTy).Contents (Elt F) → (⟨S5096x1000, .f32⟩ : BufTy).Contents (Elt F)),
    binary main_v9 main_v23 main_v26 ((fun a b => concatenate S5096 0 [⟨S1000, a⟩, ⟨S4096, b⟩] concatenates_S1000_S4096_S5096_d0) : (⟨S1000, .f32⟩ : BufTy).Contents (Elt F) → (⟨S4096, .f32⟩ : BufTy).Contents (Elt F) → (⟨S5096, .f32⟩ : BufTy).Contents (Elt F)),
    TRef.nullary (TRef.of (T := ⟨S5096x1000, .i32⟩) main_call6_v0) (iotaInDim S5096x1000 32 1),
    TRef.nullary (TRef.of (T := ⟨S_, .f32⟩) main_call6_cst) (constant S_ .f32 0xFF800000#32),
    TRef.nullary (TRef.of (T := ⟨S_, .i32⟩) main_call6_c) (constantI S_ 32 0#32),
    TRef.quaternary (TRef.of (T := ⟨S5096x1000, .f32⟩) main_v25) (TRef.of (T := ⟨S5096x1000, .i32⟩) main_call6_v0) (TRef.of (T := ⟨S_, .f32⟩) main_call6_cst) (TRef.of (T := ⟨S_, .i32⟩) main_call6_c) (TRef.of (T := ⟨S5096, .f32⟩) main_call6_v1_0) (fun x y u v j => (Host.argReduce reducer_argmax_f32_i32 x y u v reducesTo_S5096x1000_S5096_d1 h_S_ j).1),
    TRef.quaternary (TRef.of (T := ⟨S5096x1000, .f32⟩) main_v25) (TRef.of (T := ⟨S5096x1000, .i32⟩) main_call6_v0) (TRef.of (T := ⟨S_, .f32⟩) main_call6_cst) (TRef.of (T := ⟨S_, .i32⟩) main_call6_c) (TRef.of (T := ⟨S5096, .i32⟩) main_v27) (fun x y u v j => (Host.argReduce reducer_argmax_f32_i32 x y u v reducesTo_S5096x1000_S5096_d1 h_S_ j).2),
    TRef.nullary (TRef.of (T := ⟨S5096, .i32⟩) main_call7_v0) (iotaInDim S5096 32 0),
    TRef.ternary (TRef.of (T := ⟨S5096, .i32⟩) main_v27) (TRef.of (T := ⟨S5096, .f32⟩) main_v26) (TRef.of (T := ⟨S5096, .i32⟩) main_call7_v0) (TRef.of (T := ⟨S5096, .i32⟩) main_call7_v1_0) (fun x y z => (Host.sort3 S5096 0 comparator_i32_f32_i32_d0 x y z).1),
    TRef.ternary (TRef.of (T := ⟨S5096, .i32⟩) main_v27) (TRef.of (T := ⟨S5096, .f32⟩) main_v26) (TRef.of (T := ⟨S5096, .i32⟩) main_call7_v0) (TRef.of (T := ⟨S5096, .f32⟩) main_call7_v1_1) (fun x y z => (Host.sort3 S5096 0 comparator_i32_f32_i32_d0 x y z).2.1),
    TRef.ternary (TRef.of (T := ⟨S5096, .i32⟩) main_v27) (TRef.of (T := ⟨S5096, .f32⟩) main_v26) (TRef.of (T := ⟨S5096, .i32⟩) main_call7_v0) (TRef.of (T := ⟨S5096, .i32⟩) main_v28) (fun x y z => (Host.sort3 S5096 0 comparator_i32_f32_i32_d0 x y z).2.2),
    nullary main_c ((constantI S_ 32 0#32) : (⟨S_, .i32⟩ : BufTy).Contents (Elt F)),
    unary main_c main_v29 (broadcastInDim S5096 ![] bcast_S_S5096 : (⟨S_, .i32⟩ : BufTy).Contents (Elt F) → (⟨S5096, .i32⟩ : BufTy).Contents (Elt F)),
    binary main_v28 main_v29 main_v30 (cmpi .slt : (⟨S5096, .i32⟩ : BufTy).Contents (Elt F) → (⟨S5096, .i32⟩ : BufTy).Contents (Elt F) → (⟨S5096, .i1⟩ : BufTy).Contents (Elt F)),
    nullary main_c_1 ((constantI S_ 32 5096#32) : (⟨S_, .i32⟩ : BufTy).Contents (Elt F)),
    unary main_c_1 main_v31 (broadcastInDim S5096 ![] bcast_S_S5096 : (⟨S_, .i32⟩ : BufTy).Contents (Elt F) → (⟨S5096, .i32⟩ : BufTy).Contents (Elt F)),
    binary main_v28 main_v31 main_v32 (addi : (⟨S5096, .i32⟩ : BufTy).Contents (Elt F) → (⟨S5096, .i32⟩ : BufTy).Contents (Elt F) → (⟨S5096, .i32⟩ : BufTy).Contents (Elt F)),
    ternary main_v30 main_v32 main_v28 main_v33 (select : (⟨S5096, .i1⟩ : BufTy).Contents (Elt F) → (⟨S5096, .i32⟩ : BufTy).Contents (Elt F) → (⟨S5096, .i32⟩ : BufTy).Contents (Elt F) → (⟨S5096, .i32⟩ : BufTy).Contents (Elt F)),
    unary main_v33 main_v34 (broadcastInDim S5096x1 ![0] bcast_S5096_S5096x1_0 : (⟨S5096, .i32⟩ : BufTy).Contents (Elt F) → (⟨S5096x1, .i32⟩ : BufTy).Contents (Elt F)),
    binary main_v27 main_v34 main_v35 ((fun x i => Host.gather gather_S5096_S5096x1_S5096_n_0_n_n_0_1_1 x i) : (⟨S5096, .i32⟩ : BufTy).Contents (Elt F) → (⟨S5096x1, .i32⟩ : BufTy).Contents (Elt F) → (⟨S5096, .i32⟩ : BufTy).Contents (Elt F)),
    nullary main_v36 ((iotaInDim S5096 32 0) : (⟨S5096, .i32⟩ : BufTy).Contents (Elt F)),
    nullary main_c_2 ((constantI S_ 32 2147483647#32) : (⟨S_, .i32⟩ : BufTy).Contents (Elt F)),
    unary main_c_2 main_v37 (broadcastInDim S1000 ![] bcast_S_S1000 : (⟨S_, .i32⟩ : BufTy).Contents (Elt F) → (⟨S1000, .i32⟩ : BufTy).Contents (Elt F)),
    unary main_v35 main_v38 (broadcastInDim S5096x1 ![0] bcast_S5096_S5096x1_0 : (⟨S5096, .i32⟩ : BufTy).Contents (Elt F) → (⟨S5096x1, .i32⟩ : BufTy).Contents (Elt F)),
    ternary main_v37 main_v38 main_v36 main_v39 ((fun x i u => Host.scatter scatter_S1000_S5096x1_S5096_n_0_0_1 IntOp.minsi x i u) : (⟨S1000, .i32⟩ : BufTy).Contents (Elt F) → (⟨S5096x1, .i32⟩ : BufTy).Contents (Elt F) → (⟨S5096, .i32⟩ : BufTy).Contents (Elt F) → (⟨S1000, .i32⟩ : BufTy).Contents (Elt F)),
    nullary main_c_3 ((constantI S_ 32 0#32) : (⟨S_, .i32⟩ : BufTy).Contents (Elt F)),
    unary main_c_3 main_v40 (broadcastInDim S5096 ![] bcast_S_S5096 : (⟨S_, .i32⟩ : BufTy).Contents (Elt F) → (⟨S5096, .i32⟩ : BufTy).Contents (Elt F)),
    binary main_v35 main_v40 main_v41 (cmpi .slt : (⟨S5096, .i32⟩ : BufTy).Contents (Elt F) → (⟨S5096, .i32⟩ : BufTy).Contents (Elt F) → (⟨S5096, .i1⟩ : BufTy).Contents (Elt F)),
    nullary main_c_4 ((constantI S_ 32 1000#32) : (⟨S_, .i32⟩ : BufTy).Contents (Elt F)),
    unary main_c_4 main_v42 (broadcastInDim S5096 ![] bcast_S_S5096 : (⟨S_, .i32⟩ : BufTy).Contents (Elt F) → (⟨S5096, .i32⟩ : BufTy).Contents (Elt F)),
    binary main_v35 main_v42 main_v43 (addi : (⟨S5096, .i32⟩ : BufTy).Contents (Elt F) → (⟨S5096, .i32⟩ : BufTy).Contents (Elt F) → (⟨S5096, .i32⟩ : BufTy).Contents (Elt F)),
    ternary main_v41 main_v43 main_v35 main_v44 (select : (⟨S5096, .i1⟩ : BufTy).Contents (Elt F) → (⟨S5096, .i32⟩ : BufTy).Contents (Elt F) → (⟨S5096, .i32⟩ : BufTy).Contents (Elt F) → (⟨S5096, .i32⟩ : BufTy).Contents (Elt F)),
    unary main_v44 main_v45 (broadcastInDim S5096x1 ![0] bcast_S5096_S5096x1_0 : (⟨S5096, .i32⟩ : BufTy).Contents (Elt F) → (⟨S5096x1, .i32⟩ : BufTy).Contents (Elt F)),
    binary main_v39 main_v45 main_v46 ((fun x i => Host.gather gather_S1000_S5096x1_S5096_n_0_n_n_0_1_1 x i) : (⟨S1000, .i32⟩ : BufTy).Contents (Elt F) → (⟨S5096x1, .i32⟩ : BufTy).Contents (Elt F) → (⟨S5096, .i32⟩ : BufTy).Contents (Elt F)),
    binary main_v36 main_v46 main_v47 (subi : (⟨S5096, .i32⟩ : BufTy).Contents (Elt F) → (⟨S5096, .i32⟩ : BufTy).Contents (Elt F) → (⟨S5096, .i32⟩ : BufTy).Contents (Elt F)),
    nullary main_c_5 ((constantI S_ 32 100#32) : (⟨S_, .i32⟩ : BufTy).Contents (Elt F)),
    unary main_c_5 main_v48 (broadcastInDim S5096 ![] bcast_S_S5096 : (⟨S_, .i32⟩ : BufTy).Contents (Elt F) → (⟨S5096, .i32⟩ : BufTy).Contents (Elt F)),
    binary main_v47 main_v48 main_v49 (cmpi .slt : (⟨S5096, .i32⟩ : BufTy).Contents (Elt F) → (⟨S5096, .i32⟩ : BufTy).Contents (Elt F) → (⟨S5096, .i1⟩ : BufTy).Contents (Elt F)),
    nullary main_c_6 ((constantI S_ 1 0#1) : (⟨S_, .i1⟩ : BufTy).Contents (Elt F)),
    unary main_c_6 main_v50 (broadcastInDim S5096 ![] bcast_S_S5096 : (⟨S_, .i1⟩ : BufTy).Contents (Elt F) → (⟨S5096, .i1⟩ : BufTy).Contents (Elt F)),
    nullary main_c_7 ((constantI S_ 32 0#32) : (⟨S_, .i32⟩ : BufTy).Contents (Elt F)),
    unary main_c_7 main_v51 (broadcastInDim S5096 ![] bcast_S_S5096 : (⟨S_, .i32⟩ : BufTy).Contents (Elt F) → (⟨S5096, .i32⟩ : BufTy).Contents (Elt F)),
    binary main_v28 main_v51 main_v52 (cmpi .slt : (⟨S5096, .i32⟩ : BufTy).Contents (Elt F) → (⟨S5096, .i32⟩ : BufTy).Contents (Elt F) → (⟨S5096, .i1⟩ : BufTy).Contents (Elt F)),
    nullary main_c_8 ((constantI S_ 32 5096#32) : (⟨S_, .i32⟩ : BufTy).Contents (Elt F)),
    unary main_c_8 main_v53 (broadcastInDim S5096 ![] bcast_S_S5096 : (⟨S_, .i32⟩ : BufTy).Contents (Elt F) → (⟨S5096, .i32⟩ : BufTy).Contents (Elt F)),
    binary main_v28 main_v53 main_v54 (addi : (⟨S5096, .i32⟩ : BufTy).Contents (Elt F) → (⟨S5096, .i32⟩ : BufTy).Contents (Elt F) → (⟨S5096, .i32⟩ : BufTy).Contents (Elt F)),
    ternary main_v52 main_v54 main_v28 main_v55 (select : (⟨S5096, .i1⟩ : BufTy).Contents (Elt F) → (⟨S5096, .i32⟩ : BufTy).Contents (Elt F) → (⟨S5096, .i32⟩ : BufTy).Contents (Elt F) → (⟨S5096, .i32⟩ : BufTy).Contents (Elt F)),
    unary main_v55 main_v56 (broadcastInDim S5096x1 ![0] bcast_S5096_S5096x1_0 : (⟨S5096, .i32⟩ : BufTy).Contents (Elt F) → (⟨S5096x1, .i32⟩ : BufTy).Contents (Elt F)),
    ternary main_v50 main_v56 main_v49 main_v57 ((fun x i u => Host.scatter scatter_S5096_S5096x1_S5096_n_0_0_1 (fun _ b => b) x i u) : (⟨S5096, .i1⟩ : BufTy).Contents (Elt F) → (⟨S5096x1, .i32⟩ : BufTy).Contents (Elt F) → (⟨S5096, .i1⟩ : BufTy).Contents (Elt F) → (⟨S5096, .i1⟩ : BufTy).Contents (Elt F)),
    unary main_v57 main_v58 (uitofp .f32 : (⟨S5096, .i1⟩ : BufTy).Contents (Elt F) → (⟨S5096, .f32⟩ : BufTy).Contents (Elt F)),
    TRef.binary (TRef.of (T := ⟨S5096x512, .f32⟩) main_v24) (TRef.of (T := ⟨S5096x512, .f32⟩) main_v24) (TRef.of (T := ⟨S5096x512, .f32⟩) main_call8_v0) mulf,
    TRef.nullary (TRef.of (T := ⟨S_, .f32⟩) main_call8_cst) (constant S_ .f32 0x00000000#32),
    TRef.binary (TRef.of (T := ⟨S5096x512, .f32⟩) main_call8_v0) (TRef.of (T := ⟨S_, .f32⟩) main_call8_cst) (TRef.of (T := ⟨S5096, .f32⟩) main_call8_v1) (fun x v => Host.reduceAdd x v reducesTo_S5096x512_S5096_d1 h_S_),
    TRef.unary (TRef.of (T := ⟨S5096, .f32⟩) main_call8_v1) (TRef.of (T := ⟨S5096x1, .f32⟩) main_call8_v2) (broadcastInDim S5096x1 ![0] bcast_S5096_S5096x1_0),
    TRef.unary (TRef.of (T := ⟨S5096x1, .f32⟩) main_call8_v2) (TRef.of (T := ⟨S5096x1, .f32⟩) main_v59) Host.sqrt,
    nullary main_cst_9 ((constant S_ .f32 0x2B8CBCCC#32) : (⟨S_, .f32⟩ : BufTy).Contents (Elt F)),
    unary main_cst_9 main_v60 (broadcastInDim S5096x1 ![] bcast_S_S5096x1 : (⟨S_, .f32⟩ : BufTy).Contents (Elt F) → (⟨S5096x1, .f32⟩ : BufTy).Contents (Elt F)),
    binary main_v59 main_v60 main_v61 (maximumf : (⟨S5096x1, .f32⟩ : BufTy).Contents (Elt F) → (⟨S5096x1, .f32⟩ : BufTy).Contents (Elt F) → (⟨S5096x1, .f32⟩ : BufTy).Contents (Elt F)),
    unary main_v61 main_v62 (broadcastInDim S5096x512 ![0, 1] bcast_S5096x1_S5096x512_0_1 : (⟨S5096x1, .f32⟩ : BufTy).Contents (Elt F) → (⟨S5096x512, .f32⟩ : BufTy).Contents (Elt F)),
    binary main_v24 main_v62 main_v63 (Host.divf : (⟨S5096x512, .f32⟩ : BufTy).Contents (Elt F) → (⟨S5096x512, .f32⟩ : BufTy).Contents (Elt F) → (⟨S5096x512, .f32⟩ : BufTy).Contents (Elt F)),
    unary main_v63 main_v64 ((transpose S512x5096 [1, 0] · transposes_S5096x512_S512x5096_1_0) : (⟨S5096x512, .f32⟩ : BufTy).Contents (Elt F) → (⟨S512x5096, .f32⟩ : BufTy).Contents (Elt F)),
    unary main_v58 main_v65 (broadcastInDim S5096x1 ![0] bcast_S5096_S5096x1_0 : (⟨S5096, .f32⟩ : BufTy).Contents (Elt F) → (⟨S5096x1, .f32⟩ : BufTy).Contents (Elt F)),
    unary main_v65 main_v66 (broadcastInDim S5096x1000 ![0, 1] bcast_S5096x1_S5096x1000_0_1 : (⟨S5096x1, .f32⟩ : BufTy).Contents (Elt F) → (⟨S5096x1000, .f32⟩ : BufTy).Contents (Elt F)),
    binary main_v25 main_v66 main_v67 (mulf : (⟨S5096x1000, .f32⟩ : BufTy).Contents (Elt F) → (⟨S5096x1000, .f32⟩ : BufTy).Contents (Elt F) → (⟨S5096x1000, .f32⟩ : BufTy).Contents (Elt F)),
    binary main_v64 main_v67 main_v68 ((fun l r => Host.dotGeneral dot_S512x5096_S5096x1000_S512x1000_1_0_0_1_n_n none l r) : (⟨S512x5096, .f32⟩ : BufTy).Contents (Elt F) → (⟨S5096x1000, .f32⟩ : BufTy).Contents (Elt F) → (⟨S512x1000, .f32⟩ : BufTy).Contents (Elt F)),
    TRef.binary (TRef.of (T := ⟨S512x1000, .f32⟩) main_v68) (TRef.of (T := ⟨S512x1000, .f32⟩) main_v68) (TRef.of (T := ⟨S512x1000, .f32⟩) main_call9_v0) mulf,
    TRef.nullary (TRef.of (T := ⟨S_, .f32⟩) main_call9_cst) (constant S_ .f32 0x00000000#32),
    TRef.binary (TRef.of (T := ⟨S512x1000, .f32⟩) main_call9_v0) (TRef.of (T := ⟨S_, .f32⟩) main_call9_cst) (TRef.of (T := ⟨S1000, .f32⟩) main_call9_v1) (fun x v => Host.reduceAdd x v reducesTo_S512x1000_S1000_d0 h_S_),
    TRef.unary (TRef.of (T := ⟨S1000, .f32⟩) main_call9_v1) (TRef.of (T := ⟨S1x1000, .f32⟩) main_call9_v2) (broadcastInDim S1x1000 ![1] bcast_S1000_S1x1000_1),
    TRef.unary (TRef.of (T := ⟨S1x1000, .f32⟩) main_call9_v2) (TRef.of (T := ⟨S1x1000, .f32⟩) main_v69) Host.sqrt,
    nullary main_cst_10 ((constant S_ .f32 0x2B8CBCCC#32) : (⟨S_, .f32⟩ : BufTy).Contents (Elt F)),
    unary main_cst_10 main_v70 (broadcastInDim S1x1000 ![] bcast_S_S1x1000 : (⟨S_, .f32⟩ : BufTy).Contents (Elt F) → (⟨S1x1000, .f32⟩ : BufTy).Contents (Elt F)),
    binary main_v69 main_v70 main_v71 (maximumf : (⟨S1x1000, .f32⟩ : BufTy).Contents (Elt F) → (⟨S1x1000, .f32⟩ : BufTy).Contents (Elt F) → (⟨S1x1000, .f32⟩ : BufTy).Contents (Elt F)),
    unary main_v71 main_v72 (broadcastInDim S512x1000 ![0, 1] bcast_S1x1000_S512x1000_0_1 : (⟨S1x1000, .f32⟩ : BufTy).Contents (Elt F) → (⟨S512x1000, .f32⟩ : BufTy).Contents (Elt F)),
    binary main_v68 main_v72 main_v73 (Host.divf : (⟨S512x1000, .f32⟩ : BufTy).Contents (Elt F) → (⟨S512x1000, .f32⟩ : BufTy).Contents (Elt F) → (⟨S512x1000, .f32⟩ : BufTy).Contents (Elt F)),
    binary main_arg0 main_v73 main_v74 ((fun l r => Host.dotGeneral dot_S4096x512_S512x1000_S4096x1000_1_0_0_1_n_n none l r) : (⟨S4096x512, .f32⟩ : BufTy).Contents (Elt F) → (⟨S512x1000, .f32⟩ : BufTy).Contents (Elt F) → (⟨S4096x1000, .f32⟩ : BufTy).Contents (Elt F)) ]

/-- The tensor each of them writes. -/
abbrev wr : List (Ref sig .tc) :=
  [main_v0, main_v1, main_v2, main_v3, main_v4, main_call0_cst, main_call0_v0, main_call0_cst_0, main_call0_v1, main_call0_v2, main_call0_v3, main_call0_v4, main_call0_v5, main_call0_v6, main_call0_cst_1, main_call0_v7, main_call0_v8, main_call0_v9, main_call0_v10, main_v5, main_v6, main_v7, main_cst, main_v8, main_v9, main_call1_v0, main_call1_cst, main_call1_c, main_call1_v1_0, main_v10, main_call2_v0, main_call2_v1, main_call2_v2, main_call2_v3, main_call2_v4, main_v11, main_v12, main_v13, main_v14, main_v15, main_v16, main_call3_v0, main_call3_cst, main_call3_c, main_call3_v1_0, main_v17, main_call4_v0, main_call4_v1, main_call4_v2, main_call4_v3, main_call4_v4, main_v18, main_call5_cst, main_call5_v0, main_call5_cst_0, main_call5_v1, main_call5_v2, main_call5_v3, main_call5_v4, main_call5_v5, main_call5_v6, main_call5_cst_1, main_call5_v7, main_call5_v8, main_call5_v9, main_call5_v10, main_v19, main_v20, main_v21, main_cst_0, main_v22, main_v23, main_v24, main_v25, main_v26, main_call6_v0, main_call6_cst, main_call6_c, main_call6_v1_0, main_v27, main_call7_v0, main_call7_v1_0, main_call7_v1_1, main_v28, main_c, main_v29, main_v30, main_c_1, main_v31, main_v32, main_v33, main_v34, main_v35, main_v36, main_c_2, main_v37, main_v38, main_v39, main_c_3, main_v40, main_v41, main_c_4, main_v42, main_v43, main_v44, main_v45, main_v46, main_v47, main_c_5, main_v48, main_v49, main_c_6, main_v50, main_c_7, main_v51, main_v52, main_c_8, main_v53, main_v54, main_v55, main_v56, main_v57, main_v58, main_call8_v0, main_call8_cst, main_call8_v1, main_call8_v2, main_v59, main_cst_9, main_v60, main_v61, main_v62, main_v63, main_v64, main_v65, main_v66, main_v67, main_v68, main_call9_v0, main_call9_cst, main_call9_v1, main_call9_v2, main_v69, main_cst_10, main_v70, main_v71, main_v72, main_v73, main_v74]

set_option maxRecDepth 100000 in
set_option maxHeartbeats 8000000 in
theorem main_eq (c : Dev nD) : main (F := F) c = seq ops := by
  simp only [main, main_part0, main_part1, fn_log_softmax.body, fn_argmax.body, fn_one_hot.body, fn_argmax_0.body,
    fn_one_hot_1.body, fn_log_softmax_2.body, fn_argmax_3.body, fn_lexsort.body, fn_norm.body, fn_norm_4.body, bind_assoc,
    pure_bind, seq, ops]
theorem scopedRefs_eq : (Finset.univ.filter fun b : Ref sig .tc => b.isScoped) = ∅ := by decide +kernel
theorem scopedSems_eq : (Finset.univ.filter fun sm : SemLoc sig => sm.isScoped .tc) = ∅ := by decide
set_option maxRecDepth 20000 in
theorem ops_sub : (ops : List (HloOp τ sig (Elt F))).Forall fun op => op.bufs ⊆ tcRefs τ sig :=
  ⟨unary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., binary_bufs_sub .., nullary_bufs_sub .., binary_bufs_sub .., unary_bufs_sub .., nullary_bufs_sub .., nullary_bufs_sub .., nullary_bufs_sub .., quaternary_bufs_sub .., quaternary_bufs_sub .., unary_bufs_sub .., nullary_bufs_sub .., unary_bufs_sub .., unary_bufs_sub .., binary_bufs_sub .., unary_bufs_sub .., unary_bufs_sub .., binary_bufs_sub .., unary_bufs_sub .., unary_bufs_sub .., binary_bufs_sub .., nullary_bufs_sub .., nullary_bufs_sub .., nullary_bufs_sub .., quaternary_bufs_sub .., quaternary_bufs_sub .., unary_bufs_sub .., nullary_bufs_sub .., unary_bufs_sub .., unary_bufs_sub .., binary_bufs_sub .., unary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., binary_bufs_sub .., nullary_bufs_sub .., binary_bufs_sub .., unary_bufs_sub .., binary_bufs_sub .., binary_bufs_sub .., binary_bufs_sub .., nullary_bufs_sub .., nullary_bufs_sub .., nullary_bufs_sub .., quaternary_bufs_sub .., quaternary_bufs_sub .., nullary_bufs_sub .., ternary_bufs_sub .., ternary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., unary_bufs_sub .., binary_bufs_sub .., nullary_bufs_sub .., binary_bufs_sub .., unary_bufs_sub .., unary_bufs_sub .., nullary_bufs_sub .., unary_bufs_sub .., binary_bufs_sub .., unary_bufs_sub .., binary_bufs_sub .., unary_bufs_sub .., unary_bufs_sub .., unary_bufs_sub .., binary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub ..⟩
set_option maxRecDepth 20000 in
set_option maxHeartbeats 8000000 in
theorem writes_eq : (ops : List (HloOp τ sig (Elt F))).map (fun op => op.writes) = wr.map (fun r => {Proc.devRef (τ := τ) .tc r}) := rfl

end Cert.ReferenceIdeal.Value

end
-- ==== Proof.Ref.lean ====
module

public import proofs.«01_k».proof.Proof.RefOps

@[expose] public section

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-! ## A line of operations each writing a tensor of its own -/

/-- A tensor not among those written keeps its contents. -/
theorem keep_of (l : List (HloOp τ sig (Elt F))) (w : List (Ref sig .tc))
    (h : l.map (fun op => op.writes) = w.map (fun r => {Proc.devRef (τ := τ) .tc r})) (y : Ref sig .tc) (hy : y ∉ w)
    (V : Valuation τ sig (Elt F)) : after l V y = V y := by
  induction l generalizing w V with
  | nil => rfl
  | cons op l ih =>
    cases w with
    | nil => simp at h
    | cons r w =>
      rw [List.map_cons, List.map_cons, List.cons.injEq] at h
      rw [after_cons, ih w h.2 (fun hm => hy (List.mem_cons_of_mem _ hm))]
      exact result_of_writes_ne op V r y h.1 (fun e => hy (e ▸ List.mem_cons_self))

theorem drop_writes (k : Nat) :
    ((ops (F := F)).drop k).map (fun op => op.writes) = (wr.drop k).map (fun r => {Proc.devRef (τ := τ) .tc r}) := by
  rw [List.map_drop, List.map_drop, writes_eq]

theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- Before the `k`-th operation a tensor written by none from there on is already final. -/
theorem before (k : Nat) (V : Valuation τ sig (Elt F)) (a : Ref sig .tc) (ha : a ∉ wr.drop k) :
    after ((ops (F := F)).take k) V a = after ops V a := by
  conv_rhs => rw [← List.take_append_drop k (ops (F := F)), after_append]
  exact (keep_of _ _ (drop_writes k) a ha _).symm

/-- A tensor written last by the `k`-th operation is that operation's result. -/
theorem step (k : Nat) (op : HloOp τ sig (Elt F)) (y : Ref sig .tc) (hop : (ops (F := F))[k]? = some op) (hy : y ∉ wr.drop (k + 1))
    (V : Valuation τ sig (Elt F)) : after ops V y = op.result (after ((ops (F := F)).take k) V) y := by
  obtain ⟨hk, he⟩ := List.getElem?_eq_some_iff.mp hop
  conv_lhs => rw [← List.take_append_drop k (ops (F := F)), after_append, List.drop_eq_getElem_cons hk, he, after_cons]
  exact keep_of _ _ (drop_writes (k + 1)) y hy _

theorem ssa0 (V : Valuation τ sig (Elt F)) (k : Nat) (y : Ref sig .tc) (f : y.ty.Contents (Elt F)) {h}
    (hop : (ops (F := F))[k]? = some (nullary y f h)) (hy : y ∉ wr.drop (k + 1)) : after ops V y = f :=
  (step k _ y hop hy V).trans (nullary_result ..)

theorem ssa1 (V : Valuation τ sig (Elt F)) (k : Nat) (a y : Ref sig .tc) (f : a.ty.Contents (Elt F) → y.ty.Contents (Elt F)) {h h'}
    (hop : (ops (F := F))[k]? = some (unary a y f h h')) (ha : a ∉ wr.drop k) (hy : y ∉ wr.drop (k + 1)) :
    after ops V y = f (after ops V a) :=
  (step k _ y hop hy V).trans ((unary_result ..).trans (congrArg f (before k V a ha)))

theorem ssa2 (V : Valuation τ sig (Elt F)) (k : Nat) (a b y : Ref sig .tc)
    (f : a.ty.Contents (Elt F) → b.ty.Contents (Elt F) → y.ty.Contents (Elt F)) {h h' h''}
    (hop : (ops (F := F))[k]? = some (binary a b y f h h' h'')) (ha : a ∉ wr.drop k) (hb : b ∉ wr.drop k) (hy : y ∉ wr.drop (k + 1)) :
    after ops V y = f (after ops V a) (after ops V b) :=
  (step k _ y hop hy V).trans ((binary_result ..).trans (congrArg₂ f (before k V a ha) (before k V b hb)))

theorem ssa3 (V : Valuation τ sig (Elt F)) (k : Nat) (a b c y : Ref sig .tc)
    (f : a.ty.Contents (Elt F) → b.ty.Contents (Elt F) → c.ty.Contents (Elt F) → y.ty.Contents (Elt F)) {h h' h'' h₃}
    (hop : (ops (F := F))[k]? = some (ternary a b c y f h h' h'' h₃)) (ha : a ∉ wr.drop k) (hb : b ∉ wr.drop k) (hc : c ∉ wr.drop k)
    (hy : y ∉ wr.drop (k + 1)) : after ops V y = f (after ops V a) (after ops V b) (after ops V c) :=
  (step k _ y hop hy V).trans ((ternary_result ..).trans (by rw [before k V a ha, before k V b hb, before k V c hc]))

theorem ssa4 (V : Valuation τ sig (Elt F)) (k : Nat) (a b c e y : Ref sig .tc)
    (f : a.ty.Contents (Elt F) → b.ty.Contents (Elt F) → c.ty.Contents (Elt F) → e.ty.Contents (Elt F) → y.ty.Contents (Elt F))
    {h h' h'' h₃ h₄} (hop : (ops (F := F))[k]? = some (quaternary a b c e y f h h' h'' h₃ h₄)) (ha : a ∉ wr.drop k) (hb : b ∉ wr.drop k)
    (hc : c ∉ wr.drop k) (he : e ∉ wr.drop k) (hy : y ∉ wr.drop (k + 1)) :
    after ops V y = f (after ops V a) (after ops V b) (after ops V c) (after ops V e) :=
  (step k _ y hop hy V).trans ((quaternary_result ..).trans (by
    rw [before k V a ha, before k V b hb, before k V c hc, before k V e he]))

theorem ssa2T (V : Valuation τ sig (Elt F)) (k : Nat) {A B Y : BufTy} (a : TRef sig A) (b : TRef sig B) (y : TRef sig Y)
    (f : A.Contents (Elt F) → B.Contents (Elt F) → Y.Contents (Elt F))
    (hop : (ops (F := F))[k]? = some (TRef.binary a b y f)) (ha : a.ref ∉ wr.drop k) (hb : b.ref ∉ wr.drop k)
    (hy : y.ref ∉ wr.drop (k + 1)) :
    after ops V y.ref = y.toBuf (f (a.ofBuf (after ops V a.ref)) (b.ofBuf (after ops V b.ref))) :=
  ssa2 V k _ _ _ _ hop ha hb hy

theorem ssa4T (V : Valuation τ sig (Elt F)) (k : Nat) {A B C E Y : BufTy} (a : TRef sig A) (b : TRef sig B) (c : TRef sig C)
    (e : TRef sig E) (y : TRef sig Y)
    (f : A.Contents (Elt F) → B.Contents (Elt F) → C.Contents (Elt F) → E.Contents (Elt F) → Y.Contents (Elt F))
    (hop : (ops (F := F))[k]? = some (TRef.quaternary a b c e y f)) (ha : a.ref ∉ wr.drop k) (hb : b.ref ∉ wr.drop k)
    (hc : c.ref ∉ wr.drop k) (he : e.ref ∉ wr.drop k) (hy : y.ref ∉ wr.drop (k + 1)) :
    after ops V y.ref = y.toBuf (f (a.ofBuf (after ops V a.ref)) (b.ofBuf (after ops V b.ref)) (c.ofBuf (after ops V c.ref))
      (e.ofBuf (after ops V e.ref))) :=
  ssa4 V k _ _ _ _ _ _ hop ha hb hc he hy

/-! ## The tensors -/

variable (V : Valuation τ sig (Elt F))

def a0 : (⟨S4096x512, .f32⟩ : BufTy).Contents (Elt F) := after ops V main_arg0
def a1 : (⟨S1000x512, .f32⟩ : BufTy).Contents (Elt F) := after ops V main_arg1
def a2 : (⟨S1000, .f32⟩ : BufTy).Contents (Elt F) := after ops V main_arg2
def v0 : (⟨S512x1000, .f32⟩ : BufTy).Contents (Elt F) := after ops V main_v0
def v1 : (⟨S1000x1000, .f32⟩ : BufTy).Contents (Elt F) := after ops V main_v1
def v2 : (⟨S1x1000, .f32⟩ : BufTy).Contents (Elt F) := after ops V main_v2
def v3 : (⟨S1000x1000, .f32⟩ : BufTy).Contents (Elt F) := after ops V main_v3
def v4 : (⟨S1000x1000, .f32⟩ : BufTy).Contents (Elt F) := after ops V main_v4
def k0_cst : (⟨S_, .f32⟩ : BufTy).Contents (Elt F) := after ops V main_call0_cst
def k0_v0 : (⟨S1000, .f32⟩ : BufTy).Contents (Elt F) := after ops V main_call0_v0
def k0_cst_0 : (⟨S_, .f32⟩ : BufTy).Contents (Elt F) := after ops V main_call0_cst_0
def k0_v1 : (⟨S1000, .f32⟩ : BufTy).Contents (Elt F) := after ops V main_call0_v1
def k0_v2 : (⟨S1000, .f32⟩ : BufTy).Contents (Elt F) := after ops V main_call0_v2
def k0_v3 : (⟨S1000x1, .f32⟩ : BufTy).Contents (Elt F) := after ops V main_call0_v3
def k0_v4 : (⟨S1000x1000, .f32⟩ : BufTy).Contents (Elt F) := after ops V main_call0_v4
def k0_v5 : (⟨S1000x1000, .f32⟩ : BufTy).Contents (Elt F) := after ops V main_call0_v5
def k0_v6 : (⟨S1000x1000, .f32⟩ : BufTy).Contents (Elt F) := after ops V main_call0_v6
def k0_cst_1 : (⟨S_, .f32⟩ : BufTy).Contents (Elt F) := after ops V main_call0_cst_1
def k0_v7 : (⟨S1000, .f32⟩ : BufTy).Contents (Elt F) := after ops V main_call0_v7
def k0_v8 : (⟨S1000x1, .f32⟩ : BufTy).Contents (Elt F) := after ops V main_call0_v8
def k0_v9 : (⟨S1000x1, .f32⟩ : BufTy).Contents (Elt F) := after ops V main_call0_v9
def k0_v10 : (⟨S1000x1000, .f32⟩ : BufTy).Contents (Elt F) := after ops V main_call0_v10
def v5 : (⟨S1000x1000, .f32⟩ : BufTy).Contents (Elt F) := after ops V main_v5
def v6 : (⟨S1000x1000, .f32⟩ : BufTy).Contents (Elt F) := after ops V main_v6
def v7 : (⟨S1000x1000, .f32⟩ : BufTy).Contents (Elt F) := after ops V main_v7
def cst : (⟨S_, .f32⟩ : BufTy).Contents (Elt F) := after ops V main_cst
def v8 : (⟨S1000, .f32⟩ : BufTy).Contents (Elt F) := after ops V main_v8
def v9 : (⟨S1000, .f32⟩ : BufTy).Contents (Elt F) := after ops V main_v9
def k1_v0 : (⟨S1000x1000, .i32⟩ : BufTy).Contents (Elt F) := after ops V main_call1_v0
def k1_cst : (⟨S_, .f32⟩ : BufTy).Contents (Elt F) := after ops V main_call1_cst
def k1_c : (⟨S_, .i32⟩ : BufTy).Contents (Elt F) := after ops V main_call1_c
def v10 : (⟨S1000, .i32⟩ : BufTy).Contents (Elt F) := after ops V main_v10
def k2_v0 : (⟨S1000x1, .i32⟩ : BufTy).Contents (Elt F) := after ops V main_call2_v0
def k2_v1 : (⟨S1x1000, .i32⟩ : BufTy).Contents (Elt F) := after ops V main_call2_v1
def k2_v2 : (⟨S1000x1000, .i32⟩ : BufTy).Contents (Elt F) := after ops V main_call2_v2
def k2_v3 : (⟨S1000x1000, .i32⟩ : BufTy).Contents (Elt F) := after ops V main_call2_v3
def k2_v4 : (⟨S1000x1000, .i1⟩ : BufTy).Contents (Elt F) := after ops V main_call2_v4
def v11 : (⟨S1000x1000, .f32⟩ : BufTy).Contents (Elt F) := after ops V main_v11
def v12 : (⟨S512x1000, .f32⟩ : BufTy).Contents (Elt F) := after ops V main_v12
def v13 : (⟨S4096x1000, .f32⟩ : BufTy).Contents (Elt F) := after ops V main_v13
def v14 : (⟨S1x1000, .f32⟩ : BufTy).Contents (Elt F) := after ops V main_v14
def v15 : (⟨S4096x1000, .f32⟩ : BufTy).Contents (Elt F) := after ops V main_v15
def v16 : (⟨S4096x1000, .f32⟩ : BufTy).Contents (Elt F) := after ops V main_v16
def k3_v0 : (⟨S4096x1000, .i32⟩ : BufTy).Contents (Elt F) := after ops V main_call3_v0
def k3_cst : (⟨S_, .f32⟩ : BufTy).Contents (Elt F) := after ops V main_call3_cst
def k3_c : (⟨S_, .i32⟩ : BufTy).Contents (Elt F) := after ops V main_call3_c
def v17 : (⟨S4096, .i32⟩ : BufTy).Contents (Elt F) := after ops V main_v17
def k4_v0 : (⟨S4096x1, .i32⟩ : BufTy).Contents (Elt F) := after ops V main_call4_v0
def k4_v1 : (⟨S1x1000, .i32⟩ : BufTy).Contents (Elt F) := after ops V main_call4_v1
def k4_v2 : (⟨S4096x1000, .i32⟩ : BufTy).Contents (Elt F) := after ops V main_call4_v2
def k4_v3 : (⟨S4096x1000, .i32⟩ : BufTy).Contents (Elt F) := after ops V main_call4_v3
def k4_v4 : (⟨S4096x1000, .i1⟩ : BufTy).Contents (Elt F) := after ops V main_call4_v4
def v18 : (⟨S4096x1000, .f32⟩ : BufTy).Contents (Elt F) := after ops V main_v18
def k5_cst : (⟨S_, .f32⟩ : BufTy).Contents (Elt F) := after ops V main_call5_cst
def k5_v0 : (⟨S4096, .f32⟩ : BufTy).Contents (Elt F) := after ops V main_call5_v0
def k5_cst_0 : (⟨S_, .f32⟩ : BufTy).Contents (Elt F) := after ops V main_call5_cst_0
def k5_v1 : (⟨S4096, .f32⟩ : BufTy).Contents (Elt F) := after ops V main_call5_v1
def k5_v2 : (⟨S4096, .f32⟩ : BufTy).Contents (Elt F) := after ops V main_call5_v2
def k5_v3 : (⟨S4096x1, .f32⟩ : BufTy).Contents (Elt F) := after ops V main_call5_v3
def k5_v4 : (⟨S4096x1000, .f32⟩ : BufTy).Contents (Elt F) := after ops V main_call5_v4
def k5_v5 : (⟨S4096x1000, .f32⟩ : BufTy).Contents (Elt F) := after ops V main_call5_v5
def k5_v6 : (⟨S4096x1000, .f32⟩ : BufTy).Contents (Elt F) := after ops V main_call5_v6
def k5_cst_1 : (⟨S_, .f32⟩ : BufTy).Contents (Elt F) := after ops V main_call5_cst_1
def k5_v7 : (⟨S4096, .f32⟩ : BufTy).Contents (Elt F) := after ops V main_call5_v7
def k5_v8 : (⟨S4096x1, .f32⟩ : BufTy).Contents (Elt F) := after ops V main_call5_v8
def k5_v9 : (⟨S4096x1, .f32⟩ : BufTy).Contents (Elt F) := after ops V main_call5_v9
def k5_v10 : (⟨S4096x1000, .f32⟩ : BufTy).Contents (Elt F) := after ops V main_call5_v10
def v19 : (⟨S4096x1000, .f32⟩ : BufTy).Contents (Elt F) := after ops V main_v19
def v20 : (⟨S4096x1000, .f32⟩ : BufTy).Contents (Elt F) := after ops V main_v20
def v21 : (⟨S4096x1000, .f32⟩ : BufTy).Contents (Elt F) := after ops V main_v21
def cst_0 : (⟨S_, .f32⟩ : BufTy).Contents (Elt F) := after ops V main_cst_0
def v22 : (⟨S4096, .f32⟩ : BufTy).Contents (Elt F) := after ops V main_v22
def v23 : (⟨S4096, .f32⟩ : BufTy).Contents (Elt F) := after ops V main_v23
def v24 : (⟨S5096x512, .f32⟩ : BufTy).Contents (Elt F) := after ops V main_v24
def v25 : (⟨S5096x1000, .f32⟩ : BufTy).Contents (Elt F) := after ops V main_v25
def v26 : (⟨S5096, .f32⟩ : BufTy).Contents (Elt F) := after ops V main_v26
def k6_v0 : (⟨S5096x1000, .i32⟩ : BufTy).Contents (Elt F) := after ops V main_call6_v0
def k6_cst : (⟨S_, .f32⟩ : BufTy).Contents (Elt F) := after ops V main_call6_cst
def k6_c : (⟨S_, .i32⟩ : BufTy).Contents (Elt F) := after ops V main_call6_c
def v27 : (⟨S5096, .i32⟩ : BufTy).Contents (Elt F) := after ops V main_v27
def k7_v0 : (⟨S5096, .i32⟩ : BufTy).Contents (Elt F) := after ops V main_call7_v0
def v28 : (⟨S5096, .i32⟩ : BufTy).Contents (Elt F) := after ops V main_v28
def c : (⟨S_, .i32⟩ : BufTy).Contents (Elt F) := after ops V main_c
def v29 : (⟨S5096, .i32⟩ : BufTy).Contents (Elt F) := after ops V main_v29
def v30 : (⟨S5096, .i1⟩ : BufTy).Contents (Elt F) := after ops V main_v30
def c_1 : (⟨S_, .i32⟩ : BufTy).Contents (Elt F) := after ops V main_c_1
def v31 : (⟨S5096, .i32⟩ : BufTy).Contents (Elt F) := after ops V main_v31
def v32 : (⟨S5096, .i32⟩ : BufTy).Contents (Elt F) := after ops V main_v32
def v33 : (⟨S5096, .i32⟩ : BufTy).Contents (Elt F) := after ops V main_v33
def v34 : (⟨S5096x1, .i32⟩ : BufTy).Contents (Elt F) := after ops V main_v34
def v35 : (⟨S5096, .i32⟩ : BufTy).Contents (Elt F) := after ops V main_v35
def v36 : (⟨S5096, .i32⟩ : BufTy).Contents (Elt F) := after ops V main_v36
def c_2 : (⟨S_, .i32⟩ : BufTy).Contents (Elt F) := after ops V main_c_2
def v37 : (⟨S1000, .i32⟩ : BufTy).Contents (Elt F) := after ops V main_v37
def v38 : (⟨S5096x1, .i32⟩ : BufTy).Contents (Elt F) := after ops V main_v38
def v39 : (⟨S1000, .i32⟩ : BufTy).Contents (Elt F) := after ops V main_v39
def c_3 : (⟨S_, .i32⟩ : BufTy).Contents (Elt F) := after ops V main_c_3
def v40 : (⟨S5096, .i32⟩ : BufTy).Contents (Elt F) := after ops V main_v40
def v41 : (⟨S5096, .i1⟩ : BufTy).Contents (Elt F) := after ops V main_v41
def c_4 : (⟨S_, .i32⟩ : BufTy).Contents (Elt F) := after ops V main_c_4
def v42 : (⟨S5096, .i32⟩ : BufTy).Contents (Elt F) := after ops V main_v42
def v43 : (⟨S5096, .i32⟩ : BufTy).Contents (Elt F) := after ops V main_v43
def v44 : (⟨S5096, .i32⟩ : BufTy).Contents (Elt F) := after ops V main_v44
def v45 : (⟨S5096x1, .i32⟩ : BufTy).Contents (Elt F) := after ops V main_v45
def v46 : (⟨S5096, .i32⟩ : BufTy).Contents (Elt F) := after ops V main_v46
def v47 : (⟨S5096, .i32⟩ : BufTy).Contents (Elt F) := after ops V main_v47
def c_5 : (⟨S_, .i32⟩ : BufTy).Contents (Elt F) := after ops V main_c_5
def v48 : (⟨S5096, .i32⟩ : BufTy).Contents (Elt F) := after ops V main_v48
def v49 : (⟨S5096, .i1⟩ : BufTy).Contents (Elt F) := after ops V main_v49
def c_6 : (⟨S_, .i1⟩ : BufTy).Contents (Elt F) := after ops V main_c_6
def v50 : (⟨S5096, .i1⟩ : BufTy).Contents (Elt F) := after ops V main_v50
def c_7 : (⟨S_, .i32⟩ : BufTy).Contents (Elt F) := after ops V main_c_7
def v51 : (⟨S5096, .i32⟩ : BufTy).Contents (Elt F) := after ops V main_v51
def v52 : (⟨S5096, .i1⟩ : BufTy).Contents (Elt F) := after ops V main_v52
def c_8 : (⟨S_, .i32⟩ : BufTy).Contents (Elt F) := after ops V main_c_8
def v53 : (⟨S5096, .i32⟩ : BufTy).Contents (Elt F) := after ops V main_v53
def v54 : (⟨S5096, .i32⟩ : BufTy).Contents (Elt F) := after ops V main_v54
def v55 : (⟨S5096, .i32⟩ : BufTy).Contents (Elt F) := after ops V main_v55
def v56 : (⟨S5096x1, .i32⟩ : BufTy).Contents (Elt F) := after ops V main_v56
def v57 : (⟨S5096, .i1⟩ : BufTy).Contents (Elt F) := after ops V main_v57
def v58 : (⟨S5096, .f32⟩ : BufTy).Contents (Elt F) := after ops V main_v58
def k8_v0 : (⟨S5096x512, .f32⟩ : BufTy).Contents (Elt F) := after ops V main_call8_v0
def k8_cst : (⟨S_, .f32⟩ : BufTy).Contents (Elt F) := after ops V main_call8_cst
def k8_v1 : (⟨S5096, .f32⟩ : BufTy).Contents (Elt F) := after ops V main_call8_v1
def k8_v2 : (⟨S5096x1, .f32⟩ : BufTy).Contents (Elt F) := after ops V main_call8_v2
def v59 : (⟨S5096x1, .f32⟩ : BufTy).Contents (Elt F) := after ops V main_v59
def cst_9 : (⟨S_, .f32⟩ : BufTy).Contents (Elt F) := after ops V main_cst_9
def v60 : (⟨S5096x1, .f32⟩ : BufTy).Contents (Elt F) := after ops V main_v60
def v61 : (⟨S5096x1, .f32⟩ : BufTy).Contents (Elt F) := after ops V main_v61
def v62 : (⟨S5096x512, .f32⟩ : BufTy).Contents (Elt F) := after ops V main_v62
def v63 : (⟨S5096x512, .f32⟩ : BufTy).Contents (Elt F) := after ops V main_v63
def v64 : (⟨S512x5096, .f32⟩ : BufTy).Contents (Elt F) := after ops V main_v64
def v65 : (⟨S5096x1, .f32⟩ : BufTy).Contents (Elt F) := after ops V main_v65
def v66 : (⟨S5096x1000, .f32⟩ : BufTy).Contents (Elt F) := after ops V main_v66
def v67 : (⟨S5096x1000, .f32⟩ : BufTy).Contents (Elt F) := after ops V main_v67
def v68 : (⟨S512x1000, .f32⟩ : BufTy).Contents (Elt F) := after ops V main_v68
def k9_v0 : (⟨S512x1000, .f32⟩ : BufTy).Contents (Elt F) := after ops V main_call9_v0
def k9_cst : (⟨S_, .f32⟩ : BufTy).Contents (Elt F) := after ops V main_call9_cst
def k9_v1 : (⟨S1000, .f32⟩ : BufTy).Contents (Elt F) := after ops V main_call9_v1
def k9_v2 : (⟨S1x1000, .f32⟩ : BufTy).Contents (Elt F) := after ops V main_call9_v2
def v69 : (⟨S1x1000, .f32⟩ : BufTy).Contents (Elt F) := after ops V main_v69
def cst_10 : (⟨S_, .f32⟩ : BufTy).Contents (Elt F) := after ops V main_cst_10
def v70 : (⟨S1x1000, .f32⟩ : BufTy).Contents (Elt F) := after ops V main_v70
def v71 : (⟨S1x1000, .f32⟩ : BufTy).Contents (Elt F) := after ops V main_v71
def v72 : (⟨S512x1000, .f32⟩ : BufTy).Contents (Elt F) := after ops V main_v72
def v73 : (⟨S512x1000, .f32⟩ : BufTy).Contents (Elt F) := after ops V main_v73
def v74 : (⟨S4096x1000, .f32⟩ : BufTy).Contents (Elt F) := after ops V main_v74

theorem a0_eq : a0 V = V main_arg0 := keep_of _ _ writes_eq main_arg0 (by decide +kernel) V
theorem a1_eq : a1 V = V main_arg1 := keep_of _ _ writes_eq main_arg1 (by decide +kernel) V
theorem a2_eq : a2 V = V main_arg2 := keep_of _ _ writes_eq main_arg2 (by decide +kernel) V
theorem v0_eq : v0 V = ((transpose S512x1000 [1, 0] · transposes_S1000x512_S512x1000_1_0) : (⟨S1000x512, .f32⟩ : BufTy).Contents (Elt F) → (⟨S512x1000, .f32⟩ : BufTy).Contents (Elt F)) (a1 V) :=
  ssa1 V 0 main_arg1 main_v0 ((transpose S512x1000 [1, 0] · transposes_S1000x512_S512x1000_1_0) : (⟨S1000x512, .f32⟩ : BufTy).Contents (Elt F) → (⟨S512x1000, .f32⟩ : BufTy).Contents (Elt F)) rfl (by decide +kernel) (by decide +kernel)
theorem v1_eq : v1 V = ((fun l r => Host.dotGeneral dot_S1000x512_S512x1000_S1000x1000_1_0_0_1_n_n none l r) : (⟨S1000x512, .f32⟩ : BufTy).Contents (Elt F) → (⟨S512x1000, .f32⟩ : BufTy).Contents (Elt F) → (⟨S1000x1000, .f32⟩ : BufTy).Contents (Elt F)) (a1 V) (v0 V) :=
  ssa2 V 1 main_arg1 main_v0 main_v1 ((fun l r => Host.dotGeneral dot_S1000x512_S512x1000_S1000x1000_1_0_0_1_n_n none l r) : (⟨S1000x512, .f32⟩ : BufTy).Contents (Elt F) → (⟨S512x1000, .f32⟩ : BufTy).Contents (Elt F) → (⟨S1000x1000, .f32⟩ : BufTy).Contents (Elt F)) rfl (by decide +kernel) (by decide +kernel) (by decide +kernel)
theorem v2_eq : v2 V = (broadcastInDim S1x1000 ![1] bcast_S1000_S1x1000_1 : (⟨S1000, .f32⟩ : BufTy).Contents (Elt F) → (⟨S1x1000, .f32⟩ : BufTy).Contents (Elt F)) (a2 V) :=
  ssa1 V 2 main_arg2 main_v2 (broadcastInDim S1x1000 ![1] bcast_S1000_S1x1000_1 : (⟨S1000, .f32⟩ : BufTy).Contents (Elt F) → (⟨S1x1000, .f32⟩ : BufTy).Contents (Elt F)) rfl (by decide +kernel) (by decide +kernel)
theorem v3_eq : v3 V = (broadcastInDim S1000x1000 ![0, 1] bcast_S1x1000_S1000x1000_0_1 : (⟨S1x1000, .f32⟩ : BufTy).Contents (Elt F) → (⟨S1000x1000, .f32⟩ : BufTy).Contents (Elt F)) (v2 V) :=
  ssa1 V 3 main_v2 main_v3 (broadcastInDim S1000x1000 ![0, 1] bcast_S1x1000_S1000x1000_0_1 : (⟨S1x1000, .f32⟩ : BufTy).Contents (Elt F) → (⟨S1000x1000, .f32⟩ : BufTy).Contents (Elt F)) rfl (by decide +kernel) (by decide +kernel)
theorem v4_eq : v4 V = (addf : (⟨S1000x1000, .f32⟩ : BufTy).Contents (Elt F) → (⟨S1000x1000, .f32⟩ : BufTy).Contents (Elt F) → (⟨S1000x1000, .f32⟩ : BufTy).Contents (Elt F)) (v1 V) (v3 V) :=
  ssa2 V 4 main_v1 main_v3 main_v4 (addf : (⟨S1000x1000, .f32⟩ : BufTy).Contents (Elt F) → (⟨S1000x1000, .f32⟩ : BufTy).Contents (Elt F) → (⟨S1000x1000, .f32⟩ : BufTy).Contents (Elt F)) rfl (by decide +kernel) (by decide +kernel) (by decide +kernel)
theorem k0_cst_eq : k0_cst V = ((constant S_ .f32 0xFF800000#32) : (⟨S_, .f32⟩ : BufTy).Contents (Elt F)) :=
  ssa0 V 5 main_call0_cst ((constant S_ .f32 0xFF800000#32) : (⟨S_, .f32⟩ : BufTy).Contents (Elt F)) rfl (by decide +kernel)
theorem k0_v0_eq : k0_v0 V = ((fun x v => Host.reduce FloatOps.maximumf x v reducesTo_S1000x1000_S1000_d1 h_S_) : (⟨S1000x1000, .f32⟩ : BufTy).Contents (Elt F) → (⟨S_, .f32⟩ : BufTy).Contents (Elt F) → (⟨S1000, .f32⟩ : BufTy).Contents (Elt F)) (v4 V) (k0_cst V) :=
  (ssa2T V 6 (TRef.of (T := ⟨S1000x1000, .f32⟩) main_v4) (TRef.of (T := ⟨S_, .f32⟩) main_call0_cst) (TRef.of (T := ⟨S1000, .f32⟩) main_call0_v0) ((fun x v => Host.reduce FloatOps.maximumf x v reducesTo_S1000x1000_S1000_d1 h_S_) : (⟨S1000x1000, .f32⟩ : BufTy).Contents (Elt F) → (⟨S_, .f32⟩ : BufTy).Contents (Elt F) → (⟨S1000, .f32⟩ : BufTy).Contents (Elt F)) rfl (by decide +kernel) (by decide +kernel) (by decide +kernel)).trans (by simp only [TRef.toBuf, TRef.ofBuf, cast_eq]; rfl)
theorem k0_cst_0_eq : k0_cst_0 V = ((constant S_ .f32 0xFF800000#32) : (⟨S_, .f32⟩ : BufTy).Contents (Elt F)) :=
  ssa0 V 7 main_call0_cst_0 ((constant S_ .f32 0xFF800000#32) : (⟨S_, .f32⟩ : BufTy).Contents (Elt F)) rfl (by decide +kernel)
theorem k0_v1_eq : k0_v1 V = ((broadcastInDim S1000 ![] bcast_S_S1000) : (⟨S_, .f32⟩ : BufTy).Contents (Elt F) → (⟨S1000, .f32⟩ : BufTy).Contents (Elt F)) (k0_cst_0 V) :=
  ssa1 V 8 main_call0_cst_0 main_call0_v1 ((broadcastInDim S1000 ![] bcast_S_S1000) : (⟨S_, .f32⟩ : BufTy).Contents (Elt F) → (⟨S1000, .f32⟩ : BufTy).Contents (Elt F)) rfl (by decide +kernel) (by decide +kernel)
theorem k0_v2_eq : k0_v2 V = (maximumf : (⟨S1000, .f32⟩ : BufTy).Contents (Elt F) → (⟨S1000, .f32⟩ : BufTy).Contents (Elt F) → (⟨S1000, .f32⟩ : BufTy).Contents (Elt F)) (k0_v1 V) (k0_v0 V) :=
  ssa2 V 9 main_call0_v1 main_call0_v0 main_call0_v2 (maximumf : (⟨S1000, .f32⟩ : BufTy).Contents (Elt F) → (⟨S1000, .f32⟩ : BufTy).Contents (Elt F) → (⟨S1000, .f32⟩ : BufTy).Contents (Elt F)) rfl (by decide +kernel) (by decide +kernel) (by decide +kernel)
theorem k0_v3_eq : k0_v3 V = ((broadcastInDim S1000x1 ![0] bcast_S1000_S1000x1_0) : (⟨S1000, .f32⟩ : BufTy).Contents (Elt F) → (⟨S1000x1, .f32⟩ : BufTy).Contents (Elt F)) (k0_v2 V) :=
  ssa1 V 10 main_call0_v2 main_call0_v3 ((broadcastInDim S1000x1 ![0] bcast_S1000_S1000x1_0) : (⟨S1000, .f32⟩ : BufTy).Contents (Elt F) → (⟨S1000x1, .f32⟩ : BufTy).Contents (Elt F)) rfl (by decide +kernel) (by decide +kernel)
theorem k0_v4_eq : k0_v4 V = ((broadcastInDim S1000x1000 ![0, 1] bcast_S1000x1_S1000x1000_0_1) : (⟨S1000x1, .f32⟩ : BufTy).Contents (Elt F) → (⟨S1000x1000, .f32⟩ : BufTy).Contents (Elt F)) (k0_v3 V) :=
  ssa1 V 11 main_call0_v3 main_call0_v4 ((broadcastInDim S1000x1000 ![0, 1] bcast_S1000x1_S1000x1000_0_1) : (⟨S1000x1, .f32⟩ : BufTy).Contents (Elt F) → (⟨S1000x1000, .f32⟩ : BufTy).Contents (Elt F)) rfl (by decide +kernel) (by decide +kernel)
theorem k0_v5_eq : k0_v5 V = (subf : (⟨S1000x1000, .f32⟩ : BufTy).Contents (Elt F) → (⟨S1000x1000, .f32⟩ : BufTy).Contents (Elt F) → (⟨S1000x1000, .f32⟩ : BufTy).Contents (Elt F)) (v4 V) (k0_v4 V) :=
  ssa2 V 12 main_v4 main_call0_v4 main_call0_v5 (subf : (⟨S1000x1000, .f32⟩ : BufTy).Contents (Elt F) → (⟨S1000x1000, .f32⟩ : BufTy).Contents (Elt F) → (⟨S1000x1000, .f32⟩ : BufTy).Contents (Elt F)) rfl (by decide +kernel) (by decide +kernel) (by decide +kernel)
theorem k0_v6_eq : k0_v6 V = (Host.exp : (⟨S1000x1000, .f32⟩ : BufTy).Contents (Elt F) → (⟨S1000x1000, .f32⟩ : BufTy).Contents (Elt F)) (k0_v5 V) :=
  ssa1 V 13 main_call0_v5 main_call0_v6 (Host.exp : (⟨S1000x1000, .f32⟩ : BufTy).Contents (Elt F) → (⟨S1000x1000, .f32⟩ : BufTy).Contents (Elt F)) rfl (by decide +kernel) (by decide +kernel)
theorem k0_cst_1_eq : k0_cst_1 V = ((constant S_ .f32 0x00000000#32) : (⟨S_, .f32⟩ : BufTy).Contents (Elt F)) :=
  ssa0 V 14 main_call0_cst_1 ((constant S_ .f32 0x00000000#32) : (⟨S_, .f32⟩ : BufTy).Contents (Elt F)) rfl (by decide +kernel)
theorem k0_v7_eq : k0_v7 V = ((fun x v => Host.reduceAdd x v reducesTo_S1000x1000_S1000_d1 h_S_) : (⟨S1000x1000, .f32⟩ : BufTy).Contents (Elt F) → (⟨S_, .f32⟩ : BufTy).Contents (Elt F) → (⟨S1000, .f32⟩ : BufTy).Contents (Elt F)) (k0_v6 V) (k0_cst_1 V) :=
  ssa2 V 15 main_call0_v6 main_call0_cst_1 main_call0_v7 ((fun x v => Host.reduceAdd x v reducesTo_S1000x1000_S1000_d1 h_S_) : (⟨S1000x1000, .f32⟩ : BufTy).Contents (Elt F) → (⟨S_, .f32⟩ : BufTy).Contents (Elt F) → (⟨S1000, .f32⟩ : BufTy).Contents (Elt F)) rfl (by decide +kernel) (by decide +kernel) (by decide +kernel)
theorem k0_v8_eq : k0_v8 V = ((broadcastInDim S1000x1 ![0] bcast_S1000_S1000x1_0) : (⟨S1000, .f32⟩ : BufTy).Contents (Elt F) → (⟨S1000x1, .f32⟩ : BufTy).Contents (Elt F)) (k0_v7 V) :=
  ssa1 V 16 main_call0_v7 main_call0_v8 ((broadcastInDim S1000x1 ![0] bcast_S1000_S1000x1_0) : (⟨S1000, .f32⟩ : BufTy).Contents (Elt F) → (⟨S1000x1, .f32⟩ : BufTy).Contents (Elt F)) rfl (by decide +kernel) (by decide +kernel)
theorem k0_v9_eq : k0_v9 V = (Host.log : (⟨S1000x1, .f32⟩ : BufTy).Contents (Elt F) → (⟨S1000x1, .f32⟩ : BufTy).Contents (Elt F)) (k0_v8 V) :=
  ssa1 V 17 main_call0_v8 main_call0_v9 (Host.log : (⟨S1000x1, .f32⟩ : BufTy).Contents (Elt F) → (⟨S1000x1, .f32⟩ : BufTy).Contents (Elt F)) rfl (by decide +kernel) (by decide +kernel)
theorem k0_v10_eq : k0_v10 V = ((broadcastInDim S1000x1000 ![0, 1] bcast_S1000x1_S1000x1000_0_1) : (⟨S1000x1, .f32⟩ : BufTy).Contents (Elt F) → (⟨S1000x1000, .f32⟩ : BufTy).Contents (Elt F)) (k0_v9 V) :=
  ssa1 V 18 main_call0_v9 main_call0_v10 ((broadcastInDim S1000x1000 ![0, 1] bcast_S1000x1_S1000x1000_0_1) : (⟨S1000x1, .f32⟩ : BufTy).Contents (Elt F) → (⟨S1000x1000, .f32⟩ : BufTy).Contents (Elt F)) rfl (by decide +kernel) (by decide +kernel)
theorem v5_eq : v5 V = (subf : (⟨S1000x1000, .f32⟩ : BufTy).Contents (Elt F) → (⟨S1000x1000, .f32⟩ : BufTy).Contents (Elt F) → (⟨S1000x1000, .f32⟩ : BufTy).Contents (Elt F)) (k0_v5 V) (k0_v10 V) :=
  ssa2 V 19 main_call0_v5 main_call0_v10 main_v5 (subf : (⟨S1000x1000, .f32⟩ : BufTy).Contents (Elt F) → (⟨S1000x1000, .f32⟩ : BufTy).Contents (Elt F) → (⟨S1000x1000, .f32⟩ : BufTy).Contents (Elt F)) rfl (by decide +kernel) (by decide +kernel) (by decide +kernel)
theorem v6_eq : v6 V = (Host.exp : (⟨S1000x1000, .f32⟩ : BufTy).Contents (Elt F) → (⟨S1000x1000, .f32⟩ : BufTy).Contents (Elt F)) (v5 V) :=
  ssa1 V 20 main_v5 main_v6 (Host.exp : (⟨S1000x1000, .f32⟩ : BufTy).Contents (Elt F) → (⟨S1000x1000, .f32⟩ : BufTy).Contents (Elt F)) rfl (by decide +kernel) (by decide +kernel)
theorem v7_eq : v7 V = (mulf : (⟨S1000x1000, .f32⟩ : BufTy).Contents (Elt F) → (⟨S1000x1000, .f32⟩ : BufTy).Contents (Elt F) → (⟨S1000x1000, .f32⟩ : BufTy).Contents (Elt F)) (v6 V) (v5 V) :=
  ssa2 V 21 main_v6 main_v5 main_v7 (mulf : (⟨S1000x1000, .f32⟩ : BufTy).Contents (Elt F) → (⟨S1000x1000, .f32⟩ : BufTy).Contents (Elt F) → (⟨S1000x1000, .f32⟩ : BufTy).Contents (Elt F)) rfl (by decide +kernel) (by decide +kernel) (by decide +kernel)
theorem cst_eq : cst V = ((constant S_ .f32 0x00000000#32) : (⟨S_, .f32⟩ : BufTy).Contents (Elt F)) :=
  ssa0 V 22 main_cst ((constant S_ .f32 0x00000000#32) : (⟨S_, .f32⟩ : BufTy).Contents (Elt F)) rfl (by decide +kernel)
theorem v8_eq : v8 V = ((fun x v => Host.reduceAdd x v reducesTo_S1000x1000_S1000_d1 h_S_) : (⟨S1000x1000, .f32⟩ : BufTy).Contents (Elt F) → (⟨S_, .f32⟩ : BufTy).Contents (Elt F) → (⟨S1000, .f32⟩ : BufTy).Contents (Elt F)) (v7 V) (cst V) :=
  ssa2 V 23 main_v7 main_cst main_v8 ((fun x v => Host.reduceAdd x v reducesTo_S1000x1000_S1000_d1 h_S_) : (⟨S1000x1000, .f32⟩ : BufTy).Contents (Elt F) → (⟨S_, .f32⟩ : BufTy).Contents (Elt F) → (⟨S1000, .f32⟩ : BufTy).Contents (Elt F)) rfl (by decide +kernel) (by decide +kernel) (by decide +kernel)
theorem v9_eq : v9 V = (Host.negf : (⟨S1000, .f32⟩ : BufTy).Contents (Elt F) → (⟨S1000, .f32⟩ : BufTy).Contents (Elt F)) (v8 V) :=
  ssa1 V 24 main_v8 main_v9 (Host.negf : (⟨S1000, .f32⟩ : BufTy).Contents (Elt F) → (⟨S1000, .f32⟩ : BufTy).Contents (Elt F)) rfl (by decide +kernel) (by decide +kernel)
theorem k1_v0_eq : k1_v0 V = ((iotaInDim S1000x1000 32 1) : (⟨S1000x1000, .i32⟩ : BufTy).Contents (Elt F)) :=
  ssa0 V 25 main_call1_v0 ((iotaInDim S1000x1000 32 1) : (⟨S1000x1000, .i32⟩ : BufTy).Contents (Elt F)) rfl (by decide +kernel)
theorem k1_cst_eq : k1_cst V = ((constant S_ .f32 0xFF800000#32) : (⟨S_, .f32⟩ : BufTy).Contents (Elt F)) :=
  ssa0 V 26 main_call1_cst ((constant S_ .f32 0xFF800000#32) : (⟨S_, .f32⟩ : BufTy).Contents (Elt F)) rfl (by decide +kernel)
theorem k1_c_eq : k1_c V = ((constantI S_ 32 0#32) : (⟨S_, .i32⟩ : BufTy).Contents (Elt F)) :=
  ssa0 V 27 main_call1_c ((constantI S_ 32 0#32) : (⟨S_, .i32⟩ : BufTy).Contents (Elt F)) rfl (by decide +kernel)
set_option maxRecDepth 100000 in
theorem v10_eq : v10 V = ((fun x y u v j => (Host.argReduce reducer_argmax_f32_i32 x y u v reducesTo_S1000x1000_S1000_d1 h_S_ j).2) : (⟨S1000x1000, .f32⟩ : BufTy).Contents (Elt F) → (⟨S1000x1000, .i32⟩ : BufTy).Contents (Elt F) → (⟨S_, .f32⟩ : BufTy).Contents (Elt F) → (⟨S_, .i32⟩ : BufTy).Contents (Elt F) → (⟨S1000, .i32⟩ : BufTy).Contents (Elt F)) (v4 V) (k1_v0 V) (k1_cst V) (k1_c V) :=
  (ssa4T V 29 (TRef.of (T := ⟨S1000x1000, .f32⟩) main_v4) (TRef.of (T := ⟨S1000x1000, .i32⟩) main_call1_v0) (TRef.of (T := ⟨S_, .f32⟩) main_call1_cst) (TRef.of (T := ⟨S_, .i32⟩) main_call1_c) (TRef.of (T := ⟨S1000, .i32⟩) main_v10) ((fun x y u v j => (Host.argReduce reducer_argmax_f32_i32 x y u v reducesTo_S1000x1000_S1000_d1 h_S_ j).2) : (⟨S1000x1000, .f32⟩ : BufTy).Contents (Elt F) → (⟨S1000x1000, .i32⟩ : BufTy).Contents (Elt F) → (⟨S_, .f32⟩ : BufTy).Contents (Elt F) → (⟨S_, .i32⟩ : BufTy).Contents (Elt F) → (⟨S1000, .i32⟩ : BufTy).Contents (Elt F)) rfl (by decide +kernel) (by decide +kernel) (by decide +kernel) (by decide +kernel) (by decide +kernel)).trans (by simp only [TRef.toBuf, TRef.ofBuf, cast_eq]; rfl)
theorem k2_v0_eq : k2_v0 V = ((broadcastInDim S1000x1 ![0] bcast_S1000_S1000x1_0) : (⟨S1000, .i32⟩ : BufTy).Contents (Elt F) → (⟨S1000x1, .i32⟩ : BufTy).Contents (Elt F)) (v10 V) :=
  ssa1 V 30 main_v10 main_call2_v0 ((broadcastInDim S1000x1 ![0] bcast_S1000_S1000x1_0) : (⟨S1000, .i32⟩ : BufTy).Contents (Elt F) → (⟨S1000x1, .i32⟩ : BufTy).Contents (Elt F)) rfl (by decide +kernel) (by decide +kernel)
theorem k2_v1_eq : k2_v1 V = ((iotaInDim S1x1000 32 1) : (⟨S1x1000, .i32⟩ : BufTy).Contents (Elt F)) :=
  ssa0 V 31 main_call2_v1 ((iotaInDim S1x1000 32 1) : (⟨S1x1000, .i32⟩ : BufTy).Contents (Elt F)) rfl (by decide +kernel)
theorem k2_v2_eq : k2_v2 V = ((broadcastInDim S1000x1000 ![0, 1] bcast_S1000x1_S1000x1000_0_1) : (⟨S1000x1, .i32⟩ : BufTy).Contents (Elt F) → (⟨S1000x1000, .i32⟩ : BufTy).Contents (Elt F)) (k2_v0 V) :=
  ssa1 V 32 main_call2_v0 main_call2_v2 ((broadcastInDim S1000x1000 ![0, 1] bcast_S1000x1_S1000x1000_0_1) : (⟨S1000x1, .i32⟩ : BufTy).Contents (Elt F) → (⟨S1000x1000, .i32⟩ : BufTy).Contents (Elt F)) rfl (by decide +kernel) (by decide +kernel)
theorem k2_v3_eq : k2_v3 V = ((broadcastInDim S1000x1000 ![0, 1] bcast_S1x1000_S1000x1000_0_1) : (⟨S1x1000, .i32⟩ : BufTy).Contents (Elt F) → (⟨S1000x1000, .i32⟩ : BufTy).Contents (Elt F)) (k2_v1 V) :=
  ssa1 V 33 main_call2_v1 main_call2_v3 ((broadcastInDim S1000x1000 ![0, 1] bcast_S1x1000_S1000x1000_0_1) : (⟨S1x1000, .i32⟩ : BufTy).Contents (Elt F) → (⟨S1000x1000, .i32⟩ : BufTy).Contents (Elt F)) rfl (by decide +kernel) (by decide +kernel)
theorem k2_v4_eq : k2_v4 V = ((cmpi .eq) : (⟨S1000x1000, .i32⟩ : BufTy).Contents (Elt F) → (⟨S1000x1000, .i32⟩ : BufTy).Contents (Elt F) → (⟨S1000x1000, .i1⟩ : BufTy).Contents (Elt F)) (k2_v2 V) (k2_v3 V) :=
  ssa2 V 34 main_call2_v2 main_call2_v3 main_call2_v4 ((cmpi .eq) : (⟨S1000x1000, .i32⟩ : BufTy).Contents (Elt F) → (⟨S1000x1000, .i32⟩ : BufTy).Contents (Elt F) → (⟨S1000x1000, .i1⟩ : BufTy).Contents (Elt F)) rfl (by decide +kernel) (by decide +kernel) (by decide +kernel)
theorem v11_eq : v11 V = ((uitofp .f32) : (⟨S1000x1000, .i1⟩ : BufTy).Contents (Elt F) → (⟨S1000x1000, .f32⟩ : BufTy).Contents (Elt F)) (k2_v4 V) :=
  ssa1 V 35 main_call2_v4 main_v11 ((uitofp .f32) : (⟨S1000x1000, .i1⟩ : BufTy).Contents (Elt F) → (⟨S1000x1000, .f32⟩ : BufTy).Contents (Elt F)) rfl (by decide +kernel) (by decide +kernel)
theorem v12_eq : v12 V = ((transpose S512x1000 [1, 0] · transposes_S1000x512_S512x1000_1_0) : (⟨S1000x512, .f32⟩ : BufTy).Contents (Elt F) → (⟨S512x1000, .f32⟩ : BufTy).Contents (Elt F)) (a1 V) :=
  ssa1 V 36 main_arg1 main_v12 ((transpose S512x1000 [1, 0] · transposes_S1000x512_S512x1000_1_0) : (⟨S1000x512, .f32⟩ : BufTy).Contents (Elt F) → (⟨S512x1000, .f32⟩ : BufTy).Contents (Elt F)) rfl (by decide +kernel) (by decide +kernel)
theorem v13_eq : v13 V = ((fun l r => Host.dotGeneral dot_S4096x512_S512x1000_S4096x1000_1_0_0_1_n_n none l r) : (⟨S4096x512, .f32⟩ : BufTy).Contents (Elt F) → (⟨S512x1000, .f32⟩ : BufTy).Contents (Elt F) → (⟨S4096x1000, .f32⟩ : BufTy).Contents (Elt F)) (a0 V) (v12 V) :=
  ssa2 V 37 main_arg0 main_v12 main_v13 ((fun l r => Host.dotGeneral dot_S4096x512_S512x1000_S4096x1000_1_0_0_1_n_n none l r) : (⟨S4096x512, .f32⟩ : BufTy).Contents (Elt F) → (⟨S512x1000, .f32⟩ : BufTy).Contents (Elt F) → (⟨S4096x1000, .f32⟩ : BufTy).Contents (Elt F)) rfl (by decide +kernel) (by decide +kernel) (by decide +kernel)
theorem v14_eq : v14 V = (broadcastInDim S1x1000 ![1] bcast_S1000_S1x1000_1 : (⟨S1000, .f32⟩ : BufTy).Contents (Elt F) → (⟨S1x1000, .f32⟩ : BufTy).Contents (Elt F)) (a2 V) :=
  ssa1 V 38 main_arg2 main_v14 (broadcastInDim S1x1000 ![1] bcast_S1000_S1x1000_1 : (⟨S1000, .f32⟩ : BufTy).Contents (Elt F) → (⟨S1x1000, .f32⟩ : BufTy).Contents (Elt F)) rfl (by decide +kernel) (by decide +kernel)
theorem v15_eq : v15 V = (broadcastInDim S4096x1000 ![0, 1] bcast_S1x1000_S4096x1000_0_1 : (⟨S1x1000, .f32⟩ : BufTy).Contents (Elt F) → (⟨S4096x1000, .f32⟩ : BufTy).Contents (Elt F)) (v14 V) :=
  ssa1 V 39 main_v14 main_v15 (broadcastInDim S4096x1000 ![0, 1] bcast_S1x1000_S4096x1000_0_1 : (⟨S1x1000, .f32⟩ : BufTy).Contents (Elt F) → (⟨S4096x1000, .f32⟩ : BufTy).Contents (Elt F)) rfl (by decide +kernel) (by decide +kernel)
theorem v16_eq : v16 V = (addf : (⟨S4096x1000, .f32⟩ : BufTy).Contents (Elt F) → (⟨S4096x1000, .f32⟩ : BufTy).Contents (Elt F) → (⟨S4096x1000, .f32⟩ : BufTy).Contents (Elt F)) (v13 V) (v15 V) :=
  ssa2 V 40 main_v13 main_v15 main_v16 (addf : (⟨S4096x1000, .f32⟩ : BufTy).Contents (Elt F) → (⟨S4096x1000, .f32⟩ : BufTy).Contents (Elt F) → (⟨S4096x1000, .f32⟩ : BufTy).Contents (Elt F)) rfl (by decide +kernel) (by decide +kernel) (by decide +kernel)
theorem k3_v0_eq : k3_v0 V = ((iotaInDim S4096x1000 32 1) : (⟨S4096x1000, .i32⟩ : BufTy).Contents (Elt F)) :=
  ssa0 V 41 main_call3_v0 ((iotaInDim S4096x1000 32 1) : (⟨S4096x1000, .i32⟩ : BufTy).Contents (Elt F)) rfl (by decide +kernel)
theorem k3_cst_eq : k3_cst V = ((constant S_ .f32 0xFF800000#32) : (⟨S_, .f32⟩ : BufTy).Contents (Elt F)) :=
  ssa0 V 42 main_call3_cst ((constant S_ .f32 0xFF800000#32) : (⟨S_, .f32⟩ : BufTy).Contents (Elt F)) rfl (by decide +kernel)
theorem k3_c_eq : k3_c V = ((constantI S_ 32 0#32) : (⟨S_, .i32⟩ : BufTy).Contents (Elt F)) :=
  ssa0 V 43 main_call3_c ((constantI S_ 32 0#32) : (⟨S_, .i32⟩ : BufTy).Contents (Elt F)) rfl (by decide +kernel)
set_option maxRecDepth 100000 in
theorem v17_eq : v17 V = ((fun x y u v j => (Host.argReduce reducer_argmax_f32_i32 x y u v reducesTo_S4096x1000_S4096_d1 h_S_ j).2) : (⟨S4096x1000, .f32⟩ : BufTy).Contents (Elt F) → (⟨S4096x1000, .i32⟩ : BufTy).Contents (Elt F) → (⟨S_, .f32⟩ : BufTy).Contents (Elt F) → (⟨S_, .i32⟩ : BufTy).Contents (Elt F) → (⟨S4096, .i32⟩ : BufTy).Contents (Elt F)) (v16 V) (k3_v0 V) (k3_cst V) (k3_c V) :=
  (ssa4T V 45 (TRef.of (T := ⟨S4096x1000, .f32⟩) main_v16) (TRef.of (T := ⟨S4096x1000, .i32⟩) main_call3_v0) (TRef.of (T := ⟨S_, .f32⟩) main_call3_cst) (TRef.of (T := ⟨S_, .i32⟩) main_call3_c) (TRef.of (T := ⟨S4096, .i32⟩) main_v17) ((fun x y u v j => (Host.argReduce reducer_argmax_f32_i32 x y u v reducesTo_S4096x1000_S4096_d1 h_S_ j).2) : (⟨S4096x1000, .f32⟩ : BufTy).Contents (Elt F) → (⟨S4096x1000, .i32⟩ : BufTy).Contents (Elt F) → (⟨S_, .f32⟩ : BufTy).Contents (Elt F) → (⟨S_, .i32⟩ : BufTy).Contents (Elt F) → (⟨S4096, .i32⟩ : BufTy).Contents (Elt F)) rfl (by decide +kernel) (by decide +kernel) (by decide +kernel) (by decide +kernel) (by decide +kernel)).trans (by simp only [TRef.toBuf, TRef.ofBuf, cast_eq]; rfl)
theorem k4_v0_eq : k4_v0 V = ((broadcastInDim S4096x1 ![0] bcast_S4096_S4096x1_0) : (⟨S4096, .i32⟩ : BufTy).Contents (Elt F) → (⟨S4096x1, .i32⟩ : BufTy).Contents (Elt F)) (v17 V) :=
  ssa1 V 46 main_v17 main_call4_v0 ((broadcastInDim S4096x1 ![0] bcast_S4096_S4096x1_0) : (⟨S4096, .i32⟩ : BufTy).Contents (Elt F) → (⟨S4096x1, .i32⟩ : BufTy).Contents (Elt F)) rfl (by decide +kernel) (by decide +kernel)
theorem k4_v1_eq : k4_v1 V = ((iotaInDim S1x1000 32 1) : (⟨S1x1000, .i32⟩ : BufTy).Contents (Elt F)) :=
  ssa0 V 47 main_call4_v1 ((iotaInDim S1x1000 32 1) : (⟨S1x1000, .i32⟩ : BufTy).Contents (Elt F)) rfl (by decide +kernel)
theorem k4_v2_eq : k4_v2 V = ((broadcastInDim S4096x1000 ![0, 1] bcast_S4096x1_S4096x1000_0_1) : (⟨S4096x1, .i32⟩ : BufTy).Contents (Elt F) → (⟨S4096x1000, .i32⟩ : BufTy).Contents (Elt F)) (k4_v0 V) :=
  ssa1 V 48 main_call4_v0 main_call4_v2 ((broadcastInDim S4096x1000 ![0, 1] bcast_S4096x1_S4096x1000_0_1) : (⟨S4096x1, .i32⟩ : BufTy).Contents (Elt F) → (⟨S4096x1000, .i32⟩ : BufTy).Contents (Elt F)) rfl (by decide +kernel) (by decide +kernel)
theorem k4_v3_eq : k4_v3 V = ((broadcastInDim S4096x1000 ![0, 1] bcast_S1x1000_S4096x1000_0_1) : (⟨S1x1000, .i32⟩ : BufTy).Contents (Elt F) → (⟨S4096x1000, .i32⟩ : BufTy).Contents (Elt F)) (k4_v1 V) :=
  ssa1 V 49 main_call4_v1 main_call4_v3 ((broadcastInDim S4096x1000 ![0, 1] bcast_S1x1000_S4096x1000_0_1) : (⟨S1x1000, .i32⟩ : BufTy).Contents (Elt F) → (⟨S4096x1000, .i32⟩ : BufTy).Contents (Elt F)) rfl (by decide +kernel) (by decide +kernel)
theorem k4_v4_eq : k4_v4 V = ((cmpi .eq) : (⟨S4096x1000, .i32⟩ : BufTy).Contents (Elt F) → (⟨S4096x1000, .i32⟩ : BufTy).Contents (Elt F) → (⟨S4096x1000, .i1⟩ : BufTy).Contents (Elt F)) (k4_v2 V) (k4_v3 V) :=
  ssa2 V 50 main_call4_v2 main_call4_v3 main_call4_v4 ((cmpi .eq) : (⟨S4096x1000, .i32⟩ : BufTy).Contents (Elt F) → (⟨S4096x1000, .i32⟩ : BufTy).Contents (Elt F) → (⟨S4096x1000, .i1⟩ : BufTy).Contents (Elt F)) rfl (by decide +kernel) (by decide +kernel) (by decide +kernel)
theorem v18_eq : v18 V = ((uitofp .f32) : (⟨S4096x1000, .i1⟩ : BufTy).Contents (Elt F) → (⟨S4096x1000, .f32⟩ : BufTy).Contents (Elt F)) (k4_v4 V) :=
  ssa1 V 51 main_call4_v4 main_v18 ((uitofp .f32) : (⟨S4096x1000, .i1⟩ : BufTy).Contents (Elt F) → (⟨S4096x1000, .f32⟩ : BufTy).Contents (Elt F)) rfl (by decide +kernel) (by decide +kernel)
theorem k5_cst_eq : k5_cst V = ((constant S_ .f32 0xFF800000#32) : (⟨S_, .f32⟩ : BufTy).Contents (Elt F)) :=
  ssa0 V 52 main_call5_cst ((constant S_ .f32 0xFF800000#32) : (⟨S_, .f32⟩ : BufTy).Contents (Elt F)) rfl (by decide +kernel)
theorem k5_v0_eq : k5_v0 V = ((fun x v => Host.reduce FloatOps.maximumf x v reducesTo_S4096x1000_S4096_d1 h_S_) : (⟨S4096x1000, .f32⟩ : BufTy).Contents (Elt F) → (⟨S_, .f32⟩ : BufTy).Contents (Elt F) → (⟨S4096, .f32⟩ : BufTy).Contents (Elt F)) (v16 V) (k5_cst V) :=
  (ssa2T V 53 (TRef.of (T := ⟨S4096x1000, .f32⟩) main_v16) (TRef.of (T := ⟨S_, .f32⟩) main_call5_cst) (TRef.of (T := ⟨S4096, .f32⟩) main_call5_v0) ((fun x v => Host.reduce FloatOps.maximumf x v reducesTo_S4096x1000_S4096_d1 h_S_) : (⟨S4096x1000, .f32⟩ : BufTy).Contents (Elt F) → (⟨S_, .f32⟩ : BufTy).Contents (Elt F) → (⟨S4096, .f32⟩ : BufTy).Contents (Elt F)) rfl (by decide +kernel) (by decide +kernel) (by decide +kernel)).trans (by simp only [TRef.toBuf, TRef.ofBuf, cast_eq]; rfl)
theorem k5_cst_0_eq : k5_cst_0 V = ((constant S_ .f32 0xFF800000#32) : (⟨S_, .f32⟩ : BufTy).Contents (Elt F)) :=
  ssa0 V 54 main_call5_cst_0 ((constant S_ .f32 0xFF800000#32) : (⟨S_, .f32⟩ : BufTy).Contents (Elt F)) rfl (by decide +kernel)
theorem k5_v1_eq : k5_v1 V = ((broadcastInDim S4096 ![] bcast_S_S4096) : (⟨S_, .f32⟩ : BufTy).Contents (Elt F) → (⟨S4096, .f32⟩ : BufTy).Contents (Elt F)) (k5_cst_0 V) :=
  ssa1 V 55 main_call5_cst_0 main_call5_v1 ((broadcastInDim S4096 ![] bcast_S_S4096) : (⟨S_, .f32⟩ : BufTy).Contents (Elt F) → (⟨S4096, .f32⟩ : BufTy).Contents (Elt F)) rfl (by decide +kernel) (by decide +kernel)
theorem k5_v2_eq : k5_v2 V = (maximumf : (⟨S4096, .f32⟩ : BufTy).Contents (Elt F) → (⟨S4096, .f32⟩ : BufTy).Contents (Elt F) → (⟨S4096, .f32⟩ : BufTy).Contents (Elt F)) (k5_v1 V) (k5_v0 V) :=
  ssa2 V 56 main_call5_v1 main_call5_v0 main_call5_v2 (maximumf : (⟨S4096, .f32⟩ : BufTy).Contents (Elt F) → (⟨S4096, .f32⟩ : BufTy).Contents (Elt F) → (⟨S4096, .f32⟩ : BufTy).Contents (Elt F)) rfl (by decide +kernel) (by decide +kernel) (by decide +kernel)
theorem k5_v3_eq : k5_v3 V = ((broadcastInDim S4096x1 ![0] bcast_S4096_S4096x1_0) : (⟨S4096, .f32⟩ : BufTy).Contents (Elt F) → (⟨S4096x1, .f32⟩ : BufTy).Contents (Elt F)) (k5_v2 V) :=
  ssa1 V 57 main_call5_v2 main_call5_v3 ((broadcastInDim S4096x1 ![0] bcast_S4096_S4096x1_0) : (⟨S4096, .f32⟩ : BufTy).Contents (Elt F) → (⟨S4096x1, .f32⟩ : BufTy).Contents (Elt F)) rfl (by decide +kernel) (by decide +kernel)
theorem k5_v4_eq : k5_v4 V = ((broadcastInDim S4096x1000 ![0, 1] bcast_S4096x1_S4096x1000_0_1) : (⟨S4096x1, .f32⟩ : BufTy).Contents (Elt F) → (⟨S4096x1000, .f32⟩ : BufTy).Contents (Elt F)) (k5_v3 V) :=
  ssa1 V 58 main_call5_v3 main_call5_v4 ((broadcastInDim S4096x1000 ![0, 1] bcast_S4096x1_S4096x1000_0_1) : (⟨S4096x1, .f32⟩ : BufTy).Contents (Elt F) → (⟨S4096x1000, .f32⟩ : BufTy).Contents (Elt F)) rfl (by decide +kernel) (by decide +kernel)
theorem k5_v5_eq : k5_v5 V = (subf : (⟨S4096x1000, .f32⟩ : BufTy).Contents (Elt F) → (⟨S4096x1000, .f32⟩ : BufTy).Contents (Elt F) → (⟨S4096x1000, .f32⟩ : BufTy).Contents (Elt F)) (v16 V) (k5_v4 V) :=
  ssa2 V 59 main_v16 main_call5_v4 main_call5_v5 (subf : (⟨S4096x1000, .f32⟩ : BufTy).Contents (Elt F) → (⟨S4096x1000, .f32⟩ : BufTy).Contents (Elt F) → (⟨S4096x1000, .f32⟩ : BufTy).Contents (Elt F)) rfl (by decide +kernel) (by decide +kernel) (by decide +kernel)
theorem k5_v6_eq : k5_v6 V = (Host.exp : (⟨S4096x1000, .f32⟩ : BufTy).Contents (Elt F) → (⟨S4096x1000, .f32⟩ : BufTy).Contents (Elt F)) (k5_v5 V) :=
  ssa1 V 60 main_call5_v5 main_call5_v6 (Host.exp : (⟨S4096x1000, .f32⟩ : BufTy).Contents (Elt F) → (⟨S4096x1000, .f32⟩ : BufTy).Contents (Elt F)) rfl (by decide +kernel) (by decide +kernel)
theorem k5_cst_1_eq : k5_cst_1 V = ((constant S_ .f32 0x00000000#32) : (⟨S_, .f32⟩ : BufTy).Contents (Elt F)) :=
  ssa0 V 61 main_call5_cst_1 ((constant S_ .f32 0x00000000#32) : (⟨S_, .f32⟩ : BufTy).Contents (Elt F)) rfl (by decide +kernel)
theorem k5_v7_eq : k5_v7 V = ((fun x v => Host.reduceAdd x v reducesTo_S4096x1000_S4096_d1 h_S_) : (⟨S4096x1000, .f32⟩ : BufTy).Contents (Elt F) → (⟨S_, .f32⟩ : BufTy).Contents (Elt F) → (⟨S4096, .f32⟩ : BufTy).Contents (Elt F)) (k5_v6 V) (k5_cst_1 V) :=
  ssa2 V 62 main_call5_v6 main_call5_cst_1 main_call5_v7 ((fun x v => Host.reduceAdd x v reducesTo_S4096x1000_S4096_d1 h_S_) : (⟨S4096x1000, .f32⟩ : BufTy).Contents (Elt F) → (⟨S_, .f32⟩ : BufTy).Contents (Elt F) → (⟨S4096, .f32⟩ : BufTy).Contents (Elt F)) rfl (by decide +kernel) (by decide +kernel) (by decide +kernel)
theorem k5_v8_eq : k5_v8 V = ((broadcastInDim S4096x1 ![0] bcast_S4096_S4096x1_0) : (⟨S4096, .f32⟩ : BufTy).Contents (Elt F) → (⟨S4096x1, .f32⟩ : BufTy).Contents (Elt F)) (k5_v7 V) :=
  ssa1 V 63 main_call5_v7 main_call5_v8 ((broadcastInDim S4096x1 ![0] bcast_S4096_S4096x1_0) : (⟨S4096, .f32⟩ : BufTy).Contents (Elt F) → (⟨S4096x1, .f32⟩ : BufTy).Contents (Elt F)) rfl (by decide +kernel) (by decide +kernel)
theorem k5_v9_eq : k5_v9 V = (Host.log : (⟨S4096x1, .f32⟩ : BufTy).Contents (Elt F) → (⟨S4096x1, .f32⟩ : BufTy).Contents (Elt F)) (k5_v8 V) :=
  ssa1 V 64 main_call5_v8 main_call5_v9 (Host.log : (⟨S4096x1, .f32⟩ : BufTy).Contents (Elt F) → (⟨S4096x1, .f32⟩ : BufTy).Contents (Elt F)) rfl (by decide +kernel) (by decide +kernel)
theorem k5_v10_eq : k5_v10 V = ((broadcastInDim S4096x1000 ![0, 1] bcast_S4096x1_S4096x1000_0_1) : (⟨S4096x1, .f32⟩ : BufTy).Contents (Elt F) → (⟨S4096x1000, .f32⟩ : BufTy).Contents (Elt F)) (k5_v9 V) :=
  ssa1 V 65 main_call5_v9 main_call5_v10 ((broadcastInDim S4096x1000 ![0, 1] bcast_S4096x1_S4096x1000_0_1) : (⟨S4096x1, .f32⟩ : BufTy).Contents (Elt F) → (⟨S4096x1000, .f32⟩ : BufTy).Contents (Elt F)) rfl (by decide +kernel) (by decide +kernel)
theorem v19_eq : v19 V = (subf : (⟨S4096x1000, .f32⟩ : BufTy).Contents (Elt F) → (⟨S4096x1000, .f32⟩ : BufTy).Contents (Elt F) → (⟨S4096x1000, .f32⟩ : BufTy).Contents (Elt F)) (k5_v5 V) (k5_v10 V) :=
  ssa2 V 66 main_call5_v5 main_call5_v10 main_v19 (subf : (⟨S4096x1000, .f32⟩ : BufTy).Contents (Elt F) → (⟨S4096x1000, .f32⟩ : BufTy).Contents (Elt F) → (⟨S4096x1000, .f32⟩ : BufTy).Contents (Elt F)) rfl (by decide +kernel) (by decide +kernel) (by decide +kernel)
theorem v20_eq : v20 V = (Host.exp : (⟨S4096x1000, .f32⟩ : BufTy).Contents (Elt F) → (⟨S4096x1000, .f32⟩ : BufTy).Contents (Elt F)) (v19 V) :=
  ssa1 V 67 main_v19 main_v20 (Host.exp : (⟨S4096x1000, .f32⟩ : BufTy).Contents (Elt F) → (⟨S4096x1000, .f32⟩ : BufTy).Contents (Elt F)) rfl (by decide +kernel) (by decide +kernel)
theorem v21_eq : v21 V = (mulf : (⟨S4096x1000, .f32⟩ : BufTy).Contents (Elt F) → (⟨S4096x1000, .f32⟩ : BufTy).Contents (Elt F) → (⟨S4096x1000, .f32⟩ : BufTy).Contents (Elt F)) (v20 V) (v19 V) :=
  ssa2 V 68 main_v20 main_v19 main_v21 (mulf : (⟨S4096x1000, .f32⟩ : BufTy).Contents (Elt F) → (⟨S4096x1000, .f32⟩ : BufTy).Contents (Elt F) → (⟨S4096x1000, .f32⟩ : BufTy).Contents (Elt F)) rfl (by decide +kernel) (by decide +kernel) (by decide +kernel)
theorem cst_0_eq : cst_0 V = ((constant S_ .f32 0x00000000#32) : (⟨S_, .f32⟩ : BufTy).Contents (Elt F)) :=
  ssa0 V 69 main_cst_0 ((constant S_ .f32 0x00000000#32) : (⟨S_, .f32⟩ : BufTy).Contents (Elt F)) rfl (by decide +kernel)
theorem v22_eq : v22 V = ((fun x v => Host.reduceAdd x v reducesTo_S4096x1000_S4096_d1 h_S_) : (⟨S4096x1000, .f32⟩ : BufTy).Contents (Elt F) → (⟨S_, .f32⟩ : BufTy).Contents (Elt F) → (⟨S4096, .f32⟩ : BufTy).Contents (Elt F)) (v21 V) (cst_0 V) :=
  ssa2 V 70 main_v21 main_cst_0 main_v22 ((fun x v => Host.reduceAdd x v reducesTo_S4096x1000_S4096_d1 h_S_) : (⟨S4096x1000, .f32⟩ : BufTy).Contents (Elt F) → (⟨S_, .f32⟩ : BufTy).Contents (Elt F) → (⟨S4096, .f32⟩ : BufTy).Contents (Elt F)) rfl (by decide +kernel) (by decide +kernel) (by decide +kernel)
theorem v23_eq : v23 V = (Host.negf : (⟨S4096, .f32⟩ : BufTy).Contents (Elt F) → (⟨S4096, .f32⟩ : BufTy).Contents (Elt F)) (v22 V) :=
  ssa1 V 71 main_v22 main_v23 (Host.negf : (⟨S4096, .f32⟩ : BufTy).Contents (Elt F) → (⟨S4096, .f32⟩ : BufTy).Contents (Elt F)) rfl (by decide +kernel) (by decide +kernel)
theorem v24_eq : v24 V = ((fun a b => concatenate S5096x512 0 [⟨S1000x512, a⟩, ⟨S4096x512, b⟩] concatenates_S1000x512_S4096x512_S5096x512_d0) : (⟨S1000x512, .f32⟩ : BufTy).Contents (Elt F) → (⟨S4096x512, .f32⟩ : BufTy).Contents (Elt F) → (⟨S5096x512, .f32⟩ : BufTy).Contents (Elt F)) (a1 V) (a0 V) :=
  ssa2 V 72 main_arg1 main_arg0 main_v24 ((fun a b => concatenate S5096x512 0 [⟨S1000x512, a⟩, ⟨S4096x512, b⟩] concatenates_S1000x512_S4096x512_S5096x512_d0) : (⟨S1000x512, .f32⟩ : BufTy).Contents (Elt F) → (⟨S4096x512, .f32⟩ : BufTy).Contents (Elt F) → (⟨S5096x512, .f32⟩ : BufTy).Contents (Elt F)) rfl (by decide +kernel) (by decide +kernel) (by decide +kernel)
theorem v25_eq : v25 V = ((fun a b => concatenate S5096x1000 0 [⟨S1000x1000, a⟩, ⟨S4096x1000, b⟩] concatenates_S1000x1000_S4096x1000_S5096x1000_d0) : (⟨S1000x1000, .f32⟩ : BufTy).Contents (Elt F) → (⟨S4096x1000, .f32⟩ : BufTy).Contents (Elt F) → (⟨S5096x1000, .f32⟩ : BufTy).Contents (Elt F)) (v11 V) (v18 V) :=
  ssa2 V 73 main_v11 main_v18 main_v25 ((fun a b => concatenate S5096x1000 0 [⟨S1000x1000, a⟩, ⟨S4096x1000, b⟩] concatenates_S1000x1000_S4096x1000_S5096x1000_d0) : (⟨S1000x1000, .f32⟩ : BufTy).Contents (Elt F) → (⟨S4096x1000, .f32⟩ : BufTy).Contents (Elt F) → (⟨S5096x1000, .f32⟩ : BufTy).Contents (Elt F)) rfl (by decide +kernel) (by decide +kernel) (by decide +kernel)
theorem v26_eq : v26 V = ((fun a b => concatenate S5096 0 [⟨S1000, a⟩, ⟨S4096, b⟩] concatenates_S1000_S4096_S5096_d0) : (⟨S1000, .f32⟩ : BufTy).Contents (Elt F) → (⟨S4096, .f32⟩ : BufTy).Contents (Elt F) → (⟨S5096, .f32⟩ : BufTy).Contents (Elt F)) (v9 V) (v23 V) :=
  ssa2 V 74 main_v9 main_v23 main_v26 ((fun a b => concatenate S5096 0 [⟨S1000, a⟩, ⟨S4096, b⟩] concatenates_S1000_S4096_S5096_d0) : (⟨S1000, .f32⟩ : BufTy).Contents (Elt F) → (⟨S4096, .f32⟩ : BufTy).Contents (Elt F) → (⟨S5096, .f32⟩ : BufTy).Contents (Elt F)) rfl (by decide +kernel) (by decide +kernel) (by decide +kernel)
theorem k6_v0_eq : k6_v0 V = ((iotaInDim S5096x1000 32 1) : (⟨S5096x1000, .i32⟩ : BufTy).Contents (Elt F)) :=
  ssa0 V 75 main_call6_v0 ((iotaInDim S5096x1000 32 1) : (⟨S5096x1000, .i32⟩ : BufTy).Contents (Elt F)) rfl (by decide +kernel)
theorem k6_cst_eq : k6_cst V = ((constant S_ .f32 0xFF800000#32) : (⟨S_, .f32⟩ : BufTy).Contents (Elt F)) :=
  ssa0 V 76 main_call6_cst ((constant S_ .f32 0xFF800000#32) : (⟨S_, .f32⟩ : BufTy).Contents (Elt F)) rfl (by decide +kernel)
theorem k6_c_eq : k6_c V = ((constantI S_ 32 0#32) : (⟨S_, .i32⟩ : BufTy).Contents (Elt F)) :=
  ssa0 V 77 main_call6_c ((constantI S_ 32 0#32) : (⟨S_, .i32⟩ : BufTy).Contents (Elt F)) rfl (by decide +kernel)
set_option maxRecDepth 100000 in
theorem v27_eq : v27 V = ((fun x y u v j => (Host.argReduce reducer_argmax_f32_i32 x y u v reducesTo_S5096x1000_S5096_d1 h_S_ j).2) : (⟨S5096x1000, .f32⟩ : BufTy).Contents (Elt F) → (⟨S5096x1000, .i32⟩ : BufTy).Contents (Elt F) → (⟨S_, .f32⟩ : BufTy).Contents (Elt F) → (⟨S_, .i32⟩ : BufTy).Contents (Elt F) → (⟨S5096, .i32⟩ : BufTy).Contents (Elt F)) (v25 V) (k6_v0 V) (k6_cst V) (k6_c V) :=
  (ssa4T V 79 (TRef.of (T := ⟨S5096x1000, .f32⟩) main_v25) (TRef.of (T := ⟨S5096x1000, .i32⟩) main_call6_v0) (TRef.of (T := ⟨S_, .f32⟩) main_call6_cst) (TRef.of (T := ⟨S_, .i32⟩) main_call6_c) (TRef.of (T := ⟨S5096, .i32⟩) main_v27) ((fun x y u v j => (Host.argReduce reducer_argmax_f32_i32 x y u v reducesTo_S5096x1000_S5096_d1 h_S_ j).2) : (⟨S5096x1000, .f32⟩ : BufTy).Contents (Elt F) → (⟨S5096x1000, .i32⟩ : BufTy).Contents (Elt F) → (⟨S_, .f32⟩ : BufTy).Contents (Elt F) → (⟨S_, .i32⟩ : BufTy).Contents (Elt F) → (⟨S5096, .i32⟩ : BufTy).Contents (Elt F)) rfl (by decide +kernel) (by decide +kernel) (by decide +kernel) (by decide +kernel) (by decide +kernel)).trans (by simp only [TRef.toBuf, TRef.ofBuf, cast_eq]; rfl)
theorem k7_v0_eq : k7_v0 V = ((iotaInDim S5096 32 0) : (⟨S5096, .i32⟩ : BufTy).Contents (Elt F)) :=
  ssa0 V 80 main_call7_v0 ((iotaInDim S5096 32 0) : (⟨S5096, .i32⟩ : BufTy).Contents (Elt F)) rfl (by decide +kernel)
theorem v28_eq : v28 V = ((fun x y z => (Host.sort3 S5096 0 comparator_i32_f32_i32_d0 x y z).2.2) : (⟨S5096, .i32⟩ : BufTy).Contents (Elt F) → (⟨S5096, .f32⟩ : BufTy).Contents (Elt F) → (⟨S5096, .i32⟩ : BufTy).Contents (Elt F) → (⟨S5096, .i32⟩ : BufTy).Contents (Elt F)) (v27 V) (v26 V) (k7_v0 V) :=
  ssa3 V 83 main_v27 main_v26 main_call7_v0 main_v28 ((fun x y z => (Host.sort3 S5096 0 comparator_i32_f32_i32_d0 x y z).2.2) : (⟨S5096, .i32⟩ : BufTy).Contents (Elt F) → (⟨S5096, .f32⟩ : BufTy).Contents (Elt F) → (⟨S5096, .i32⟩ : BufTy).Contents (Elt F) → (⟨S5096, .i32⟩ : BufTy).Contents (Elt F)) rfl (by decide +kernel) (by decide +kernel) (by decide +kernel) (by decide +kernel)
theorem c_eq : c V = ((constantI S_ 32 0#32) : (⟨S_, .i32⟩ : BufTy).Contents (Elt F)) :=
  ssa0 V 84 main_c ((constantI S_ 32 0#32) : (⟨S_, .i32⟩ : BufTy).Contents (Elt F)) rfl (by decide +kernel)
theorem v29_eq : v29 V = (broadcastInDim S5096 ![] bcast_S_S5096 : (⟨S_, .i32⟩ : BufTy).Contents (Elt F) → (⟨S5096, .i32⟩ : BufTy).Contents (Elt F)) (c V) :=
  ssa1 V 85 main_c main_v29 (broadcastInDim S5096 ![] bcast_S_S5096 : (⟨S_, .i32⟩ : BufTy).Contents (Elt F) → (⟨S5096, .i32⟩ : BufTy).Contents (Elt F)) rfl (by decide +kernel) (by decide +kernel)
theorem v30_eq : v30 V = (cmpi .slt : (⟨S5096, .i32⟩ : BufTy).Contents (Elt F) → (⟨S5096, .i32⟩ : BufTy).Contents (Elt F) → (⟨S5096, .i1⟩ : BufTy).Contents (Elt F)) (v28 V) (v29 V) :=
  ssa2 V 86 main_v28 main_v29 main_v30 (cmpi .slt : (⟨S5096, .i32⟩ : BufTy).Contents (Elt F) → (⟨S5096, .i32⟩ : BufTy).Contents (Elt F) → (⟨S5096, .i1⟩ : BufTy).Contents (Elt F)) rfl (by decide +kernel) (by decide +kernel) (by decide +kernel)
theorem c_1_eq : c_1 V = ((constantI S_ 32 5096#32) : (⟨S_, .i32⟩ : BufTy).Contents (Elt F)) :=
  ssa0 V 87 main_c_1 ((constantI S_ 32 5096#32) : (⟨S_, .i32⟩ : BufTy).Contents (Elt F)) rfl (by decide +kernel)
theorem v31_eq : v31 V = (broadcastInDim S5096 ![] bcast_S_S5096 : (⟨S_, .i32⟩ : BufTy).Contents (Elt F) → (⟨S5096, .i32⟩ : BufTy).Contents (Elt F)) (c_1 V) :=
  ssa1 V 88 main_c_1 main_v31 (broadcastInDim S5096 ![] bcast_S_S5096 : (⟨S_, .i32⟩ : BufTy).Contents (Elt F) → (⟨S5096, .i32⟩ : BufTy).Contents (Elt F)) rfl (by decide +kernel) (by decide +kernel)
theorem v32_eq : v32 V = (addi : (⟨S5096, .i32⟩ : BufTy).Contents (Elt F) → (⟨S5096, .i32⟩ : BufTy).Contents (Elt F) → (⟨S5096, .i32⟩ : BufTy).Contents (Elt F)) (v28 V) (v31 V) :=
  ssa2 V 89 main_v28 main_v31 main_v32 (addi : (⟨S5096, .i32⟩ : BufTy).Contents (Elt F) → (⟨S5096, .i32⟩ : BufTy).Contents (Elt F) → (⟨S5096, .i32⟩ : BufTy).Contents (Elt F)) rfl (by decide +kernel) (by decide +kernel) (by decide +kernel)
theorem v33_eq : v33 V = (select : (⟨S5096, .i1⟩ : BufTy).Contents (Elt F) → (⟨S5096, .i32⟩ : BufTy).Contents (Elt F) → (⟨S5096, .i32⟩ : BufTy).Contents (Elt F) → (⟨S5096, .i32⟩ : BufTy).Contents (Elt F)) (v30 V) (v32 V) (v28 V) :=
  ssa3 V 90 main_v30 main_v32 main_v28 main_v33 (select : (⟨S5096, .i1⟩ : BufTy).Contents (Elt F) → (⟨S5096, .i32⟩ : BufTy).Contents (Elt F) → (⟨S5096, .i32⟩ : BufTy).Contents (Elt F) → (⟨S5096, .i32⟩ : BufTy).Contents (Elt F)) rfl (by decide +kernel) (by decide +kernel) (by decide +kernel) (by decide +kernel)
theorem v34_eq : v34 V = (broadcastInDim S5096x1 ![0] bcast_S5096_S5096x1_0 : (⟨S5096, .i32⟩ : BufTy).Contents (Elt F) → (⟨S5096x1, .i32⟩ : BufTy).Contents (Elt F)) (v33 V) :=
  ssa1 V 91 main_v33 main_v34 (broadcastInDim S5096x1 ![0] bcast_S5096_S5096x1_0 : (⟨S5096, .i32⟩ : BufTy).Contents (Elt F) → (⟨S5096x1, .i32⟩ : BufTy).Contents (Elt F)) rfl (by decide +kernel) (by decide +kernel)
theorem v35_eq : v35 V = ((fun x i => Host.gather gather_S5096_S5096x1_S5096_n_0_n_n_0_1_1 x i) : (⟨S5096, .i32⟩ : BufTy).Contents (Elt F) → (⟨S5096x1, .i32⟩ : BufTy).Contents (Elt F) → (⟨S5096, .i32⟩ : BufTy).Contents (Elt F)) (v27 V) (v34 V) :=
  ssa2 V 92 main_v27 main_v34 main_v35 ((fun x i => Host.gather gather_S5096_S5096x1_S5096_n_0_n_n_0_1_1 x i) : (⟨S5096, .i32⟩ : BufTy).Contents (Elt F) → (⟨S5096x1, .i32⟩ : BufTy).Contents (Elt F) → (⟨S5096, .i32⟩ : BufTy).Contents (Elt F)) rfl (by decide +kernel) (by decide +kernel) (by decide +kernel)
theorem v36_eq : v36 V = ((iotaInDim S5096 32 0) : (⟨S5096, .i32⟩ : BufTy).Contents (Elt F)) :=
  ssa0 V 93 main_v36 ((iotaInDim S5096 32 0) : (⟨S5096, .i32⟩ : BufTy).Contents (Elt F)) rfl (by decide +kernel)
theorem c_2_eq : c_2 V = ((constantI S_ 32 2147483647#32) : (⟨S_, .i32⟩ : BufTy).Contents (Elt F)) :=
  ssa0 V 94 main_c_2 ((constantI S_ 32 2147483647#32) : (⟨S_, .i32⟩ : BufTy).Contents (Elt F)) rfl (by decide +kernel)
theorem v37_eq : v37 V = (broadcastInDim S1000 ![] bcast_S_S1000 : (⟨S_, .i32⟩ : BufTy).Contents (Elt F) → (⟨S1000, .i32⟩ : BufTy).Contents (Elt F)) (c_2 V) :=
  ssa1 V 95 main_c_2 main_v37 (broadcastInDim S1000 ![] bcast_S_S1000 : (⟨S_, .i32⟩ : BufTy).Contents (Elt F) → (⟨S1000, .i32⟩ : BufTy).Contents (Elt F)) rfl (by decide +kernel) (by decide +kernel)
theorem v38_eq : v38 V = (broadcastInDim S5096x1 ![0] bcast_S5096_S5096x1_0 : (⟨S5096, .i32⟩ : BufTy).Contents (Elt F) → (⟨S5096x1, .i32⟩ : BufTy).Contents (Elt F)) (v35 V) :=
  ssa1 V 96 main_v35 main_v38 (broadcastInDim S5096x1 ![0] bcast_S5096_S5096x1_0 : (⟨S5096, .i32⟩ : BufTy).Contents (Elt F) → (⟨S5096x1, .i32⟩ : BufTy).Contents (Elt F)) rfl (by decide +kernel) (by decide +kernel)
theorem v39_eq : v39 V = ((fun x i u => Host.scatter scatter_S1000_S5096x1_S5096_n_0_0_1 IntOp.minsi x i u) : (⟨S1000, .i32⟩ : BufTy).Contents (Elt F) → (⟨S5096x1, .i32⟩ : BufTy).Contents (Elt F) → (⟨S5096, .i32⟩ : BufTy).Contents (Elt F) → (⟨S1000, .i32⟩ : BufTy).Contents (Elt F)) (v37 V) (v38 V) (v36 V) :=
  ssa3 V 97 main_v37 main_v38 main_v36 main_v39 ((fun x i u => Host.scatter scatter_S1000_S5096x1_S5096_n_0_0_1 IntOp.minsi x i u) : (⟨S1000, .i32⟩ : BufTy).Contents (Elt F) → (⟨S5096x1, .i32⟩ : BufTy).Contents (Elt F) → (⟨S5096, .i32⟩ : BufTy).Contents (Elt F) → (⟨S1000, .i32⟩ : BufTy).Contents (Elt F)) rfl (by decide +kernel) (by decide +kernel) (by decide +kernel) (by decide +kernel)
theorem c_3_eq : c_3 V = ((constantI S_ 32 0#32) : (⟨S_, .i32⟩ : BufTy).Contents (Elt F)) :=
  ssa0 V 98 main_c_3 ((constantI S_ 32 0#32) : (⟨S_, .i32⟩ : BufTy).Contents (Elt F)) rfl (by decide +kernel)
theorem v40_eq : v40 V = (broadcastInDim S5096 ![] bcast_S_S5096 : (⟨S_, .i32⟩ : BufTy).Contents (Elt F) → (⟨S5096, .i32⟩ : BufTy).Contents (Elt F)) (c_3 V) :=
  ssa1 V 99 main_c_3 main_v40 (broadcastInDim S5096 ![] bcast_S_S5096 : (⟨S_, .i32⟩ : BufTy).Contents (Elt F) → (⟨S5096, .i32⟩ : BufTy).Contents (Elt F)) rfl (by decide +kernel) (by decide +kernel)
theorem v41_eq : v41 V = (cmpi .slt : (⟨S5096, .i32⟩ : BufTy).Contents (Elt F) → (⟨S5096, .i32⟩ : BufTy).Contents (Elt F) → (⟨S5096, .i1⟩ : BufTy).Contents (Elt F)) (v35 V) (v40 V) :=
  ssa2 V 100 main_v35 main_v40 main_v41 (cmpi .slt : (⟨S5096, .i32⟩ : BufTy).Contents (Elt F) → (⟨S5096, .i32⟩ : BufTy).Contents (Elt F) → (⟨S5096, .i1⟩ : BufTy).Contents (Elt F)) rfl (by decide +kernel) (by decide +kernel) (by decide +kernel)
theorem c_4_eq : c_4 V = ((constantI S_ 32 1000#32) : (⟨S_, .i32⟩ : BufTy).Contents (Elt F)) :=
  ssa0 V 101 main_c_4 ((constantI S_ 32 1000#32) : (⟨S_, .i32⟩ : BufTy).Contents (Elt F)) rfl (by decide +kernel)
theorem v42_eq : v42 V = (broadcastInDim S5096 ![] bcast_S_S5096 : (⟨S_, .i32⟩ : BufTy).Contents (Elt F) → (⟨S5096, .i32⟩ : BufTy).Contents (Elt F)) (c_4 V) :=
  ssa1 V 102 main_c_4 main_v42 (broadcastInDim S5096 ![] bcast_S_S5096 : (⟨S_, .i32⟩ : BufTy).Contents (Elt F) → (⟨S5096, .i32⟩ : BufTy).Contents (Elt F)) rfl (by decide +kernel) (by decide +kernel)
theorem v43_eq : v43 V = (addi : (⟨S5096, .i32⟩ : BufTy).Contents (Elt F) → (⟨S5096, .i32⟩ : BufTy).Contents (Elt F) → (⟨S5096, .i32⟩ : BufTy).Contents (Elt F)) (v35 V) (v42 V) :=
  ssa2 V 103 main_v35 main_v42 main_v43 (addi : (⟨S5096, .i32⟩ : BufTy).Contents (Elt F) → (⟨S5096, .i32⟩ : BufTy).Contents (Elt F) → (⟨S5096, .i32⟩ : BufTy).Contents (Elt F)) rfl (by decide +kernel) (by decide +kernel) (by decide +kernel)
theorem v44_eq : v44 V = (select : (⟨S5096, .i1⟩ : BufTy).Contents (Elt F) → (⟨S5096, .i32⟩ : BufTy).Contents (Elt F) → (⟨S5096, .i32⟩ : BufTy).Contents (Elt F) → (⟨S5096, .i32⟩ : BufTy).Contents (Elt F)) (v41 V) (v43 V) (v35 V) :=
  ssa3 V 104 main_v41 main_v43 main_v35 main_v44 (select : (⟨S5096, .i1⟩ : BufTy).Contents (Elt F) → (⟨S5096, .i32⟩ : BufTy).Contents (Elt F) → (⟨S5096, .i32⟩ : BufTy).Contents (Elt F) → (⟨S5096, .i32⟩ : BufTy).Contents (Elt F)) rfl (by decide +kernel) (by decide +kernel) (by decide +kernel) (by decide +kernel)
theorem v45_eq : v45 V = (broadcastInDim S5096x1 ![0] bcast_S5096_S5096x1_0 : (⟨S5096, .i32⟩ : BufTy).Contents (Elt F) → (⟨S5096x1, .i32⟩ : BufTy).Contents (Elt F)) (v44 V) :=
  ssa1 V 105 main_v44 main_v45 (broadcastInDim S5096x1 ![0] bcast_S5096_S5096x1_0 : (⟨S5096, .i32⟩ : BufTy).Contents (Elt F) → (⟨S5096x1, .i32⟩ : BufTy).Contents (Elt F)) rfl (by decide +kernel) (by decide +kernel)
theorem v46_eq : v46 V = ((fun x i => Host.gather gather_S1000_S5096x1_S5096_n_0_n_n_0_1_1 x i) : (⟨S1000, .i32⟩ : BufTy).Contents (Elt F) → (⟨S5096x1, .i32⟩ : BufTy).Contents (Elt F) → (⟨S5096, .i32⟩ : BufTy).Contents (Elt F)) (v39 V) (v45 V) :=
  ssa2 V 106 main_v39 main_v45 main_v46 ((fun x i => Host.gather gather_S1000_S5096x1_S5096_n_0_n_n_0_1_1 x i) : (⟨S1000, .i32⟩ : BufTy).Contents (Elt F) → (⟨S5096x1, .i32⟩ : BufTy).Contents (Elt F) → (⟨S5096, .i32⟩ : BufTy).Contents (Elt F)) rfl (by decide +kernel) (by decide +kernel) (by decide +kernel)
theorem v47_eq : v47 V = (subi : (⟨S5096, .i32⟩ : BufTy).Contents (Elt F) → (⟨S5096, .i32⟩ : BufTy).Contents (Elt F) → (⟨S5096, .i32⟩ : BufTy).Contents (Elt F)) (v36 V) (v46 V) :=
  ssa2 V 107 main_v36 main_v46 main_v47 (subi : (⟨S5096, .i32⟩ : BufTy).Contents (Elt F) → (⟨S5096, .i32⟩ : BufTy).Contents (Elt F) → (⟨S5096, .i32⟩ : BufTy).Contents (Elt F)) rfl (by decide +kernel) (by decide +kernel) (by decide +kernel)
theorem c_5_eq : c_5 V = ((constantI S_ 32 100#32) : (⟨S_, .i32⟩ : BufTy).Contents (Elt F)) :=
  ssa0 V 108 main_c_5 ((constantI S_ 32 100#32) : (⟨S_, .i32⟩ : BufTy).Contents (Elt F)) rfl (by decide +kernel)
theorem v48_eq : v48 V = (broadcastInDim S5096 ![] bcast_S_S5096 : (⟨S_, .i32⟩ : BufTy).Contents (Elt F) → (⟨S5096, .i32⟩ : BufTy).Contents (Elt F)) (c_5 V) :=
  ssa1 V 109 main_c_5 main_v48 (broadcastInDim S5096 ![] bcast_S_S5096 : (⟨S_, .i32⟩ : BufTy).Contents (Elt F) → (⟨S5096, .i32⟩ : BufTy).Contents (Elt F)) rfl (by decide +kernel) (by decide +kernel)
theorem v49_eq : v49 V = (cmpi .slt : (⟨S5096, .i32⟩ : BufTy).Contents (Elt F) → (⟨S5096, .i32⟩ : BufTy).Contents (Elt F) → (⟨S5096, .i1⟩ : BufTy).Contents (Elt F)) (v47 V) (v48 V) :=
  ssa2 V 110 main_v47 main_v48 main_v49 (cmpi .slt : (⟨S5096, .i32⟩ : BufTy).Contents (Elt F) → (⟨S5096, .i32⟩ : BufTy).Contents (Elt F) → (⟨S5096, .i1⟩ : BufTy).Contents (Elt F)) rfl (by decide +kernel) (by decide +kernel) (by decide +kernel)
theorem c_6_eq : c_6 V = ((constantI S_ 1 0#1) : (⟨S_, .i1⟩ : BufTy).Contents (Elt F)) :=
  ssa0 V 111 main_c_6 ((constantI S_ 1 0#1) : (⟨S_, .i1⟩ : BufTy).Contents (Elt F)) rfl (by decide +kernel)
theorem v50_eq : v50 V = (broadcastInDim S5096 ![] bcast_S_S5096 : (⟨S_, .i1⟩ : BufTy).Contents (Elt F) → (⟨S5096, .i1⟩ : BufTy).Contents (Elt F)) (c_6 V) :=
  ssa1 V 112 main_c_6 main_v50 (broadcastInDim S5096 ![] bcast_S_S5096 : (⟨S_, .i1⟩ : BufTy).Contents (Elt F) → (⟨S5096, .i1⟩ : BufTy).Contents (Elt F)) rfl (by decide +kernel) (by decide +kernel)
theorem c_7_eq : c_7 V = ((constantI S_ 32 0#32) : (⟨S_, .i32⟩ : BufTy).Contents (Elt F)) :=
  ssa0 V 113 main_c_7 ((constantI S_ 32 0#32) : (⟨S_, .i32⟩ : BufTy).Contents (Elt F)) rfl (by decide +kernel)
theorem v51_eq : v51 V = (broadcastInDim S5096 ![] bcast_S_S5096 : (⟨S_, .i32⟩ : BufTy).Contents (Elt F) → (⟨S5096, .i32⟩ : BufTy).Contents (Elt F)) (c_7 V) :=
  ssa1 V 114 main_c_7 main_v51 (broadcastInDim S5096 ![] bcast_S_S5096 : (⟨S_, .i32⟩ : BufTy).Contents (Elt F) → (⟨S5096, .i32⟩ : BufTy).Contents (Elt F)) rfl (by decide +kernel) (by decide +kernel)
theorem v52_eq : v52 V = (cmpi .slt : (⟨S5096, .i32⟩ : BufTy).Contents (Elt F) → (⟨S5096, .i32⟩ : BufTy).Contents (Elt F) → (⟨S5096, .i1⟩ : BufTy).Contents (Elt F)) (v28 V) (v51 V) :=
  ssa2 V 115 main_v28 main_v51 main_v52 (cmpi .slt : (⟨S5096, .i32⟩ : BufTy).Contents (Elt F) → (⟨S5096, .i32⟩ : BufTy).Contents (Elt F) → (⟨S5096, .i1⟩ : BufTy).Contents (Elt F)) rfl (by decide +kernel) (by decide +kernel) (by decide +kernel)
theorem c_8_eq : c_8 V = ((constantI S_ 32 5096#32) : (⟨S_, .i32⟩ : BufTy).Contents (Elt F)) :=
  ssa0 V 116 main_c_8 ((constantI S_ 32 5096#32) : (⟨S_, .i32⟩ : BufTy).Contents (Elt F)) rfl (by decide +kernel)
theorem v53_eq : v53 V = (broadcastInDim S5096 ![] bcast_S_S5096 : (⟨S_, .i32⟩ : BufTy).Contents (Elt F) → (⟨S5096, .i32⟩ : BufTy).Contents (Elt F)) (c_8 V) :=
  ssa1 V 117 main_c_8 main_v53 (broadcastInDim S5096 ![] bcast_S_S5096 : (⟨S_, .i32⟩ : BufTy).Contents (Elt F) → (⟨S5096, .i32⟩ : BufTy).Contents (Elt F)) rfl (by decide +kernel) (by decide +kernel)
theorem v54_eq : v54 V = (addi : (⟨S5096, .i32⟩ : BufTy).Contents (Elt F) → (⟨S5096, .i32⟩ : BufTy).Contents (Elt F) → (⟨S5096, .i32⟩ : BufTy).Contents (Elt F)) (v28 V) (v53 V) :=
  ssa2 V 118 main_v28 main_v53 main_v54 (addi : (⟨S5096, .i32⟩ : BufTy).Contents (Elt F) → (⟨S5096, .i32⟩ : BufTy).Contents (Elt F) → (⟨S5096, .i32⟩ : BufTy).Contents (Elt F)) rfl (by decide +kernel) (by decide +kernel) (by decide +kernel)
theorem v55_eq : v55 V = (select : (⟨S5096, .i1⟩ : BufTy).Contents (Elt F) → (⟨S5096, .i32⟩ : BufTy).Contents (Elt F) → (⟨S5096, .i32⟩ : BufTy).Contents (Elt F) → (⟨S5096, .i32⟩ : BufTy).Contents (Elt F)) (v52 V) (v54 V) (v28 V) :=
  ssa3 V 119 main_v52 main_v54 main_v28 main_v55 (select : (⟨S5096, .i1⟩ : BufTy).Contents (Elt F) → (⟨S5096, .i32⟩ : BufTy).Contents (Elt F) → (⟨S5096, .i32⟩ : BufTy).Contents (Elt F) → (⟨S5096, .i32⟩ : BufTy).Contents (Elt F)) rfl (by decide +kernel) (by decide +kernel) (by decide +kernel) (by decide +kernel)
theorem v56_eq : v56 V = (broadcastInDim S5096x1 ![0] bcast_S5096_S5096x1_0 : (⟨S5096, .i32⟩ : BufTy).Contents (Elt F) → (⟨S5096x1, .i32⟩ : BufTy).Contents (Elt F)) (v55 V) :=
  ssa1 V 120 main_v55 main_v56 (broadcastInDim S5096x1 ![0] bcast_S5096_S5096x1_0 : (⟨S5096, .i32⟩ : BufTy).Contents (Elt F) → (⟨S5096x1, .i32⟩ : BufTy).Contents (Elt F)) rfl (by decide +kernel) (by decide +kernel)
theorem v57_eq : v57 V = ((fun x i u => Host.scatter scatter_S5096_S5096x1_S5096_n_0_0_1 (fun _ b => b) x i u) : (⟨S5096, .i1⟩ : BufTy).Contents (Elt F) → (⟨S5096x1, .i32⟩ : BufTy).Contents (Elt F) → (⟨S5096, .i1⟩ : BufTy).Contents (Elt F) → (⟨S5096, .i1⟩ : BufTy).Contents (Elt F)) (v50 V) (v56 V) (v49 V) :=
  ssa3 V 121 main_v50 main_v56 main_v49 main_v57 ((fun x i u => Host.scatter scatter_S5096_S5096x1_S5096_n_0_0_1 (fun _ b => b) x i u) : (⟨S5096, .i1⟩ : BufTy).Contents (Elt F) → (⟨S5096x1, .i32⟩ : BufTy).Contents (Elt F) → (⟨S5096, .i1⟩ : BufTy).Contents (Elt F) → (⟨S5096, .i1⟩ : BufTy).Contents (Elt F)) rfl (by decide +kernel) (by decide +kernel) (by decide +kernel) (by decide +kernel)
theorem v58_eq : v58 V = (uitofp .f32 : (⟨S5096, .i1⟩ : BufTy).Contents (Elt F) → (⟨S5096, .f32⟩ : BufTy).Contents (Elt F)) (v57 V) :=
  ssa1 V 122 main_v57 main_v58 (uitofp .f32 : (⟨S5096, .i1⟩ : BufTy).Contents (Elt F) → (⟨S5096, .f32⟩ : BufTy).Contents (Elt F)) rfl (by decide +kernel) (by decide +kernel)
theorem k8_v0_eq : k8_v0 V = (mulf : (⟨S5096x512, .f32⟩ : BufTy).Contents (Elt F) → (⟨S5096x512, .f32⟩ : BufTy).Contents (Elt F) → (⟨S5096x512, .f32⟩ : BufTy).Contents (Elt F)) (v24 V) (v24 V) :=
  ssa2 V 123 main_v24 main_v24 main_call8_v0 (mulf : (⟨S5096x512, .f32⟩ : BufTy).Contents (Elt F) → (⟨S5096x512, .f32⟩ : BufTy).Contents (Elt F) → (⟨S5096x512, .f32⟩ : BufTy).Contents (Elt F)) rfl (by decide +kernel) (by decide +kernel) (by decide +kernel)
theorem k8_cst_eq : k8_cst V = ((constant S_ .f32 0x00000000#32) : (⟨S_, .f32⟩ : BufTy).Contents (Elt F)) :=
  ssa0 V 124 main_call8_cst ((constant S_ .f32 0x00000000#32) : (⟨S_, .f32⟩ : BufTy).Contents (Elt F)) rfl (by decide +kernel)
theorem k8_v1_eq : k8_v1 V = ((fun x v => Host.reduceAdd x v reducesTo_S5096x512_S5096_d1 h_S_) : (⟨S5096x512, .f32⟩ : BufTy).Contents (Elt F) → (⟨S_, .f32⟩ : BufTy).Contents (Elt F) → (⟨S5096, .f32⟩ : BufTy).Contents (Elt F)) (k8_v0 V) (k8_cst V) :=
  ssa2 V 125 main_call8_v0 main_call8_cst main_call8_v1 ((fun x v => Host.reduceAdd x v reducesTo_S5096x512_S5096_d1 h_S_) : (⟨S5096x512, .f32⟩ : BufTy).Contents (Elt F) → (⟨S_, .f32⟩ : BufTy).Contents (Elt F) → (⟨S5096, .f32⟩ : BufTy).Contents (Elt F)) rfl (by decide +kernel) (by decide +kernel) (by decide +kernel)
theorem k8_v2_eq : k8_v2 V = ((broadcastInDim S5096x1 ![0] bcast_S5096_S5096x1_0) : (⟨S5096, .f32⟩ : BufTy).Contents (Elt F) → (⟨S5096x1, .f32⟩ : BufTy).Contents (Elt F)) (k8_v1 V) :=
  ssa1 V 126 main_call8_v1 main_call8_v2 ((broadcastInDim S5096x1 ![0] bcast_S5096_S5096x1_0) : (⟨S5096, .f32⟩ : BufTy).Contents (Elt F) → (⟨S5096x1, .f32⟩ : BufTy).Contents (Elt F)) rfl (by decide +kernel) (by decide +kernel)
theorem v59_eq : v59 V = (Host.sqrt : (⟨S5096x1, .f32⟩ : BufTy).Contents (Elt F) → (⟨S5096x1, .f32⟩ : BufTy).Contents (Elt F)) (k8_v2 V) :=
  ssa1 V 127 main_call8_v2 main_v59 (Host.sqrt : (⟨S5096x1, .f32⟩ : BufTy).Contents (Elt F) → (⟨S5096x1, .f32⟩ : BufTy).Contents (Elt F)) rfl (by decide +kernel) (by decide +kernel)
theorem cst_9_eq : cst_9 V = ((constant S_ .f32 0x2B8CBCCC#32) : (⟨S_, .f32⟩ : BufTy).Contents (Elt F)) :=
  ssa0 V 128 main_cst_9 ((constant S_ .f32 0x2B8CBCCC#32) : (⟨S_, .f32⟩ : BufTy).Contents (Elt F)) rfl (by decide +kernel)
theorem v60_eq : v60 V = (broadcastInDim S5096x1 ![] bcast_S_S5096x1 : (⟨S_, .f32⟩ : BufTy).Contents (Elt F) → (⟨S5096x1, .f32⟩ : BufTy).Contents (Elt F)) (cst_9 V) :=
  ssa1 V 129 main_cst_9 main_v60 (broadcastInDim S5096x1 ![] bcast_S_S5096x1 : (⟨S_, .f32⟩ : BufTy).Contents (Elt F) → (⟨S5096x1, .f32⟩ : BufTy).Contents (Elt F)) rfl (by decide +kernel) (by decide +kernel)
theorem v61_eq : v61 V = (maximumf : (⟨S5096x1, .f32⟩ : BufTy).Contents (Elt F) → (⟨S5096x1, .f32⟩ : BufTy).Contents (Elt F) → (⟨S5096x1, .f32⟩ : BufTy).Contents (Elt F)) (v59 V) (v60 V) :=
  ssa2 V 130 main_v59 main_v60 main_v61 (maximumf : (⟨S5096x1, .f32⟩ : BufTy).Contents (Elt F) → (⟨S5096x1, .f32⟩ : BufTy).Contents (Elt F) → (⟨S5096x1, .f32⟩ : BufTy).Contents (Elt F)) rfl (by decide +kernel) (by decide +kernel) (by decide +kernel)
theorem v62_eq : v62 V = (broadcastInDim S5096x512 ![0, 1] bcast_S5096x1_S5096x512_0_1 : (⟨S5096x1, .f32⟩ : BufTy).Contents (Elt F) → (⟨S5096x512, .f32⟩ : BufTy).Contents (Elt F)) (v61 V) :=
  ssa1 V 131 main_v61 main_v62 (broadcastInDim S5096x512 ![0, 1] bcast_S5096x1_S5096x512_0_1 : (⟨S5096x1, .f32⟩ : BufTy).Contents (Elt F) → (⟨S5096x512, .f32⟩ : BufTy).Contents (Elt F)) rfl (by decide +kernel) (by decide +kernel)
theorem v63_eq : v63 V = (Host.divf : (⟨S5096x512, .f32⟩ : BufTy).Contents (Elt F) → (⟨S5096x512, .f32⟩ : BufTy).Contents (Elt F) → (⟨S5096x512, .f32⟩ : BufTy).Contents (Elt F)) (v24 V) (v62 V) :=
  ssa2 V 132 main_v24 main_v62 main_v63 (Host.divf : (⟨S5096x512, .f32⟩ : BufTy).Contents (Elt F) → (⟨S5096x512, .f32⟩ : BufTy).Contents (Elt F) → (⟨S5096x512, .f32⟩ : BufTy).Contents (Elt F)) rfl (by decide +kernel) (by decide +kernel) (by decide +kernel)
theorem v64_eq : v64 V = ((transpose S512x5096 [1, 0] · transposes_S5096x512_S512x5096_1_0) : (⟨S5096x512, .f32⟩ : BufTy).Contents (Elt F) → (⟨S512x5096, .f32⟩ : BufTy).Contents (Elt F)) (v63 V) :=
  ssa1 V 133 main_v63 main_v64 ((transpose S512x5096 [1, 0] · transposes_S5096x512_S512x5096_1_0) : (⟨S5096x512, .f32⟩ : BufTy).Contents (Elt F) → (⟨S512x5096, .f32⟩ : BufTy).Contents (Elt F)) rfl (by decide +kernel) (by decide +kernel)
theorem v65_eq : v65 V = (broadcastInDim S5096x1 ![0] bcast_S5096_S5096x1_0 : (⟨S5096, .f32⟩ : BufTy).Contents (Elt F) → (⟨S5096x1, .f32⟩ : BufTy).Contents (Elt F)) (v58 V) :=
  ssa1 V 134 main_v58 main_v65 (broadcastInDim S5096x1 ![0] bcast_S5096_S5096x1_0 : (⟨S5096, .f32⟩ : BufTy).Contents (Elt F) → (⟨S5096x1, .f32⟩ : BufTy).Contents (Elt F)) rfl (by decide +kernel) (by decide +kernel)
theorem v66_eq : v66 V = (broadcastInDim S5096x1000 ![0, 1] bcast_S5096x1_S5096x1000_0_1 : (⟨S5096x1, .f32⟩ : BufTy).Contents (Elt F) → (⟨S5096x1000, .f32⟩ : BufTy).Contents (Elt F)) (v65 V) :=
  ssa1 V 135 main_v65 main_v66 (broadcastInDim S5096x1000 ![0, 1] bcast_S5096x1_S5096x1000_0_1 : (⟨S5096x1, .f32⟩ : BufTy).Contents (Elt F) → (⟨S5096x1000, .f32⟩ : BufTy).Contents (Elt F)) rfl (by decide +kernel) (by decide +kernel)
theorem v67_eq : v67 V = (mulf : (⟨S5096x1000, .f32⟩ : BufTy).Contents (Elt F) → (⟨S5096x1000, .f32⟩ : BufTy).Contents (Elt F) → (⟨S5096x1000, .f32⟩ : BufTy).Contents (Elt F)) (v25 V) (v66 V) :=
  ssa2 V 136 main_v25 main_v66 main_v67 (mulf : (⟨S5096x1000, .f32⟩ : BufTy).Contents (Elt F) → (⟨S5096x1000, .f32⟩ : BufTy).Contents (Elt F) → (⟨S5096x1000, .f32⟩ : BufTy).Contents (Elt F)) rfl (by decide +kernel) (by decide +kernel) (by decide +kernel)
theorem v68_eq : v68 V = ((fun l r => Host.dotGeneral dot_S512x5096_S5096x1000_S512x1000_1_0_0_1_n_n none l r) : (⟨S512x5096, .f32⟩ : BufTy).Contents (Elt F) → (⟨S5096x1000, .f32⟩ : BufTy).Contents (Elt F) → (⟨S512x1000, .f32⟩ : BufTy).Contents (Elt F)) (v64 V) (v67 V) :=
  ssa2 V 137 main_v64 main_v67 main_v68 ((fun l r => Host.dotGeneral dot_S512x5096_S5096x1000_S512x1000_1_0_0_1_n_n none l r) : (⟨S512x5096, .f32⟩ : BufTy).Contents (Elt F) → (⟨S5096x1000, .f32⟩ : BufTy).Contents (Elt F) → (⟨S512x1000, .f32⟩ : BufTy).Contents (Elt F)) rfl (by decide +kernel) (by decide +kernel) (by decide +kernel)
theorem k9_v0_eq : k9_v0 V = (mulf : (⟨S512x1000, .f32⟩ : BufTy).Contents (Elt F) → (⟨S512x1000, .f32⟩ : BufTy).Contents (Elt F) → (⟨S512x1000, .f32⟩ : BufTy).Contents (Elt F)) (v68 V) (v68 V) :=
  ssa2 V 138 main_v68 main_v68 main_call9_v0 (mulf : (⟨S512x1000, .f32⟩ : BufTy).Contents (Elt F) → (⟨S512x1000, .f32⟩ : BufTy).Contents (Elt F) → (⟨S512x1000, .f32⟩ : BufTy).Contents (Elt F)) rfl (by decide +kernel) (by decide +kernel) (by decide +kernel)
theorem k9_cst_eq : k9_cst V = ((constant S_ .f32 0x00000000#32) : (⟨S_, .f32⟩ : BufTy).Contents (Elt F)) :=
  ssa0 V 139 main_call9_cst ((constant S_ .f32 0x00000000#32) : (⟨S_, .f32⟩ : BufTy).Contents (Elt F)) rfl (by decide +kernel)
theorem k9_v1_eq : k9_v1 V = ((fun x v => Host.reduceAdd x v reducesTo_S512x1000_S1000_d0 h_S_) : (⟨S512x1000, .f32⟩ : BufTy).Contents (Elt F) → (⟨S_, .f32⟩ : BufTy).Contents (Elt F) → (⟨S1000, .f32⟩ : BufTy).Contents (Elt F)) (k9_v0 V) (k9_cst V) :=
  ssa2 V 140 main_call9_v0 main_call9_cst main_call9_v1 ((fun x v => Host.reduceAdd x v reducesTo_S512x1000_S1000_d0 h_S_) : (⟨S512x1000, .f32⟩ : BufTy).Contents (Elt F) → (⟨S_, .f32⟩ : BufTy).Contents (Elt F) → (⟨S1000, .f32⟩ : BufTy).Contents (Elt F)) rfl (by decide +kernel) (by decide +kernel) (by decide +kernel)
theorem k9_v2_eq : k9_v2 V = ((broadcastInDim S1x1000 ![1] bcast_S1000_S1x1000_1) : (⟨S1000, .f32⟩ : BufTy).Contents (Elt F) → (⟨S1x1000, .f32⟩ : BufTy).Contents (Elt F)) (k9_v1 V) :=
  ssa1 V 141 main_call9_v1 main_call9_v2 ((broadcastInDim S1x1000 ![1] bcast_S1000_S1x1000_1) : (⟨S1000, .f32⟩ : BufTy).Contents (Elt F) → (⟨S1x1000, .f32⟩ : BufTy).Contents (Elt F)) rfl (by decide +kernel) (by decide +kernel)
theorem v69_eq : v69 V = (Host.sqrt : (⟨S1x1000, .f32⟩ : BufTy).Contents (Elt F) → (⟨S1x1000, .f32⟩ : BufTy).Contents (Elt F)) (k9_v2 V) :=
  ssa1 V 142 main_call9_v2 main_v69 (Host.sqrt : (⟨S1x1000, .f32⟩ : BufTy).Contents (Elt F) → (⟨S1x1000, .f32⟩ : BufTy).Contents (Elt F)) rfl (by decide +kernel) (by decide +kernel)
theorem cst_10_eq : cst_10 V = ((constant S_ .f32 0x2B8CBCCC#32) : (⟨S_, .f32⟩ : BufTy).Contents (Elt F)) :=
  ssa0 V 143 main_cst_10 ((constant S_ .f32 0x2B8CBCCC#32) : (⟨S_, .f32⟩ : BufTy).Contents (Elt F)) rfl (by decide +kernel)
theorem v70_eq : v70 V = (broadcastInDim S1x1000 ![] bcast_S_S1x1000 : (⟨S_, .f32⟩ : BufTy).Contents (Elt F) → (⟨S1x1000, .f32⟩ : BufTy).Contents (Elt F)) (cst_10 V) :=
  ssa1 V 144 main_cst_10 main_v70 (broadcastInDim S1x1000 ![] bcast_S_S1x1000 : (⟨S_, .f32⟩ : BufTy).Contents (Elt F) → (⟨S1x1000, .f32⟩ : BufTy).Contents (Elt F)) rfl (by decide +kernel) (by decide +kernel)
theorem v71_eq : v71 V = (maximumf : (⟨S1x1000, .f32⟩ : BufTy).Contents (Elt F) → (⟨S1x1000, .f32⟩ : BufTy).Contents (Elt F) → (⟨S1x1000, .f32⟩ : BufTy).Contents (Elt F)) (v69 V) (v70 V) :=
  ssa2 V 145 main_v69 main_v70 main_v71 (maximumf : (⟨S1x1000, .f32⟩ : BufTy).Contents (Elt F) → (⟨S1x1000, .f32⟩ : BufTy).Contents (Elt F) → (⟨S1x1000, .f32⟩ : BufTy).Contents (Elt F)) rfl (by decide +kernel) (by decide +kernel) (by decide +kernel)
theorem v72_eq : v72 V = (broadcastInDim S512x1000 ![0, 1] bcast_S1x1000_S512x1000_0_1 : (⟨S1x1000, .f32⟩ : BufTy).Contents (Elt F) → (⟨S512x1000, .f32⟩ : BufTy).Contents (Elt F)) (v71 V) :=
  ssa1 V 146 main_v71 main_v72 (broadcastInDim S512x1000 ![0, 1] bcast_S1x1000_S512x1000_0_1 : (⟨S1x1000, .f32⟩ : BufTy).Contents (Elt F) → (⟨S512x1000, .f32⟩ : BufTy).Contents (Elt F)) rfl (by decide +kernel) (by decide +kernel)
theorem v73_eq : v73 V = (Host.divf : (⟨S512x1000, .f32⟩ : BufTy).Contents (Elt F) → (⟨S512x1000, .f32⟩ : BufTy).Contents (Elt F) → (⟨S512x1000, .f32⟩ : BufTy).Contents (Elt F)) (v68 V) (v72 V) :=
  ssa2 V 147 main_v68 main_v72 main_v73 (Host.divf : (⟨S512x1000, .f32⟩ : BufTy).Contents (Elt F) → (⟨S512x1000, .f32⟩ : BufTy).Contents (Elt F) → (⟨S512x1000, .f32⟩ : BufTy).Contents (Elt F)) rfl (by decide +kernel) (by decide +kernel) (by decide +kernel)
theorem v74_eq : v74 V = ((fun l r => Host.dotGeneral dot_S4096x512_S512x1000_S4096x1000_1_0_0_1_n_n none l r) : (⟨S4096x512, .f32⟩ : BufTy).Contents (Elt F) → (⟨S512x1000, .f32⟩ : BufTy).Contents (Elt F) → (⟨S4096x1000, .f32⟩ : BufTy).Contents (Elt F)) (a0 V) (v73 V) :=
  ssa2 V 148 main_arg0 main_v73 main_v74 ((fun l r => Host.dotGeneral dot_S4096x512_S512x1000_S4096x1000_1_0_0_1_n_n none l r) : (⟨S4096x512, .f32⟩ : BufTy).Contents (Elt F) → (⟨S512x1000, .f32⟩ : BufTy).Contents (Elt F) → (⟨S4096x1000, .f32⟩ : BufTy).Contents (Elt F)) rfl (by decide +kernel) (by decide +kernel) (by decide +kernel)

/-- The run: the result is its tensor, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v74) = v74 (fun b => m (c, b))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨h c main_v74, (h c main_arg0).trans (a0_eq _), (h c main_arg1).trans (a1_eq _),
      (h c main_arg2).trans (a2_eq _)⟩)
    (run_seq scopedRefs_eq scopedSems_eq defs main (fun _ => ops) main_eq (fun _ => ops_sub) m ρ)

end Cert.ReferenceIdeal.Value

end
-- ==== Proof.Row.lean ====
module

public import Idealize.ShloMosaic.Lib.Pointwise
public import Idealize.ShloMosaic.Lib.Pipeline.ValueKit

@[expose] public section

set_option maxRecDepth 16384

/-! What the kernel computes, row by row: the statistics of a row of features, the counts and ranks of its class, and the
weights they give. Rows are numbered from 0 to 5119: the first 1024 come from the padded table, the others from x. -/

noncomputable section

namespace Cert.Row

open Idealize.ShloMosaic

/-- The largest logit. -/
def top (l : Fin 1000 → EReal) : EReal := Finset.univ.fold max (Ideal.ofBits .f32 0xFF800000#32) l

/-- The logits of the row `s`. -/
def lgt (W : Fin 1000 → Fin 512 → EReal) (b : Fin 1000 → EReal) (s : Fin 512 → EReal) (c : Fin 1000) : EReal := ∑ k, s k * W c k + b c

/-- The entropy as the kernel computes it. -/
def ent (l : Fin 1000 → EReal) : EReal :=
  top l + Ideal.log (∑ c, Ideal.exp (l c - top l)) - Ideal.div (∑ c, l c * Ideal.exp (l c - top l)) (∑ c, Ideal.exp (l c - top l))

/-- The first position of the largest logit. -/
def am (l : Fin 1000 → EReal) : BitVec 32 :=
  Finset.univ.fold IntOp.minsi 2147483647#32 fun c : Fin 1000 => if l c = top l then BitVec.ofNat 32 c else 1073741824#32

/-- One over the clamped norm. -/
def inv (n : EReal) : EReal := Ideal.div 1 (max n (Ideal.ofBits .f32 0x2B8CBCCC#32))

def norm (s : Fin 512 → EReal) : EReal := Ideal.sqrt (∑ k, s k * s k)

/-- A bit as a number. -/
def bit (b : Prop) [Decidable b] : EReal := if b then 1 else 0

theorem bit_congr {a a' : BitVec 32} {n n' : ℕ} (h : a = a') (hn : n = n') : bit (a = BitVec.ofNat 32 n) = bit (a' = BitVec.ofNat 32 n') := by
  subst h hn; rfl

/-- The rows that are not padding. -/
abbrev valid (q : ℕ) : Prop := q < 1000 ∨ 1024 ≤ q

/-- Row `q'` comes before row `q` in its class. -/
abbrev before (E : Fin 5120 → EReal) (q' q : Fin 5120) : Prop := E q' < E q ∨ (E q' = E q ∧ q'.val < q.val)

/-- How many rows of the class come before `q`. -/
def rank (E : Fin 5120 → EReal) (C : Fin 5120 → BitVec 32) (q : Fin 5120) : EReal := ∑ q', bit (before E q' q ∧ C q' = C q)

def coef2 (E : Fin 5120 → EReal) (C : Fin 5120 → BitVec 32) (n : Fin 5120 → EReal) (q : Fin 5120) : EReal :=
  if rank E C q < Ideal.ofBits .f32 0x42C80000#32 then inv (n q) else 0

/-- The weights: the rows of each class, each times its coefficient. -/
def wgt (C : Fin 5120 → BitVec 32) (co : Fin 5120 → EReal) (S : Fin 5120 → Fin 512 → EReal) (c : Fin 1000) (k : Fin 512) : EReal :=
  ∑ q, bit (C q = BitVec.ofNat 32 c) * co q * S q k

def cnt (C : Fin 5120 → BitVec 32) (c : Fin 1000) : EReal := ∑ q, bit (C q = BitVec.ofNat 32 c)

def cls (L : Fin 5120 → Fin 1000 → EReal) (q : Fin 5120) : BitVec 32 := if valid q then am (L q) else 1000#32

def coef (S : Fin 5120 → Fin 512 → EReal) (q : Fin 5120) : EReal := if valid q then inv (norm (S q)) else 0

/-- The rows. -/
def rows (P : Fin 1024 → Fin 512 → EReal) (X : Fin 4096 → Fin 512 → EReal) (q : Fin 5120) (k : Fin 512) : EReal :=
  if h : q.val < 1024 then P ⟨q, h⟩ k else X ⟨q - 1024, by omega⟩ k

/-! ## Words -/

theorem sit (b : BitVec 1) : (FloatOps.sitofp (F := Ideal) .f32 (BitVec.setWidth 32 b) : EReal) = bit (b = 1#1) := by
  have h : b = 0#1 ∨ b = 1#1 := by revert b; decide
  show (((BitVec.setWidth 32 b).toInt : ℝ) : EReal) = _
  rcases h with rfl | rfl
  · simp [bit]
  · simp [bit]

theorem sit_eq (x y : BitVec 32) : (FloatOps.sitofp (F := Ideal) .f32 (BitVec.setWidth 32 (IntOp.cmpi .eq x y)) : EReal) = bit (x = y) := by
  rw [sit]
  refine if_congr ?_ rfl rfl
  show BitVec.ofBool (x == y) = 1#1 ↔ _
  by_cases h : x = y
  · simp [h]
  · simp [beq_eq_false_iff_ne.mpr h, h]

theorem valid_word (t r : ℕ) (ht : t < 10) (hr : r < 512) {α : Type} (a b : α) :
    Scalar.select (IntOp.ori (IntOp.cmpi .slt (IntOp.addi (Scalar.muli (BitVec.ofNat 32 t) 512#32) (BitVec.ofNat 32 r)) 1000#32)
      (IntOp.cmpi .sge (IntOp.addi (Scalar.muli (BitVec.ofNat 32 t) 512#32) (BitVec.ofNat 32 r)) 1024#32)) a b
      = if valid (t * 512 + r) then a else b := by
  have e : IntOp.addi (Scalar.muli (BitVec.ofNat 32 t) 512#32) (BitVec.ofNat 32 r) = BitVec.ofNat 32 (t * 512 + r) := by
    apply BitVec.eq_of_toNat_eq
    simp [IntOp.addi, Scalar.muli, IntOp.muli]
  have hb : t * 512 + r < 5120 := by omega
  rw [e]
  generalize t * 512 + r = q at hb
  have h1 : (BitVec.ofNat 32 q).toInt = q := by rw [BitVec.toInt_eq_toNat_of_lt (by simp; omega)]; simp; omega
  have e1 : IntOp.cmpi .slt (BitVec.ofNat 32 q) 1000#32 = BitVec.ofBool (decide (q < 1000)) := by
    show BitVec.ofBool ((BitVec.ofNat 32 q).slt 1000#32) = _
    rw [BitVec.slt, h1]; congr 1; simp
  have e2 : IntOp.cmpi .sge (BitVec.ofNat 32 q) 1024#32 = BitVec.ofBool (decide (1024 ≤ q)) := by
    show BitVec.ofBool ((1024#32).sle (BitVec.ofNat 32 q)) = _
    rw [BitVec.sle, h1]; congr 1; simp
  rw [e1, e2]
  by_cases h1 : q < 1000 <;> by_cases h2 : 1024 ≤ q <;> simp [h1, h2, IntOp.ori, Scalar.select, valid]

theorem before_word (i j x r : ℕ) (hi : i < 10) (hj : j < 10) (hx : x < 512) (hr : r < 512) (p e : Prop) [Decidable p] [Decidable e] (a b : BitVec 32) :
    (FloatOps.sitofp (F := Ideal) .f32 (BitVec.setWidth 32 (IntOp.andi
      (IntOp.ori (BitVec.ofBool (decide p)) (IntOp.andi (BitVec.ofBool (decide e))
        (IntOp.cmpi .slt (IntOp.addi (Scalar.muli (BitVec.ofNat 32 j) 512#32) (BitVec.ofNat 32 x))
          (IntOp.addi (Scalar.muli (BitVec.ofNat 32 i) 512#32) (BitVec.ofNat 32 r)))))
      (IntOp.cmpi .eq a b))) : EReal)
      = bit ((p ∨ (e ∧ j * 512 + x < i * 512 + r)) ∧ a = b) := by
  have w : ∀ t r, IntOp.addi (Scalar.muli (BitVec.ofNat 32 t) 512#32) (BitVec.ofNat 32 r) = BitVec.ofNat 32 (t * 512 + r) := fun t r => by
    apply BitVec.eq_of_toNat_eq
    simp [IntOp.addi, Scalar.muli, IntOp.muli]
  have h1 : ∀ q < 5120, (BitVec.ofNat 32 q).toInt = q := fun q hq => by
    rw [BitVec.toInt_eq_toNat_of_lt (by simp; omega)]; simp; omega
  rw [sit, w, w]
  have e1 : IntOp.cmpi .slt (BitVec.ofNat 32 (j * 512 + x)) (BitVec.ofNat 32 (i * 512 + r)) = BitVec.ofBool (decide (j * 512 + x < i * 512 + r)) := by
    show BitVec.ofBool (BitVec.slt _ _) = _
    rw [BitVec.slt, h1 _ (by omega), h1 _ (by omega)]; congr 1; norm_cast
  have e2 : IntOp.cmpi .eq a b = BitVec.ofBool (decide (a = b)) := by
    show BitVec.ofBool (a == b) = _
    by_cases h : a = b
    · simp [h]
    · simp [beq_eq_false_iff_ne.mpr h, h]
  rw [e1, e2]
  refine if_congr ?_ rfl rfl
  by_cases h1 : p <;> by_cases h2 : e <;> by_cases h3 : j * 512 + x < i * 512 + r <;> by_cases h4 : a = b <;>
    simp [h1, h2, h3, h4, IntOp.ori, IntOp.andi]

end Cert.Row

end
-- ==== Proof.V0a.lean ====
module

public import proofs.«01_k».proof.Proof.R0
public import proofs.«01_k».proof.Proof.Row

@[expose] public section

set_option maxRecDepth 16384

/-! The statistics call: a row's entropy, class, norm and coefficient, and the counts and weights summed over all rows. -/

noncomputable section

namespace Cert.KernelIdeal.R0

open Cert.KernelIdeal Cert.KernelIdeal.Gen Idealize.ShloMosaic Idealize.ShloMosaic.TcCoe Idealize.SL.Sem
open Idealize.ShloMosaic.Pipeline (Dat)

variable (m : (c : Dev nD) → (b : Ref sig .tc) → Buf (Elt Ideal) ((c : Thread nD τ).loc b))

/-! ## The stored values, at the rows of a point -/

/-- The row a point's payload takes. -/
def sel (i : grid0.Coords) (v4 v6 : FVec Ideal S512x512 .f32) (x : Fin 512) (k : Fin 512) : EReal :=
  Scalar.select (Scalar.cmpi .slt (BitVec.ofNat 32 (i 0).val) 2#32) (v4 (ix2 x k)) (v6 (ix2 x k))

theorem pay4 (i : grid0.Coords) (v4 v6 : FVec Ideal S512x512 .f32) (x k : Fin 512) : k0_pay4 (F := Ideal) i v4 v6 (ix2 x k) = sel i v4 v6 x k := by
  pointwise [k0_pay4, sel]

/-- Its logits. -/
def lg (i : grid0.Coords) (v4 v6 : FVec Ideal S512x512 .f32) (v8 : FVec Ideal S1000x512 .f32) (v10 : FVec Ideal S1x1000 .f32) (x : Fin 512) : Fin 1000 → EReal :=
  Row.lgt (fun c k => v8 (ix2 c k)) (fun c => v10 (ix2 0 c)) (sel i v4 v6 x)

theorem pay5 (i : grid0.Coords) (v4 v6 : FVec Ideal S512x512 .f32) (v8 : FVec Ideal S1000x512 .f32) (v10 : FVec Ideal S1x1000 .f32) (x : Fin 512) (c : Fin 1000) :
    k0_pay5 (F := Ideal) i v4 v6 v8 v10 (ix2 x c) = lg i v4 v6 v8 v10 x c := by
  pointwise [k0_pay5, lg, Row.lgt]
  simp only [pay4]

theorem pay7 (i : grid0.Coords) (v4 v6 : FVec Ideal S512x512 .f32) (v8 : FVec Ideal S1000x512 .f32) (v10 : FVec Ideal S1x1000 .f32) (x : Fin 512) (z : Fin 1) :
    k0_pay7 (F := Ideal) i v4 v6 v8 v10 (ix2 x z) = Row.ent (lg i v4 v6 v8 v10 x) := by
  pointwise [k0_pay7, k0_pay6]
  simp only [pay5]
  rfl

theorem pay8 (i : grid0.Coords) (v4 v6 : FVec Ideal S512x512 .f32) (v8 : FVec Ideal S1000x512 .f32) (v10 : FVec Ideal S1x1000 .f32) (x : Fin 512) (z : Fin 1) :
    k0_pay8 (F := Ideal) i v4 v6 v8 v10 (ix2 x z) = Row.am (lg i v4 v6 v8 v10 x) := by
  pointwise [k0_pay8, k0_pay6]
  simp only [pay5]
  rfl

theorem coords_lt (i : grid0.Coords) : (i 0).val < 10 := (i 0).isLt

abbrev at36 (i : grid0.Coords) : BitVec 32 := Scalar.muli (BitVec.ofNat 32 (i 0).val) 512#32

theorem pay10 (i : grid0.Coords) (v35 : IVec S512x1 32) (x : Fin 512) (z : Fin 1) :
    k0_pay10 v35 (at36 i) (ix2 x z) = if Row.valid ((i 0).val * 512 + x.val) then v35 (ix2 x z) else 1000#32 := by
  pointwise [k0_pay10, k0_pay9]
  exact Row.valid_word _ _ (coords_lt i) x.isLt _ _

theorem pay11 (v7 : FVec Ideal S512x512 .f32) (x : Fin 512) (z : Fin 1) :
    k0_pay11 (F := Ideal) v7 (ix2 x z) = Row.norm fun k => v7 (ix2 x k) := by
  pointwise [k0_pay11, Row.norm]

theorem pay12 (i : grid0.Coords) (v7 : FVec Ideal S512x512 .f32) (x : Fin 512) (z : Fin 1) :
    k0_pay12 (F := Ideal) v7 (at36 i) (ix2 x z) = if Row.valid ((i 0).val * 512 + x.val) then Row.inv (Row.norm fun k => v7 (ix2 x k)) else 0 := by
  pointwise [k0_pay12, k0_pay11, k0_pay9]
  exact Row.valid_word _ _ (coords_lt i) x.isLt _ _

theorem pay2 (j) : k0_pay2 (F := Ideal) j = 0 := by pointwise [k0_pay2]
theorem pay3 (j) : k0_pay3 (F := Ideal) j = 0 := by pointwise [k0_pay3]

theorem pay14 (v35 : IVec S512x1 32) (v36 : BitVec 32) (v65 : FVec Ideal S1x1000 .f32) (j : S1x1000.Idx) :
    k0_pay14 (F := Ideal) v35 v36 v65 j = v65 j + ∑ x : Fin 512, Row.bit (k0_pay10 v35 v36 (ix2 x 0) = BitVec.ofNat 32 (j 1).val) := by
  idx_vars j
  pointwise [k0_pay14, k0_pay13]
  simp only [Row.sit_eq]
  first | done | rfl | (obtain rfl := Subsingleton.elim j0 0; rfl)

theorem pay1 (v35 : IVec S512x1 32) (v36 : BitVec 32) (v58 : FVec Ideal S512x1 .f32) (v7 : FVec Ideal S512x512 .f32) (v72 : FVec Ideal S1000x512 .f32) (j : S1000x512.Idx) :
    k0_pay1 (F := Ideal) v7 v58 (k0_pay13 v35 v36) (k0_pay15 v72) j
      = v72 j + ∑ x : Fin 512, Row.bit (k0_pay10 v35 v36 (ix2 x 0) = BitVec.ofNat 32 (j 0).val) * v58 (ix2 x 0) * v7 (ix2 x (j 1)) := by
  idx_vars j
  pointwise [k0_pay1, k0_pay13, k0_pay15]
  simp only [Row.sit_eq]
  first | done | rfl

end Cert.KernelIdeal.R0

end
-- ==== Proof.V0.lean ====
module

public import proofs.«01_k».proof.Proof.V0a

@[expose] public section

set_option maxRecDepth 16384

/-! The arrays the statistics call leaves. -/

noncomputable section

namespace Cert.KernelIdeal.R0

open Cert.KernelIdeal Cert.KernelIdeal.Gen Idealize.ShloMosaic Idealize.ShloMosaic.TcCoe Idealize.SL.Sem
open Idealize.ShloMosaic.Pipeline (Dat)

variable (m : (c : Dev nD) → (b : Ref sig .tc) → Buf (Elt Ideal) ((c : Thread nD τ).loc b))

theorem idx : ∀ t : Fin cfg0.N, win0_0.index t = ![min t.val 1, 0] ∧ win0_1.index t = ![t.val - 2, 0] ∧ win0_2.index t = ![0, 0] ∧ win0_3.index t = ![0, 0]
    ∧ win0_4.index t = ![t.val, 0] ∧ win0_5.index t = ![t.val, 0] ∧ win0_6.index t = ![t.val, 0] ∧ win0_7.index t = ![t.val, 0]
    ∧ win0_8.index t = ![0, 0] ∧ win0_9.index t = ![0, 0] ∧ (grid0.coords t 0).val = t.val :=
  (by decide +kernel : ∀ t : Fin grid0.N, _)

theorem co (t : Fin cfg0.N) : (grid0.coords t 0).val = t.val := (idx t).2.2.2.2.2.2.2.2.2.2

/-! ## The rows, and the arrays as functions of them -/

def rows (c : Dev nD) : Fin 5120 → Fin 512 → EReal := Row.rows (fun p k => m c main_v1 (ix2 p k)) (fun p k => m c main_arg0 (ix2 p k))
def lgs (c : Dev nD) (q : Fin 5120) : Fin 1000 → EReal :=
  Row.lgt (fun a k => m c main_arg1 (ix2 a k)) (fun a => m c main_v2 (ix2 0 a)) (rows m c q)

theorem sel_row (c : Dev nD) (t : Fin cfg0.N) (x : Fin 512) (h : t.val * 512 + x.val < 5120) :
    sel (grid0.coords t) (iblk m c 0 t) (iblk m c 1 t) x = rows m c ⟨t.val * 512 + x, h⟩ := by
  funext k
  have hb : t.val < 10 := lt_of_lt_of_eq t.isLt N_0
  unfold sel rows Row.rows
  rw [co t]
  have e : Scalar.cmpi .slt (BitVec.ofNat 32 t.val) 2#32 = BitVec.ofBool (decide (t.val < 2)) := by
    have : ∀ n < 10, Scalar.cmpi .slt (BitVec.ofNat 32 n) 2#32 = BitVec.ofBool (decide (n < 2)) := by decide
    exact this _ hb
  rw [e]
  by_cases h2 : t.val < 2
  · have h3 : t.val * 512 + x.val < 1024 := by omega
    simp only [h2, h3, dif_pos, decide_true, Scalar.select]
    show iblk m c 0 t _ = _
    blk_point [iblk, V, idx t]
  · have h3 : ¬ t.val * 512 + x.val < 1024 := by omega
    simp only [h2, h3, dif_neg, not_false_eq_true, decide_false, Scalar.select]
    show iblk m c 1 t _ = _
    blk_point [iblk, V, idx t]

theorem lg_row (c : Dev nD) (t : Fin cfg0.N) (x : Fin 512) (h : t.val * 512 + x.val < 5120) :
    lg (grid0.coords t) (iblk m c 0 t) (iblk m c 1 t) (iblk m c 2 t) (iblk m c 3 t) x = lgs m c ⟨t.val * 512 + x, h⟩ := by
  funext a
  unfold lg lgs Row.lgt
  rw [sel_row m c t x h]
  refine congrArg₂ (· + ·) (Finset.sum_congr rfl fun k _ => congrArg (rows m c _ k * ·) ?_) ?_
  · show (iblk m c 2 t : FVec Ideal S1000x512 .f32) (ix2 a k) = _
    blk_point [iblk, V, idx t]
  · show (iblk m c 3 t : FVec Ideal S1x1000 .f32) (ix2 0 a) = _
    blk_point [iblk, V, idx t]

/-- A point's rows. -/
theorem row_of (t : Fin cfg0.N) (y : S512x1.Idx) : ∃ r : Fin 512, y = ix2 r 0 ∧ r.val = (y 0).val ∧ t.val * 512 + r.val < 5120 := by
  have hb : t.val < 10 := lt_of_lt_of_eq t.isLt N_0
  have hr : (y 0).val < 512 := (y 0).isLt
  exact ⟨⟨_, hr⟩, (eq_ix2 y).trans ((ix2_inj ..).2 ⟨Fin.ext rfl, Subsingleton.elim (α := Fin 1) _ _⟩), rfl, by show _ + (y 0).val < _; omega⟩

theorem pay4_row (c : Dev nD) (t : Fin cfg0.N) (x k : Fin 512) (h : t.val * 512 + x.val < 5120) :
    k0_pay4 (F := Ideal) (grid0.coords t) (iblk m c 0 t) (iblk m c 1 t) (ix2 x k) = rows m c ⟨t.val * 512 + x, h⟩ k :=
  (pay4 _ _ _ _ _).trans (congrFun (sel_row m c t x h) k)

theorem pay7_row (c : Dev nD) (t : Fin cfg0.N) (x : Fin 512) (h : t.val * 512 + x.val < 5120) :
    k0_pay7 (F := Ideal) (grid0.coords t) (iblk m c 0 t) (iblk m c 1 t) (iblk m c 2 t) (iblk m c 3 t) (ix2 x 0) = Row.ent (lgs m c ⟨t.val * 512 + x, h⟩) :=
  (pay7 _ _ _ _ _ _ _).trans (congrArg Row.ent (lg_row m c t x h))

theorem pay10_row (c : Dev nD) (t : Fin cfg0.N) (x : Fin 512) (h : t.val * 512 + x.val < 5120) :
    k0_pay10 (k0_pay8 (F := Ideal) (grid0.coords t) (iblk m c 0 t) (iblk m c 1 t) (iblk m c 2 t) (iblk m c 3 t)) (at36 (grid0.coords t)) (ix2 x 0)
      = Row.cls (lgs m c) ⟨t.val * 512 + x, h⟩ := by
  refine (pay10 _ _ _ _).trans ?_
  rw [co t]
  unfold Row.cls
  rw [← lg_row m c t x h]
  exact if_congr Iff.rfl (pay8 _ _ _ _ _ _ _) rfl

theorem pay11_row (c : Dev nD) (t : Fin cfg0.N) (x : Fin 512) (h : t.val * 512 + x.val < 5120) :
    k0_pay11 (k0_pay4 (F := Ideal) (grid0.coords t) (iblk m c 0 t) (iblk m c 1 t)) (ix2 x 0) = Row.norm (rows m c ⟨t.val * 512 + x, h⟩) :=
  (pay11 _ _ _).trans (congrArg Row.norm (funext fun k => pay4_row m c t x k h))

theorem pay12_row (c : Dev nD) (t : Fin cfg0.N) (x : Fin 512) (h : t.val * 512 + x.val < 5120) :
    k0_pay12 (k0_pay4 (F := Ideal) (grid0.coords t) (iblk m c 0 t) (iblk m c 1 t)) (at36 (grid0.coords t)) (ix2 x 0) = Row.coef (rows m c) ⟨t.val * 512 + x, h⟩ := by
  refine (pay12 _ _ _ _).trans ?_
  rw [co t]
  exact if_congr Iff.rfl (congrArg (fun s => Row.inv (Row.norm s)) (funext fun k => pay4_row m c t x k h)) rfl

/-! ## The tiled arrays -/

theorem o4 (c : Dev nD) (t : Fin cfg0.N) (y : S512x1.Idx) :
    (outsAt0 m c t.val t.isLt).1 y = k0_pay7 (F := Ideal) (grid0.coords t) (iblk m c 0 t) (iblk m c 1 t) (iblk m c 2 t) (iblk m c 3 t) y := by
  by_cases h : t.val % 10 = 0
  · rw [outsAt0_A m c t h]; frame_out
  · rw [outsAt0_B m c t h]; frame_out

theorem o5 (c : Dev nD) (t : Fin cfg0.N) (y : S512x1.Idx) :
    (outsAt0 m c t.val t.isLt).2.1 y = k0_pay10 (k0_pay8 (F := Ideal) (grid0.coords t) (iblk m c 0 t) (iblk m c 1 t) (iblk m c 2 t) (iblk m c 3 t)) (at36 (grid0.coords t)) y := by
  by_cases h : t.val % 10 = 0
  · rw [outsAt0_A m c t h]; frame_out
  · rw [outsAt0_B m c t h]; frame_out

theorem o6 (c : Dev nD) (t : Fin cfg0.N) (y : S512x1.Idx) :
    (outsAt0 m c t.val t.isLt).2.2.1 y = k0_pay11 (k0_pay4 (F := Ideal) (grid0.coords t) (iblk m c 0 t) (iblk m c 1 t)) y := by
  by_cases h : t.val % 10 = 0
  · rw [outsAt0_A m c t h]; frame_out
  · rw [outsAt0_B m c t h]; frame_out

/-- An array over the rows, read at a point's row. -/
def col {α : Type} (f : Fin 5120 → α) : S5120x1.Idx → α := fun j => f (j 0)

theorem final4 (c : Dev nD) : (dat m c).arrAt 4 cfg0.N = (col (fun q => Row.ent (lgs m c q)) : FVec Ideal S5120x1 .f32) := by
  refine (dat m c).arrAt_eq_of_covers 4 _ (by decide +kernel) fun t hf y => ?_
  blk_simp
  rw [after0_4]
  obtain ⟨r, hy, hr, hb⟩ := row_of t y
  refine (o4 m c t y).trans ((congrArg _ hy).trans ((pay7_row m c t r hb).trans ?_))
  refine congrArg (fun q => Row.ent (lgs m c q)) (Fin.ext (show t.val * 512 + r.val = _ from ?_))
  rw [hr]
  blk_simp [idx t]
  try omega

theorem final5 (c : Dev nD) : (dat m c).arrAt 5 cfg0.N = (col (Row.cls (lgs m c)) : IVec S5120x1 32) := by
  refine (dat m c).arrAt_eq_of_covers 5 _ (by decide +kernel) fun t hf y => ?_
  blk_simp
  rw [after0_5]
  obtain ⟨r, hy, hr, hb⟩ := row_of t y
  refine (o5 m c t y).trans ((congrArg _ hy).trans ((pay10_row m c t r hb).trans ?_))
  refine congrArg (Row.cls (lgs m c)) (Fin.ext (show t.val * 512 + r.val = _ from ?_))
  rw [hr]
  blk_simp [idx t]
  try omega

theorem final6 (c : Dev nD) : (dat m c).arrAt 6 cfg0.N = (col (fun q => Row.norm (rows m c q)) : FVec Ideal S5120x1 .f32) := by
  refine (dat m c).arrAt_eq_of_covers 6 _ (by decide +kernel) fun t hf y => ?_
  blk_simp
  rw [after0_6]
  obtain ⟨r, hy, hr, hb⟩ := row_of t y
  refine (o6 m c t y).trans ((congrArg _ hy).trans ((pay11_row m c t r hb).trans ?_))
  refine congrArg (fun q => Row.norm (rows m c q)) (Fin.ext (show t.val * 512 + r.val = _ from ?_))
  rw [hr]
  blk_simp [idx t]
  try omega

/-! ## The accumulated arrays -/

theorem final8 (c : Dev nD) : (dat m c).arrAt 8 cfg0.N = ((fun j => Row.cnt (Row.cls (lgs m c)) (j 1)) : FVec Ideal S1x1000 .f32) := by
  refine (dat m c).arrAt_eq_of_covers 8 _ (by decide +kernel) fun t hf y => ?_
  blk_simp
  have ht : t.val % 10 = 9 := (flush0_8 t).mp hf
  have htN : t.val < 10 := lt_of_lt_of_eq t.isLt N_0
  rw [after0_8, Pipeline.eq_sum_fin_of_reset_step_apply_last (fun n h => (outsAt0 m c n h).2.2.2.2.1) 10 (fun _ => 0)
    (fun t j => ∑ x : Fin 512, Row.bit (k0_pay10 (k0_pay8 (F := Ideal) (grid0.coords t) (iblk m c 0 t) (iblk m c 1 t) (iblk m c 2 t) (iblk m c 3 t)) (at36 (grid0.coords t)) (ix2 x 0)
      = BitVec.ofNat 32 (j 1).val))
    (fun t h j => by rw [outsAt0_A m c t h]; frame_out; rw [pay14, pay2])
    (fun t h j => by rw [outsAt0_B m c t h]; frame_out; rw [pay14])
    (le_of_eq N_0) t ((show t.val + 1 = 10 by omega).trans N_0.symm) _, zero_add]
  unfold Row.cnt
  refine Fin.sum_mul_add_congr fun s k hl => ?_
  refine Row.bit_congr (pay10_row m c s k hl) ?_
  blk_simp [idx t]

theorem final9 (c : Dev nD) : (dat m c).arrAt 9 cfg0.N
    = ((fun j => Row.wgt (Row.cls (lgs m c)) (Row.coef (rows m c)) (rows m c) (j 0) (j 1)) : FVec Ideal S1000x512 .f32) := by
  refine (dat m c).arrAt_eq_of_covers 9 _ (by decide +kernel) fun t hf y => ?_
  blk_simp
  have ht : t.val % 10 = 9 := (flush0_9 t).mp hf
  have htN : t.val < 10 := lt_of_lt_of_eq t.isLt N_0
  rw [after0_9, Pipeline.eq_sum_fin_of_reset_step_apply_last (fun n h => (outsAt0 m c n h).2.2.2.2.2) 10 (fun _ => 0)
    (fun t j => ∑ x : Fin 512, Row.bit (k0_pay10 (k0_pay8 (F := Ideal) (grid0.coords t) (iblk m c 0 t) (iblk m c 1 t) (iblk m c 2 t) (iblk m c 3 t)) (at36 (grid0.coords t)) (ix2 x 0)
      = BitVec.ofNat 32 (j 0).val) * k0_pay12 (k0_pay4 (F := Ideal) (grid0.coords t) (iblk m c 0 t) (iblk m c 1 t)) (at36 (grid0.coords t)) (ix2 x 0)
        * k0_pay4 (F := Ideal) (grid0.coords t) (iblk m c 0 t) (iblk m c 1 t) (ix2 x (j 1)))
    (fun t h j => by rw [outsAt0_A m c t h]; frame_out; rw [pay1, pay3])
    (fun t h j => by rw [outsAt0_B m c t h]; frame_out; rw [pay1])
    (le_of_eq N_0) t ((show t.val + 1 = 10 by omega).trans N_0.symm) _, zero_add]
  unfold Row.wgt
  refine Fin.sum_mul_add_congr fun s k hl => ?_
  refine Ideal.mul_congr (Ideal.mul_congr (Row.bit_congr (pay10_row m c s k hl) ?_) (pay12_row m c s k hl)) ((pay4_row m c s k (y 1) hl).trans (congrArg _ (Fin.ext ?_)))
  · blk_simp [idx t]
  · blk_simp [idx t]

end Cert.KernelIdeal.R0

end
-- ==== Proof.V1.lean ====
module

public import proofs.«01_k».proof.Proof.R1
public import proofs.«01_k».proof.Proof.Row

@[expose] public section

set_option maxRecDepth 16384

/-! The ranking call: a row's coefficient is one over its norm when fewer than 100 rows of its class come before it. -/

noncomputable section

namespace Cert.KernelIdeal.R1

open Cert.KernelIdeal Cert.KernelIdeal.Gen Idealize.ShloMosaic Idealize.ShloMosaic.TcCoe Idealize.SL.Sem
open Idealize.ShloMosaic.Pipeline (Dat)

variable (m : (c : Dev nD) → (b : Ref sig .tc) → Buf (Elt Ideal) ((c : Thread nD τ).loc b))

theorem hzero (j) : k1_pay3 (F := Ideal) j = 0 := by pointwise [k1_pay3]

theorem coords_lt (i : grid1.Coords) : (i 0).val < 10 ∧ (i 1).val < 10 := ⟨(i 0).isLt, (i 1).isLt⟩

theorem hpay (i : grid1.Coords) (v3 : FVec Ideal S512x1 .f32) (v5 : IVec S512x1 32) (v11 : FVec Ideal S1x512 .f32) (v13 : IVec S1x512 32) (v36 : FVec Ideal S512x1 .f32)
    (j : S512x1.Idx) :
    k1_pay1 (k1_pay4 (F := Ideal) i v3 v5 v11 v13 v36) j
      = v36 j + ∑ x : Fin 512, Row.bit ((v11 (ix2 0 x) < v3 (ix2 (j 0) 0) ∨ (v11 (ix2 0 x) = v3 (ix2 (j 0) 0) ∧ (i 1).val * 512 + x.val < (i 0).val * 512 + (j 0).val))
          ∧ v13 (ix2 0 x) = v5 (ix2 (j 0) 0)) := by
  idx_vars j
  pointwise [k1_pay1, k1_pay4]
  simp only [Row.before_word (i 0).val (i 1).val _ _ (coords_lt i).1 (coords_lt i).2 (Fin.isLt _) (Fin.isLt _)]
  rfl

theorem hcoef (v46 v49 : FVec Ideal S512x1 .f32) (j : S512x1.Idx) :
    k1_pay2 (F := Ideal) v46 v49 j = if v46 j < Ideal.ofBits .f32 0x42C80000#32 then Row.inv (v49 j) else 0 := by
  idx_vars j
  pointwise [k1_pay2, Row.inv]

theorem idx : ∀ t : Fin cfg1.N, win1_0.index t = ![t.val / 10, 0] ∧ win1_1.index t = ![t.val / 10, 0] ∧ win1_2.index t = ![t.val / 10, 0] ∧ win1_3.index t = ![0, t.val % 10]
    ∧ win1_4.index t = ![0, t.val % 10] ∧ win1_5.index t = ![t.val / 10, 0] ∧ (grid1.coords t 0).val = t.val / 10 ∧ (grid1.coords t 1).val = t.val % 10 :=
  (by decide +kernel : ∀ t : Fin grid1.N, _)

/-- How many rows of the class come before row `q`. -/
def rk (E : FVec Ideal S5120x1 .f32) (C : IVec S5120x1 32) (E' : FVec Ideal S1x5120 .f32) (C' : IVec S1x5120 32) (q : Fin 5120) : EReal :=
  ∑ q' : Fin 5120, Row.bit ((E' (ix2 0 q') < E (ix2 q 0) ∨ (E' (ix2 0 q') = E (ix2 q 0) ∧ q'.val < q.val)) ∧ C' (ix2 0 q') = C (ix2 q 0))

/-- The array the call leaves. -/
def out (E : FVec Ideal S5120x1 .f32) (C : IVec S5120x1 32) (n : FVec Ideal S5120x1 .f32) (E' : FVec Ideal S1x5120 .f32) (C' : IVec S1x5120 32) : FVec Ideal S5120x1 .f32 := fun j =>
  if rk E C E' C' (j 0) < Ideal.ofBits .f32 0x42C80000#32 then Row.inv (n (ix2 (j 0) 0)) else 0

theorem run_at (c : Dev nD) (t : Fin cfg1.N) (ht : t.val % 10 = 10 - 1) (r : Fin 512) (q : Fin 5120) (hq : q.val = t.val / 10 * 512 + r.val) :
    (outsAt1 m c t.val t.isLt).2 (ix2 r 0) = rk (m c main_v3_0) (m c main_v3_1) (m c main_case0b1_v10) (m c main_case0b1_v11) q := by
  have htN : t.val < 100 := lt_of_lt_of_eq t.isLt N_1
  rw [Pipeline.eq_sum_fin_of_reset_step_apply_of_flush (fun n h => (outsAt1 m c n h).2) 10 (fun _ => 0) _
    (fun t h j => by rw [outsAt1_A m c t h (by omega)]; frame_out; rw [hpay, hzero])
    (fun t h j => by
      by_cases h9 : t.val % 10 = 9
      · rw [outsAt1_C m c t h h9]; frame_out; rw [hpay, (Memref.isWhole_whole cc1_scratch0).read_unread]
      · rw [outsAt1_B m c t h h9]; frame_out; rw [hpay, (Memref.isWhole_whole cc1_scratch0).read_unread])
    t ht _, zero_add]
  refine Fin.sum_mul_add_congr fun s k hl => ?_
  have hs := s.isLt
  have hp : 10 * (t.val / 10) + s.val < cfg1.N := Pipeline.run_point_lt_of_flush t ht s
  have e3 : (iblk m c 3 ⟨_, hp⟩ : FVec Ideal S1x512 .f32) (ix2 0 k) = (m c main_case0b1_v10 : FVec Ideal S1x5120 .f32) (ix2 0 ⟨s.val * 512 + k.val, hl⟩) := by
    blk_ext [iblk, V, idx ⟨_, hp⟩]
  have e4 : (iblk m c 4 ⟨_, hp⟩ : IVec S1x512 32) (ix2 0 k) = (m c main_case0b1_v11 : IVec S1x5120 32) (ix2 0 ⟨s.val * 512 + k.val, hl⟩) := by
    blk_ext [iblk, V, idx ⟨_, hp⟩]
  have e0 : (iblk m c 0 ⟨_, hp⟩ : FVec Ideal S512x1 .f32) (ix2 r 0) = (m c main_v3_0 : FVec Ideal S5120x1 .f32) (ix2 q 0) := by
    blk_ext [iblk, V, idx ⟨_, hp⟩]
  have e1 : (iblk m c 1 ⟨_, hp⟩ : IVec S512x1 32) (ix2 r 0) = (m c main_v3_1 : IVec S5120x1 32) (ix2 q 0) := by
    blk_ext [iblk, V, idx ⟨_, hp⟩]
  have i0 : (grid1.coords ⟨_, hp⟩ 0).val = t.val / 10 := (idx ⟨_, hp⟩).2.2.2.2.2.2.1.trans (by show (10 * (t.val / 10) + s.val) / 10 = _; omega)
  have i1 : (grid1.coords ⟨_, hp⟩ 1).val = s.val := (idx ⟨_, hp⟩).2.2.2.2.2.2.2.trans (by show (10 * (t.val / 10) + s.val) % 10 = _; omega)
  have i01 : ((grid1.coords ⟨_, hp⟩ 1).val * 512 + k.val < (grid1.coords ⟨_, hp⟩ 0).val * 512 + r.val) = (s.val * 512 + k.val < q.val) := by rw [i0, i1, hq]
  exact if_congr (by
    refine Iff.of_eq (congrArg₂ And (congrArg₂ Or (congrArg₂ (fun a b : EReal => a < b) e3 e0) (congrArg₂ And (congrArg₂ (fun a b : EReal => a = b) e3 e0) i01)) (congrArg₂ (fun a b : BitVec 32 => a = b) e4 e1))) rfl rfl

theorem last (c : Dev nD) (t : Fin cfg1.N) (ht : t.val % 10 = 9) (j : S512x1.Idx) :
    (outsAt1 m c t.val t.isLt).1 j = k1_pay2 (F := Ideal) (outsAt1 m c t.val t.isLt).2 (iblk m c 2 t) j := by
  rw [outsAt1_C m c t (by omega) ht]; frame_out

theorem final (c : Dev nD) : (dat m c).arrAt 5 cfg1.N
    = out (m c main_v3_0) (m c main_v3_1) (m c main_v3_2) (m c main_case0b1_v10) (m c main_case0b1_v11) := by
  refine (dat m c).arrAt_eq_of_covers 5 _ (by decide +kernel) fun t hf y => ?_
  blk_simp
  have ht : t.val % 10 = 9 := (flush1_5 t).mp hf
  have htN : t.val < 100 := lt_of_lt_of_eq t.isLt N_1
  rw [after1_5]
  refine (last m c t ht y).trans ((hcoef _ _ y).trans ?_)
  have hr : (y 0).val < 512 := (y 0).isLt
  obtain ⟨r, hr'⟩ : ∃ r : Fin 512, r.val = (y 0).val := ⟨⟨_, hr⟩, rfl⟩
  have hy : (y : S512x1.Idx) = ix2 r 0 := by
    refine (eq_ix2 (y : S512x1.Idx)).trans ((ix2_inj ..).2 ⟨Fin.ext hr'.symm, Subsingleton.elim (α := Fin 1) _ _⟩)
  obtain ⟨q, hq⟩ : ∃ q : Fin 5120, q.val = t.val / 10 * 512 + r.val := ⟨⟨_, by omega⟩, rfl⟩
  have he : (((cfg1.win 5).blk t).view.emb y : S5120x1.Idx) 0 = q := by
    refine Fin.ext ?_
    blk_simp [idx t]
    omega
  have e2 : (iblk m c 2 t : FVec Ideal S512x1 .f32) (ix2 r 0) = (m c main_v3_2 : FVec Ideal S5120x1 .f32) (ix2 q 0) := by
    blk_ext [iblk, V, idx t]
  unfold out
  rw [he]
  refine (congrArg (fun z : S512x1.Idx => if (outsAt1 m c t.val t.isLt).2 z < _ then Row.inv ((iblk m c 2 t : FVec Ideal S512x1 .f32) z) else 0) hy).trans ?_
  exact congrArg₂ (fun a b : EReal => if a < Ideal.ofBits .f32 0x42C80000#32 then Row.inv b else 0) (run_at m c t ht r q hq) e2

end Cert.KernelIdeal.R1

end
-- ==== Proof.V2.lean ====
module

public import proofs.«01_k».proof.Proof.R2
public import proofs.«01_k».proof.Proof.Row

@[expose] public section

set_option maxRecDepth 16384

/-! The weights call: its result is the sum over all rows. -/

noncomputable section

namespace Cert.KernelIdeal.R2

open Cert.KernelIdeal Cert.KernelIdeal.Gen Idealize.ShloMosaic Idealize.ShloMosaic.TcCoe Idealize.SL.Sem
open Idealize.ShloMosaic.Pipeline (Dat)

variable (m : (c : Dev nD) → (b : Ref sig .tc) → Buf (Elt Ideal) ((c : Thread nD τ).loc b))

theorem hzero (j) : k2_pay1 (F := Ideal) j = 0 := by pointwise [k2_pay1]

/-- The row a point's payload takes. -/
def sel (i : grid2.Coords) (v4 v6 : FVec Ideal S512x512 .f32) (x : Fin 512) (k : Fin 512) : EReal :=
  Scalar.select (Scalar.cmpi .slt (BitVec.ofNat 32 (i 0).val) 2#32) (v4 (ix2 x k)) (v6 (ix2 x k))

theorem hpay (i : grid2.Coords) (v4 v6 : FVec Ideal S512x512 .f32) (v8 : IVec S512x1 32) (v15 : FVec Ideal S1000x512 .f32) (v17 : FVec Ideal S512x1 .f32)
    (j : S1000x512.Idx) :
    k2_pay2 (F := Ideal) i v4 v6 v8 v15 v17 j
      = v15 j + ∑ x : Fin 512, Row.bit (v8 (ix2 x 0) = BitVec.ofNat 32 (j 0).val) * v17 (ix2 x 0) * sel i v4 v6 x (j 1) := by
  idx_vars j
  pointwise [k2_pay2, sel]
  simp only [Row.sit_eq]
  rfl

theorem idx : ∀ t : Fin cfg2.N, win2_0.index t = ![min t.val 1, 0] ∧ win2_1.index t = ![t.val - 2, 0] ∧ win2_2.index t = ![t.val, 0] ∧ win2_3.index t = ![t.val, 0]
    ∧ win2_4.index t = ![0, 0] ∧ (grid2.coords t 0).val = t.val :=
  (by decide +kernel : ∀ t : Fin grid2.N, _)

theorem sel_row (c : Dev nD) (t : Fin cfg2.N) (x k : Fin 512) (h : t.val * 512 + x.val < 5120) :
    sel (grid2.coords t) (iblk m c 0 t) (iblk m c 1 t) x k
      = Row.rows (fun p k => m c main_v1 (ix2 p k)) (fun p k => m c main_arg0 (ix2 p k)) ⟨t.val * 512 + x, h⟩ k := by
  have hb : t.val < 10 := lt_of_lt_of_eq t.isLt N_2
  unfold sel Row.rows
  rw [(idx t).2.2.2.2.2]
  have e : Scalar.cmpi .slt (BitVec.ofNat 32 t.val) 2#32 = BitVec.ofBool (decide (t.val < 2)) := by
    have : ∀ n < 10, Scalar.cmpi .slt (BitVec.ofNat 32 n) 2#32 = BitVec.ofBool (decide (n < 2)) := by decide
    exact this _ hb
  rw [e]
  by_cases h2 : t.val < 2
  · have h3 : t.val * 512 + x.val < 1024 := by omega
    simp only [h2, h3, dif_pos, decide_true, Scalar.select]
    show iblk m c 0 t _ = _
    blk_point [iblk, V, idx t]
  · have h3 : ¬ t.val * 512 + x.val < 1024 := by omega
    simp only [h2, h3, dif_neg, not_false_eq_true, decide_false, Scalar.select]
    show iblk m c 1 t _ = _
    blk_point [iblk, V, idx t]

/-- The array the call leaves. -/
def out (P : FVec Ideal S1024x512 .f32) (X : FVec Ideal S4096x512 .f32) (C : IVec S5120x1 32) (co : FVec Ideal S5120x1 .f32) : FVec Ideal S1000x512 .f32 := fun j =>
  Row.wgt (fun q => C (ix2 q 0)) (fun q => co (ix2 q 0)) (Row.rows (fun p k => P (ix2 p k)) (fun p k => X (ix2 p k))) (j 0) (j 1)

theorem final (c : Dev nD) : (dat m c).arrAt 4 cfg2.N = out (m c main_v1) (m c main_arg0) (m c main_v3_1) (m c main_case0b1_v12) := by
  refine (dat m c).arrAt_eq_of_covers 4 _ (by decide +kernel) fun t hf y => ?_
  blk_simp
  have ht : t.val % 10 = 10 - 1 := (flush2_4 t).mp hf
  have htN : t.val < 10 := lt_of_lt_of_eq t.isLt N_2
  rw [after2_4, Pipeline.eq_sum_fin_of_reset_step_apply_last (fun n h => outsAt2 m c n h) 10 (fun _ => 0) _
    (fun t h j => by rw [outsAt2_A m c t h]; frame_out; rw [hpay, hzero])
    (fun t h j => by rw [outsAt2_B m c t h]; frame_out; rw [hpay])
    (le_of_eq N_2) t ((show t.val + 1 = 10 by omega).trans N_2.symm) _, zero_add]
  unfold out Row.wgt
  refine Fin.sum_mul_add_congr fun s k hl => ?_
  refine Ideal.mul_congr (Ideal.mul_congr (Row.bit_congr ?_ ?_) ?_) ((sel_row m c s k (y 1) hl).trans (congrArg _ (Fin.ext ?_)))
  · blk_point [iblk, V, idx s]
  · blk_simp [idx t]
  · blk_point [iblk, V, idx s]
  · blk_simp [idx t]

end Cert.KernelIdeal.R2

end
-- ==== Proof.V3.lean ====
module

public import proofs.«01_k».proof.Proof.R3
public import Idealize.ShloMosaic.Lib.Pipeline.ValueKit
public import Idealize.ShloMosaic.Lib.Pointwise

@[expose] public section

set_option maxRecDepth 16384

/-! The last call: every row of x against the normalised rows of the weights. -/

noncomputable section

namespace Cert.KernelIdeal.R3

open Cert.KernelIdeal Cert.KernelIdeal.Gen Idealize.ShloMosaic Idealize.ShloMosaic.TcCoe Idealize.SL.Sem
open Idealize.ShloMosaic.Pipeline (Dat)

/-- The clamp is positive. -/
theorem clamp_pos : 0 < Ideal.ofBits .f32 0x2B8CBCCC#32 := by
  simp [Ideal.ofBits, Ideal.ieee, -EReal.coe_mul]

/-- The norm of row `r`, no smaller than the clamp. -/
def nrm (w : FVec Ideal S1000x512 .f32) (r : Fin 1000) : EReal :=
  max (Ideal.sqrt (∑ k : Fin 512, w (ix2 r k) * w (ix2 r k))) (Ideal.ofBits .f32 0x2B8CBCCC#32)

/-- The product with the normalised rows. -/
def outTerm (x : FVec Ideal S4096x512 .f32) (w : FVec Ideal S1000x512 .f32) : FVec Ideal S4096x1000 .f32 := fun j =>
  ∑ k : Fin 512, x (ix2 (j 0) k) * Ideal.div (w (ix2 (j 1) k)) (nrm w (j 1))

variable (m : (c : Dev nD) → (b : Ref sig .tc) → Buf (Elt Ideal) ((c : Thread nD τ).loc b))

theorem idx : ∀ t : Fin cfg3.N, win3_0.index t = ![t.val, 0] ∧ win3_1.index t = ![0, 0] ∧ win3_2.index t = ![t.val, 0] :=
  (by decide +kernel : ∀ t : Fin grid3.N, _)

theorem point (c : Dev nD) (t : Fin cfg3.N) (y) : k3_pay1 (iblk m c 1 t) (iblk m c 0 t) y
    = outTerm (m c main_arg0) (m c main_v8) (((cfg3.win 2).blk t).view.emb y) := by
  pointwise [k3_pay1, outTerm, nrm]
  simp only [Idealize.ShloMosaic.Ideal.mul_one_div (ne_of_gt (lt_of_lt_of_le clamp_pos (le_max_right _ _)))]
  blk_point [iblk, V, idx t]

theorem final (c : Dev nD) : (dat m c).arrAt 2 cfg3.N = outTerm (m c main_arg0) (m c main_v8) := by
  refine (dat m c).arrAt_eq_of_covers 2 _ (by decide +kernel) fun t _ y => ?_
  blk_simp
  rw [after3_2]; frame_out
  exact point m c t y

end Cert.KernelIdeal.R3

end
-- ==== Proof.Ent.lean ====
module

public import proofs.«01_k».proof.Proof.Row

@[expose] public section

set_option maxRecDepth 16384

/-! The two ways to compute a row's entropy. With `m` the largest logit the kernel computes `m + log s − (Σ l·e)/s` and the
reference `−Σ p·log p`. Where `m` is a real number the two are equal; where it is infinite the first is `⊥` and the second is `0`. -/

noncomputable section

namespace Cert.Row

open Idealize.ShloMosaic

/-- The entropy as the reference computes it. -/
def entR (l : Fin 1000 → EReal) : EReal :=
  -∑ c, Ideal.exp (l c - top l - Ideal.log (∑ c, Ideal.exp (l c - top l))) * (l c - top l - Ideal.log (∑ c, Ideal.exp (l c - top l)))

theorem ofBits_bot : Ideal.ofBits .f32 0xFF800000#32 = ⊥ := by simp [Ideal.ofBits, Ideal.ieee]

theorem le_top' (l : Fin 1000 → EReal) (c : Fin 1000) : l c ≤ top l := (Finset.le_fold_max (l c)).2 (Or.inr ⟨c, Finset.mem_univ _, le_rfl⟩)

theorem top_le (l : Fin 1000 → EReal) (b : EReal) (h : ∀ c, l c ≤ b) : top l ≤ b :=
  (Finset.fold_max_le b).2 ⟨by rw [ofBits_bot]; exact bot_le, fun c _ => h c⟩

theorem top_mem (l : Fin 1000 → EReal) : ∃ c, l c = top l := by
  obtain ⟨c, _, h⟩ := Finset.exists_max_image Finset.univ l ⟨0, Finset.mem_univ _⟩
  exact ⟨c, le_antisymm (le_top' l c) (top_le l _ fun c' => h c' (Finset.mem_univ _))⟩

theorem exp_bot : Ideal.exp ⊥ = 0 := rfl
theorem exp_coe (r : ℝ) : Ideal.exp (r : EReal) = ((Real.exp r : ℝ) : EReal) := rfl
theorem log_zero : Ideal.log 0 = ⊥ := by
  show (if (0 : ℝ) ≤ 0 then (⊥ : EReal) else _) = ⊥
  exact if_pos le_rfl
theorem log_coe (r : ℝ) (h : 0 < r) : Ideal.log (r : EReal) = ((Real.log r : ℝ) : EReal) := by
  show (if r ≤ 0 then (⊥ : EReal) else _) = _
  exact if_neg (not_le.2 h)

theorem sum_coe {ι : Type} (s : Finset ι) (f : ι → ℝ) : ∑ c ∈ s, ((f c : ℝ) : EReal) = ((∑ c ∈ s, f c : ℝ) : EReal) := by
  classical
  induction s using Finset.induction_on with
  | empty => simp
  | insert a s ha ih => rw [Finset.sum_insert ha, Finset.sum_insert ha, ih, EReal.coe_add]

theorem bsub (y : EReal) : (⊥ : EReal) - y = ⊥ := EReal.bot_add (-y)

/-- An infinite largest logit: every shifted logit is `⊥`. -/
theorem sub_inf (l : Fin 1000 → EReal) (h : top l = ⊤ ∨ top l = ⊥) (c : Fin 1000) : l c - top l = ⊥ := by
  rcases h with h | h
  · rw [h]; exact EReal.add_bot (l c)
  · have : l c = ⊥ := le_bot_iff.1 (h ▸ le_top' l c)
    rw [this]; exact bsub _

theorem ent_inf (l : Fin 1000 → EReal) (h : top l = ⊤ ∨ top l = ⊥) : ent l = ⊥ := by
  unfold ent
  simp only [sub_inf l h, exp_bot, Finset.sum_const_zero, log_zero, mul_zero]
  rw [EReal.add_bot]; exact bsub _

theorem entR_inf (l : Fin 1000 → EReal) (h : top l = ⊤ ∨ top l = ⊥) : entR l = 0 := by
  unfold entR
  simp only [sub_inf l h, exp_bot, Finset.sum_const_zero, log_zero]
  simp only [bsub, exp_bot, zero_mul, Finset.sum_const_zero, neg_zero]

theorem ent_real (l : Fin 1000 → EReal) (r : ℝ) (h : top l = r) : ent l = entR l := by
  classical
  -- the logits are real or `⊥`
  have hl : ∀ c, l c = ⊥ ∨ ∃ a : ℝ, l c = a := fun c => by
    have hc : l c ≤ (r : EReal) := h ▸ le_top' l c
    induction hx : l c using EReal.rec with
    | bot => exact Or.inl rfl
    | coe a => exact Or.inr ⟨a, rfl⟩
    | top => rw [hx] at hc; exact absurd (top_le_iff.1 hc) (EReal.coe_ne_top r)
  have key : ∀ c, ∃ a w : ℝ, 0 ≤ w ∧ (l c = r → 0 < w) ∧ Ideal.exp (l c - r) = (w : EReal) ∧ l c * (w : EReal) = ((a * w : ℝ) : EReal)
      ∧ ∀ L : ℝ, Ideal.exp (l c - r - (L : EReal)) * (l c - r - (L : EReal)) = ((w * Real.exp (-L) * (a - r - L) : ℝ) : EReal) := fun c => by
    rcases hl c with hc | ⟨a, hc⟩
    · refine ⟨0, 0, le_rfl, fun e => ?_, ?_, ?_, fun L => ?_⟩
      · rw [hc] at e; exact absurd e.symm (EReal.coe_ne_bot r)
      · rw [hc, show (⊥ : EReal) - (r : EReal) = ⊥ from bsub _, exp_bot]; rfl
      · simp
      · rw [hc, show (⊥ : EReal) - (r : EReal) = ⊥ from bsub _, show (⊥ : EReal) - (L : EReal) = ⊥ from bsub _, exp_bot]; simp
    · refine ⟨a, Real.exp (a - r), (Real.exp_pos _).le, fun _ => Real.exp_pos _, ?_, ?_, fun L => ?_⟩
      · rw [hc, ← EReal.coe_sub, exp_coe]
      · rw [hc, ← EReal.coe_mul]
      · rw [hc, ← EReal.coe_sub, ← EReal.coe_sub, exp_coe, ← EReal.coe_mul, ← Real.exp_add]
        congr 3
  choose a w hw hpos he hm hp using key
  obtain ⟨c0, hc0⟩ := top_mem l
  have hs : 0 < ∑ c, w c := Finset.sum_pos' (fun c _ => hw c) ⟨c0, Finset.mem_univ _, hpos c0 (hc0.trans h)⟩
  unfold ent entR
  simp only [h, he, hm, sum_coe, log_coe _ hs, hp]
  have hne : ((∑ c, w c : ℝ) : EReal) ≠ 0 := fun e => hs.ne' (EReal.coe_eq_zero.1 e)
  rw [show Ideal.div ((∑ c, a c * w c : ℝ) : EReal) ((∑ c, w c : ℝ) : EReal) = (((∑ c, a c * w c) * (∑ c, w c)⁻¹ : ℝ) : EReal) by
    simp only [Ideal.div, if_neg hne, ← EReal.coe_inv, ← EReal.coe_mul]]
  rw [← EReal.coe_add, ← EReal.coe_sub, ← EReal.coe_neg]
  refine congrArg _ ?_
  generalize hS : ∑ c, w c = s at hs
  have e1 : Real.exp (-Real.log s) = s⁻¹ := by rw [Real.exp_neg, Real.exp_log hs]
  have e2 : ∑ c, w c * Real.exp (-Real.log s) * (a c - r - Real.log s) = s⁻¹ * (∑ c, a c * w c) - s⁻¹ * (r + Real.log s) * s := by
    rw [← hS, Finset.mul_sum, Finset.mul_sum, ← Finset.sum_sub_distrib, hS, e1]
    exact Finset.sum_congr rfl fun c _ => by ring
  rw [e2]
  have e3 : s⁻¹ * (r + Real.log s) * s = r + Real.log s := by
    rw [mul_comm s⁻¹, mul_assoc, inv_mul_cancel₀ hs.ne', mul_one]
  rw [e3]
  ring

end Cert.Row

end
-- ==== Proof.Arg.lean ====
module

public import proofs.«01_k».proof.Proof.Ent

@[expose] public section

set_option maxRecDepth 16384

/-! The first position of the largest logit: a fold of minima in the kernel, a fold over (value, position) pairs in the reference. -/

noncomputable section

namespace Cert.Row

open Idealize.ShloMosaic

/-- `c` is the first position of the largest logit. -/
def IsArg (l : Fin 1000 → EReal) (c : Fin 1000) : Prop := ∀ c', l c' < l c ∨ (l c' = l c ∧ c ≤ c')

theorem isArg_unique (l : Fin 1000 → EReal) (c c' : Fin 1000) (h : IsArg l c) (h' : IsArg l c') : c = c' := by
  rcases h c' with h1 | ⟨h1, h2⟩
  · rcases h' c with h3 | ⟨h3, _⟩
    · exact absurd h1 (not_lt.2 h3.le)
    · exact absurd h3 h1.ne'
  · rcases h' c with h3 | ⟨_, h4⟩
    · exact absurd h1 h3.ne'
    · exact le_antisymm h2 h4

theorem isArg_exists (l : Fin 1000 → EReal) : ∃ c, IsArg l c := by
  classical
  obtain ⟨c0, h0⟩ := top_mem l
  have hne : (Finset.univ.filter fun c => l c = top l).Nonempty := ⟨c0, Finset.mem_filter.2 ⟨Finset.mem_univ _, h0⟩⟩
  refine ⟨(Finset.univ.filter fun c => l c = top l).min' hne, fun c' => ?_⟩
  have hm := (Finset.mem_filter.1 (Finset.min'_mem _ hne)).2
  rw [hm]
  rcases lt_or_eq_of_le (le_top' l c') with h | h
  · exact Or.inl h
  · exact Or.inr ⟨h, Finset.min'_le (Finset.univ.filter fun c => l c = top l) c' ((Finset.mem_filter (p := fun c => l c = top l)).2 ⟨Finset.mem_univ _, h⟩)⟩

/-- The first position of the largest logit. -/
def arg (l : Fin 1000 → EReal) : Fin 1000 := (isArg_exists l).choose
theorem arg_spec (l : Fin 1000 → EReal) : IsArg l (arg l) := (isArg_exists l).choose_spec

theorem arg_top (l : Fin 1000 → EReal) : l (arg l) = top l := by
  refine le_antisymm (le_top' l _) (top_le l _ fun c => ?_)
  rcases arg_spec l c with h | h
  · exact h.le
  · exact h.1.le

theorem small_toInt (n : ℕ) (h : n < 2 ^ 31) : (BitVec.ofNat 32 n).toInt = n := by
  rw [BitVec.toInt_eq_toNat_of_lt (by simp; omega)]; simp; omega

theorem minsi_toInt (x y : BitVec 32) : (IntOp.minsi x y).toInt = min x.toInt y.toInt := by
  unfold IntOp.minsi
  rw [BitVec.slt]
  by_cases h : x.toInt < y.toInt
  · simp [h, min_eq_left h.le]
  · simp [h, min_eq_right (not_lt.1 h)]

/-- The kernel's fold. -/
theorem am_eq (l : Fin 1000 → EReal) : am l = BitVec.ofNat 32 (arg l) := by
  apply BitVec.eq_of_toInt_eq
  have hb : (arg l).val < 1000 := (arg l).isLt
  rw [small_toInt _ (by omega)]
  unfold am
  rw [← Finset.fold_hom (op := IntOp.minsi) (op' := min) (m := BitVec.toInt) (fun x y => minsi_toInt x y)]
  refine le_antisymm ?_ ?_
  · refine (Finset.fold_min_le _).2 (Or.inr ⟨arg l, Finset.mem_univ _, ?_⟩)
    rw [if_pos (arg_top l), small_toInt _ (by omega)]
  · refine (Finset.le_fold_min _).2 ⟨?_, fun c _ => ?_⟩
    · rw [show (2147483647#32 : BitVec 32).toInt = 2147483647 from by decide]; omega
    · by_cases h : l c = top l
      · rw [if_pos h, small_toInt _ (by omega)]
        rcases arg_spec l c with h1 | ⟨_, h2⟩
        · exact absurd (h.trans (arg_top l).symm) h1.ne
        · exact_mod_cast h2
      · rw [if_neg h, show (1073741824#32 : BitVec 32).toInt = 1073741824 from by decide]; omega

/-- The later pair stands unless the earlier is larger, or equal with the smaller position. -/
def pick (a b : EReal × BitVec 32) : EReal × BitVec 32 := if b.1 < a.1 ∨ (a.1 = b.1 ∧ a.2.toInt < b.2.toInt) then a else b

theorem fold_pick (L : List (EReal × BitVec 32)) (p0 : EReal × BitVec 32) :
    L.foldl pick p0 ∈ p0 :: L ∧ ∀ p ∈ p0 :: L, p.1 < (L.foldl pick p0).1 ∨ (p.1 = (L.foldl pick p0).1 ∧ (L.foldl pick p0).2.toInt ≤ p.2.toInt) := by
  induction L generalizing p0 with
  | nil => exact ⟨List.mem_cons_self, fun p hp => Or.inr (by rw [List.mem_singleton.1 hp]; exact ⟨rfl, le_rfl⟩)⟩
  | cons q L ih =>
    obtain ⟨h1, h2⟩ := ih (pick p0 q)
    have hl : ∀ p, (p = p0 ∨ p = q) → p.1 < (pick p0 q).1 ∨ (p.1 = (pick p0 q).1 ∧ (pick p0 q).2.toInt ≤ p.2.toInt) := by
      intro p hp
      unfold pick
      split
      · rename_i h
        rcases hp with rfl | rfl
        · exact Or.inr ⟨rfl, le_rfl⟩
        · rcases h with h | ⟨h, h'⟩
          · exact Or.inl h
          · exact Or.inr ⟨h.symm, h'.le⟩
      · rename_i h
        rw [not_or, not_and, not_lt, not_lt] at h
        rcases hp with rfl | rfl
        · rcases lt_or_eq_of_le h.1 with h' | h'
          · exact Or.inl h'
          · exact Or.inr ⟨h', h.2 h'⟩
        · exact Or.inr ⟨rfl, le_rfl⟩
    rw [List.foldl_cons]
    generalize L.foldl pick (pick p0 q) = r at h1 h2
    have hm := h2 _ List.mem_cons_self
    refine ⟨?_, fun p hp => ?_⟩
    · rcases List.mem_cons.1 h1 with h | h
      · rw [h]; unfold pick; split
        · exact List.mem_cons_self
        · exact List.mem_cons_of_mem _ List.mem_cons_self
      · exact List.mem_cons_of_mem _ (List.mem_cons_of_mem _ h)
    · have hcase : (p = p0 ∨ p = q) ∨ p ∈ L := by
        rcases List.mem_cons.1 hp with h | h
        · exact Or.inl (Or.inl h)
        · rcases List.mem_cons.1 h with h | h
          · exact Or.inl (Or.inr h)
          · exact Or.inr h
      rcases hcase with h | h
      · rcases hl p h with a | ⟨a, a'⟩ <;> rcases hm with b | ⟨b, b'⟩
        · exact Or.inl (a.trans b)
        · exact Or.inl (b ▸ a)
        · exact Or.inl (a ▸ b)
        · exact Or.inr ⟨a.trans b, b'.trans a'⟩
      · exact h2 p (List.mem_cons_of_mem _ h)

/-- The reference's fold over the pairs of a row. -/
theorem fold_arg (l : Fin 1000 → EReal) (L : List (EReal × BitVec 32)) (hL : ∀ p, p ∈ L ↔ ∃ c : Fin 1000, p = (l c, BitVec.ofNat 32 c)) :
    (L.foldl pick (⊥, 0#32)).2 = BitVec.ofNat 32 (arg l) := by
  obtain ⟨h1, h2⟩ := fold_pick L (⊥, 0#32)
  generalize L.foldl pick (⊥, 0#32) = r at h1 h2
  have hc : ∃ c : Fin 1000, r.2 = BitVec.ofNat 32 c ∧ r.1 = l c := by
    rcases List.mem_cons.1 h1 with h | h
    · refine ⟨0, by rw [h]; rfl, ?_⟩
      rcases h2 _ (List.mem_cons_of_mem _ ((hL (l 0, BitVec.ofNat 32 (0 : Fin 1000).val)).2 ⟨0, rfl⟩)) with h' | ⟨h', _⟩
      · rw [h] at h'; exact absurd h' not_lt_bot
      · exact h'.symm
    · obtain ⟨c, rfl⟩ := (hL r).1 h
      exact ⟨c, rfl, rfl⟩
  obtain ⟨c, hr, hv⟩ := hc
  rw [hr]
  refine congrArg (fun x : Fin 1000 => BitVec.ofNat 32 x.val) (isArg_unique l _ _ (fun c' => ?_) (arg_spec l))
  rcases h2 _ (List.mem_cons_of_mem _ ((hL (l c', BitVec.ofNat 32 c'.val)).2 ⟨c', rfl⟩)) with h | ⟨h, h'⟩
  · rw [← hv]; exact Or.inl h
  · rw [← hv]
    have hb : c.val < 1000 := c.isLt
    have hb' : c'.val < 1000 := c'.isLt
    rw [hr, small_toInt _ (by omega), show (BitVec.ofNat 32 c'.val).toInt = c'.val from small_toInt _ (by omega)] at h'
    exact Or.inr ⟨h, Fin.le_def.2 (by exact_mod_cast h')⟩

/-- A row of zeros with a one at `a` has its largest value there. -/
theorem arg_onehot (l : Fin 1000 → EReal) (a : Fin 1000) (h : ∀ c, l c = if c = a then 1 else 0) : arg l = a := by
  refine isArg_unique l _ _ (arg_spec l) fun c' => ?_
  by_cases e : c' = a
  · subst e; exact Or.inr ⟨rfl, le_rfl⟩
  · rw [h, h, if_neg e, if_pos rfl]; exact Or.inl zero_lt_one

end Cert.Row

end
-- ==== Proof.Ranks.lean ====
module

public import proofs.«01_k».proof.Proof.Row
public import Idealize.ShloMosaic.Lib.SortFacts

@[expose] public section

set_option maxRecDepth 16384

/-! The stable sort of the rows by class and entropy, and what a row's place in it says: the distance from the first row of
its class is the number of rows of the class before it. -/

noncomputable section

namespace Cert.Ranks

open Idealize.ShloMosaic

section sorting
variable {ι : Type} (R T : ι → ι → Prop) [DecidableRel R]

theorem insert_pairwise (hRT : ∀ a b, R a b → T a b) (htr : ∀ a b c, T a b → T b c → T a c) (a : ι) (l : List ι)
    (hl : l.Pairwise T) (ha : ∀ b ∈ l, ¬R b a → T a b) : (insertBefore (fun x y => decide (R x y)) a l).Pairwise T := by
  induction l with
  | nil => exact List.pairwise_singleton _ _
  | cons b l ih =>
    rw [List.pairwise_cons] at hl
    unfold insertBefore
    split
    · rename_i h
      refine List.pairwise_cons.mpr ⟨fun c hc => ?_, ih hl.2 fun c hc => ha c (List.mem_cons_of_mem b hc)⟩
      rcases List.mem_cons.mp ((perm_insertBefore _ a l).mem_iff.mp hc) with rfl | hc'
      · exact hRT _ _ (of_decide_eq_true h)
      · exact hl.1 c hc'
    · rename_i h
      have hab : T a b := ha b List.mem_cons_self fun e => h (decide_eq_true e)
      refine List.pairwise_cons.mpr ⟨fun c hc => ?_, List.pairwise_cons.mpr hl⟩
      rcases List.mem_cons.mp hc with rfl | hc'
      · exact hab
      · exact htr _ _ _ hab (hl.1 c hc')

theorem sort_pairwise (lt : ι → ι → Prop) (hRT : ∀ a b, R a b → T a b) (htr : ∀ a b c, T a b → T b c → T a c) (htie : ∀ a b, lt a b → ¬R b a → T a b)
    (l : List ι) (hl : l.Pairwise lt) : (stableSort (fun x y => decide (R x y)) l).Pairwise T := by
  induction l with
  | nil => exact List.Pairwise.nil
  | cons a l ih =>
    rw [List.pairwise_cons] at hl
    unfold stableSort
    exact insert_pairwise R T hRT htr a _ (ih hl.2) fun b hb => htie a b (hl.1 b ((perm_stableSort _ l).mem_iff.mp hb))

end sorting

section rows
variable {N : ℕ} (lab : Fin N → ℕ) (E : Fin N → EReal)

/-- Before by class and entropy alone, -/
def R (p p' : Fin N) : Prop := lab p < lab p' ∨ (lab p = lab p' ∧ E p < E p')
/-- and with the row number last. -/
def bef (p p' : Fin N) : Prop := E p < E p' ∨ (E p = E p' ∧ p.val < p'.val)
def T (p p' : Fin N) : Prop := lab p < lab p' ∨ (lab p = lab p' ∧ bef E p p')

instance : DecidableRel (R lab E) := fun _ _ => Classical.propDecidable _
instance : DecidableRel (bef E) := fun _ _ => Classical.propDecidable _

theorem T_trans (a b c : Fin N) (h1 : T lab E a b) (h2 : T lab E b c) : T lab E a c := by
  rcases h1 with h1 | ⟨h1, h1'⟩ <;> rcases h2 with h2 | ⟨h2, h2'⟩
  · exact Or.inl (h1.trans h2)
  · exact Or.inl (h2 ▸ h1)
  · exact Or.inl (h1 ▸ h2)
  · refine Or.inr ⟨h1.trans h2, ?_⟩
    rcases h1' with h1' | ⟨h1', h1''⟩ <;> rcases h2' with h2' | ⟨h2', h2''⟩
    · exact Or.inl (h1'.trans h2')
    · exact Or.inl (h2' ▸ h1')
    · exact Or.inl (h1' ▸ h2')
    · exact Or.inr ⟨h1'.trans h2', h1''.trans h2''⟩

theorem T_irrefl (a : Fin N) : ¬T lab E a a := by
  rintro (h | ⟨_, h | ⟨_, h⟩⟩)
  · exact lt_irrefl _ h
  · exact lt_irrefl _ h
  · exact lt_irrefl _ h

/-- The rows in sorted order. -/
def src : Fin N → Fin N := sortedFrom fun k k' => decide (R lab E k k')

theorem src_bij : Function.Bijective (src lab E) := ⟨sortedFrom_injective _, sortedFrom_surjective _⟩

theorem src_mono (i j : Fin N) (h : i < j) : T lab E (src lab E i) (src lab E j) := by
  have hp : (sortPositions N fun k k' => decide (R lab E k k')).Pairwise (T lab E) :=
    sort_pairwise (R lab E) (T lab E) (· < ·) (fun a b h => h.elim Or.inl fun h => Or.inr ⟨h.1, Or.inl h.2⟩) (T_trans lab E)
      (fun a b hab hR => by
        unfold R at hR
        rw [not_or, not_and, not_lt, not_lt] at hR
        rcases lt_or_eq_of_le hR.1 with h1 | h1
        · exact Or.inl h1
        · refine Or.inr ⟨h1, ?_⟩
          rcases lt_or_eq_of_le (hR.2 h1.symm) with h2 | h2
          · exact Or.inl h2
          · exact Or.inr ⟨h2, hab⟩) _ (List.pairwise_lt_finRange N)
  have := List.pairwise_iff_get.mp hp
  unfold src sortedFrom
  exact this _ _ (by simp only [Fin.lt_def, Fin.val_cast]; exact h)

theorem src_lt_iff (i j : Fin N) : T lab E (src lab E i) (src lab E j) ↔ i < j := by
  refine ⟨fun h => ?_, src_mono lab E i j⟩
  rcases lt_trichotomy i j with h' | h' | h'
  · exact h'
  · subst h'; exact absurd h (T_irrefl lab E _)
  · exact absurd (T_trans lab E _ _ _ h (src_mono lab E j i h')) (T_irrefl lab E _)

theorem lab_mono (i j : Fin N) (h : i ≤ j) : lab (src lab E i) ≤ lab (src lab E j) := by
  rcases eq_or_lt_of_le h with rfl | h
  · exact le_rfl
  · rcases src_mono lab E i j h with h | h
    · exact h.le
    · exact h.1.le

/-- The rows of the class before row `p`. -/
def rk (p : Fin N) : ℕ := (Finset.univ.filter fun p' => bef E p' p ∧ lab p' = lab p).card

theorem rk_src (i f : Fin N) (hf : lab (src lab E f) = lab (src lab E i)) (hfi : ∀ i' : Fin N, lab (src lab E i') = lab (src lab E i) → f ≤ i') :
    rk lab E (src lab E i) = i.val - f.val := by
  have hfle : f ≤ i := hfi i rfl
  rw [← Fin.card_Ico]
  unfold rk
  symm
  refine Finset.card_bij (fun i' _ => src lab E i') (fun i' hi' => ?_) (fun a _ b _ h => (src_bij lab E).1 h) (fun p hp => ?_)
  · rw [Finset.mem_Ico] at hi'
    have h1 := src_mono lab E i' i hi'.2
    have h2 : lab (src lab E i') = lab (src lab E i) :=
      le_antisymm (lab_mono lab E _ _ hi'.2.le) (hf ▸ lab_mono lab E _ _ hi'.1)
    refine Finset.mem_filter.2 ⟨Finset.mem_univ _, ?_, h2⟩
    rcases h1 with h1 | h1
    · exact absurd h2 h1.ne
    · exact h1.2
  · obtain ⟨_, hb, hl⟩ := Finset.mem_filter.1 hp
    obtain ⟨i', rfl⟩ := (src_bij lab E).2 p
    exact ⟨i', Finset.mem_Ico.2 ⟨hfi i' hl, (src_lt_iff lab E i' i).1 (Or.inr ⟨hl, hb⟩)⟩, rfl⟩

end rows

end Cert.Ranks

end
-- ==== Proof.Bridge.lean ====
module

public import proofs.«01_k».proof.Proof.Ent
public import proofs.«01_k».proof.Proof.Arg
public import proofs.«01_k».proof.Proof.Ranks

@[expose] public section

set_option maxRecDepth 16384

/-! The kernel's weights against the reference's: the kernel's 5120 rows are the reference's 5096 and 24 rows of padding
that belong to no class. -/

noncomputable section

namespace Cert.Row

open Idealize.ShloMosaic

/-- Each side's row of the same number. -/
def emb (p : Fin 5096) : Fin 5120 := if h : p.val < 1000 then ⟨p, by omega⟩ else ⟨p + 24, by omega⟩

theorem emb_val (p : Fin 5096) : (emb p).val = if p.val < 1000 then p.val else p.val + 24 := by
  unfold emb; split_ifs <;> rfl

theorem emb_lt (p p' : Fin 5096) : (emb p).val < (emb p').val ↔ p.val < p'.val := by
  rw [emb_val, emb_val]; split_ifs <;> omega

theorem emb_inj : Function.Injective emb := fun p p' h => by
  have h1 := emb_lt p p'
  have h2 := emb_lt p' p
  rw [h] at h1 h2
  exact Fin.ext (by omega)

theorem emb_valid (p : Fin 5096) : valid (emb p).val := by
  rw [emb_val]; unfold valid; split_ifs <;> omega

theorem not_valid (q : Fin 5120) (h : q ∉ Set.range emb) : ¬ valid q.val := fun hv => h (by
  rcases hv with hv | hv
  · exact ⟨⟨q, by omega⟩, Fin.ext (by rw [emb_val]; simp [hv])⟩
  · refine ⟨⟨q - 24, by omega⟩, Fin.ext ?_⟩
    rw [emb_val]
    have : ¬ (q.val - 24 < 1000) := by omega
    simp only [this, if_false]
    omega)

theorem ofBits_100 : Ideal.ofBits .f32 0x42C80000#32 = ((100 : ℝ) : EReal) := by
  simp [Ideal.ofBits, Ideal.ieee]
  rw [← EReal.coe_mul]
  norm_num

/-- A sum of bits counts. -/
theorem sum_bit {ι : Type} [Fintype ι] (P : ι → Prop) [DecidablePred P] :
    ∑ i, bit (P i) = (((Finset.univ.filter P).card : ℝ) : EReal) := by
  have e : ∀ i, bit (P i) = (((if P i then 1 else 0 : ℝ)) : EReal) := fun i => by
    unfold bit; split_ifs <;> rfl
  simp only [e]
  rw [sum_coe, Finset.sum_boole]

section
variable (P : Fin 1024 → Fin 512 → EReal) (W : Fin 1000 → Fin 512 → EReal) (X : Fin 4096 → Fin 512 → EReal) (b : Fin 1000 → EReal)

/-- The reference's rows and their logits, labels and entropies. -/
def row (p : Fin 5096) (k : Fin 512) : EReal := if h : p.val < 1000 then W ⟨p, h⟩ k else X ⟨p - 1000, by omega⟩ k
def lg (p : Fin 5096) : Fin 1000 → EReal := lgt W b (row W X p)
def lb (p : Fin 5096) : ℕ := (arg (lg W X b p)).val
def en (p : Fin 5096) : EReal := entR (lg W X b p)
/-- The logits of the kernel's rows. -/
def klg (q : Fin 5120) : Fin 1000 → EReal := lgt W b (rows P X q)

variable (hP : ∀ (p : Fin 1024) (h : p.val < 1000) (k : Fin 512), P p k = W ⟨p, h⟩ k)
include hP

theorem rows_emb (p : Fin 5096) : rows P X (emb p) = row W X p := by
  funext k
  have hv := emb_val p
  unfold rows row
  by_cases h : p.val < 1000
  · rw [if_pos h] at hv
    rw [dif_pos h, dif_pos (by omega : (emb p).val < 1024), hP _ (by show (emb p).val < 1000; omega)]
    exact congrArg (fun a => W a k) (Fin.ext hv)
  · rw [if_neg h] at hv
    rw [dif_neg h, dif_neg (by omega : ¬ (emb p).val < 1024)]
    exact congrArg (fun a => X a k) (Fin.ext (by show (emb p).val - 1024 = p.val - 1000; omega))

theorem klg_emb (p : Fin 5096) : klg P W X b (emb p) = lg W X b p := by
  unfold klg lg; rw [rows_emb P W X hP]

theorem cls_emb (p : Fin 5096) : cls (klg P W X b) (emb p) = BitVec.ofNat 32 (lb W X b p) := by
  unfold cls
  rw [if_pos (emb_valid p), klg_emb P W X b hP]
  exact am_eq _

omit hP in
theorem lb_lt (p : Fin 5096) : lb W X b p < 1000 := (arg (lg W X b p)).isLt

omit hP in
theorem cls_pad (q : Fin 5120) (h : q ∉ Set.range emb) : cls (klg P W X b) q = 1000#32 := if_neg (not_valid q h)

omit hP in
theorem word_inj (a c : ℕ) (ha : a ≤ 1000) (hc : c ≤ 1000) : BitVec.ofNat 32 a = BitVec.ofNat 32 c ↔ a = c := by
  refine ⟨fun h => ?_, fun h => h ▸ rfl⟩
  have := congrArg BitVec.toNat h
  simp only [BitVec.toNat_ofNat] at this
  omega

theorem cls_emb_iff (p : Fin 5096) (c : Fin 1000) : cls (klg P W X b) (emb p) = BitVec.ofNat 32 c ↔ c = arg (lg W X b p) := by
  rw [cls_emb P W X b hP, word_inj _ _ (lb_lt W X b p).le (by omega)]
  exact ⟨fun h => Fin.ext h.symm, fun h => (congrArg Fin.val h).symm⟩

omit hP in
theorem cls_pad_ne (q : Fin 5120) (h : q ∉ Set.range emb) (c : ℕ) (hc : c < 1000) : ¬ cls (klg P W X b) q = BitVec.ofNat 32 c := by
  rw [cls_pad P W X b q h]
  exact fun e => by have := (word_inj 1000 c le_rfl hc.le).1 e; omega

/-- A sum over the kernel's rows of one class is a sum over the reference's. -/
theorem sum_class (c : Fin 1000) (g : Fin 5120 → EReal) (f : Fin 5096 → EReal)
    (h : ∀ p, bit (c = arg (lg W X b p)) * g (emb p) = f p) :
    ∑ q, bit (cls (klg P W X b) q = BitVec.ofNat 32 c) * g q = ∑ p, f p := by
  refine (Fintype.sum_of_injective emb emb_inj _ _ (fun q hq => ?_) fun p => ?_).symm
  · unfold bit
    rw [if_neg (cls_pad_ne P W X b q hq c c.isLt), zero_mul]
  · rw [← h]
    refine congrArg (· * g (emb p)) ?_
    unfold bit
    exact if_congr (cls_emb_iff P W X b hP p c).symm rfl rfl

/-- The count of a class. -/
theorem cnt_eq (c : Fin 1000) :
    cnt (cls (klg P W X b)) c = (((Finset.univ.filter fun p => c = arg (lg W X b p)).card : ℝ) : EReal) := by
  unfold cnt
  have h1 := sum_class P W X b hP c (fun _ => 1) (fun p => bit (c = arg (lg W X b p))) fun p => mul_one (bit (c = arg (lg W X b p)))
  simp only [mul_one] at h1
  rw [h1, ← sum_bit]

/-- How many rows of the class come before, by the kernel's entropies. -/
theorem rank_eq (E : Fin 5120 → EReal)
    (hE : ∀ p p', (E (emb p) < E (emb p') ↔ en W X b p < en W X b p') ∧ (E (emb p) = E (emb p') ↔ en W X b p = en W X b p')) (p : Fin 5096) :
    rank E (cls (klg P W X b)) (emb p) = ((Ranks.rk (lb W X b) (en W X b) p : ℝ) : EReal) := by
  classical
  unfold Ranks.rk rank
  rw [← sum_bit]
  refine (Fintype.sum_of_injective emb emb_inj _ _ (fun q hq => ?_) fun p' => ?_).symm
  · unfold bit
    rw [if_neg fun h => cls_pad_ne P W X b q hq (lb W X b p) (lb_lt W X b p) (h.2.trans (cls_emb P W X b hP p))]
  · unfold bit
    refine if_congr (and_congr (or_congr (hE p' p).1.symm (and_congr (hE p' p).2.symm (emb_lt p' p).symm)) ?_) rfl rfl
    rw [cls_emb P W X b hP, cls_emb P W X b hP, word_inj _ _ (lb_lt W X b p').le (lb_lt W X b p).le]

omit hP in
/-- The reference's weights. -/
def wr (c : Fin 1000) (k : Fin 512) : EReal :=
  ∑ p : Fin 5096, Ideal.div (row W X p k) (max (norm (row W X p)) (Ideal.ofBits .f32 0x2B8CBCCC#32))
    * ((if c = arg (lg W X b p) then 1 else 0) * bit (Ranks.rk (lb W X b) (en W X b) p < 100))

omit hP in
theorem term_eq (clamp : Ideal.ofBits .f32 0x2B8CBCCC#32 > 0) (s n : EReal) (B M : Prop) [Decidable B] [Decidable M] :
    bit B * ((if M then inv n else 0) * s) = Ideal.div s (max n (Ideal.ofBits .f32 0x2B8CBCCC#32)) * ((if B then 1 else 0) * bit M) := by
  have hne : max n (Ideal.ofBits .f32 0x2B8CBCCC#32) ≠ 0 := ne_of_gt (lt_of_lt_of_le clamp (le_max_right _ _))
  unfold bit inv
  by_cases hB : B <;> by_cases hM : M
  · simp only [if_pos hB, if_pos hM, one_mul, mul_one]
    rw [mul_comm, Ideal.mul_one_div hne]
  · simp only [if_neg hM, zero_mul, mul_zero]
  · simp only [if_neg hB, zero_mul, mul_zero]
  · simp only [if_neg hB, zero_mul, mul_zero]

/-- Any coefficients that keep the first hundred rows of each class give the reference's weights. -/
theorem wgt_eq (clamp : Ideal.ofBits .f32 0x2B8CBCCC#32 > 0) (co : Fin 5120 → EReal) (c : Fin 1000) (k : Fin 512)
    (hco : ∀ p, c = arg (lg W X b p) → co (emb p) = if Ranks.rk (lb W X b) (en W X b) p < 100 then inv (norm (row W X p)) else 0) :
    wgt (cls (klg P W X b)) co (rows P X) c k = wr W X b c k := by
  unfold wgt wr
  simp only [mul_assoc]
  refine sum_class P W X b hP c (fun q => co q * rows P X q k) _ fun p => ?_
  rw [← term_eq clamp, rows_emb P W X hP]
  by_cases h : c = arg (lg W X b p)
  · rw [hco p h]
  · unfold bit; rw [if_neg h, zero_mul, zero_mul]

/-- The coefficients the kernel computes from the ranks. -/
theorem slow_eq (clamp : Ideal.ofBits .f32 0x2B8CBCCC#32 > 0) (E : Fin 5120 → EReal)
    (hE : ∀ p p', (E (emb p) < E (emb p') ↔ en W X b p < en W X b p') ∧ (E (emb p) = E (emb p') ↔ en W X b p = en W X b p'))
    (c : Fin 1000) (k : Fin 512) :
    wgt (cls (klg P W X b)) (coef2 E (cls (klg P W X b)) fun q => norm (rows P X q)) (rows P X) c k = wr W X b c k := by
  refine wgt_eq P W X b hP clamp _ c k fun p _ => ?_
  unfold coef2
  beta_reduce
  rw [rank_eq P W X b hP E hE, rows_emb P W X hP, ofBits_100]
  refine if_congr ?_ rfl rfl
  rw [EReal.coe_lt_coe_iff]
  exact_mod_cast Iff.rfl

/-- No class has more than a hundred rows: every row is kept. -/
theorem fast_eq (clamp : Ideal.ofBits .f32 0x2B8CBCCC#32 > 0) (hc : ∀ c, ¬ Ideal.ofBits .f32 0x42C80000#32 < cnt (cls (klg P W X b)) c)
    (c : Fin 1000) (k : Fin 512) :
    wgt (cls (klg P W X b)) (coef (rows P X)) (rows P X) c k = wr W X b c k := by
  classical
  refine wgt_eq P W X b hP clamp _ c k fun p hp => ?_
  unfold coef
  rw [if_pos (emb_valid p), rows_emb P W X hP, if_pos]
  have h1 := hc c
  rw [cnt_eq P W X b hP, ofBits_100, EReal.coe_lt_coe_iff, not_lt] at h1
  have h2 : (Finset.univ.filter fun p => c = arg (lg W X b p)).card ≤ 100 := by exact_mod_cast h1
  refine lt_of_lt_of_le ?_ h2
  unfold Ranks.rk
  refine Finset.card_lt_card ⟨fun p' h => ?_, fun h => ?_⟩
  · have h' := (Finset.mem_filter.1 h).2.2
    exact (Finset.mem_filter (p := fun p => c = arg (lg W X b p))).2 ⟨Finset.mem_univ _, hp.trans (Fin.ext h'.symm)⟩
  · have h' := (Finset.mem_filter.1 (h ((Finset.mem_filter (p := fun p => c = arg (lg W X b p))).2 ⟨Finset.mem_univ p, hp⟩))).2.1
    rcases h' with h' | h'
    · exact absurd h' (lt_irrefl _)
    · exact absurd h'.2 (lt_irrefl _)

end

/-! ## The two entropies order the rows alike -/

section
variable (W : Fin 1000 → Fin 512 → EReal) (X : Fin 4096 → Fin 512 → EReal) (b : Fin 1000 → EReal)
  (hW : ∀ c k, ∃ r : ℝ, W c k = r) (hX : ∀ p k, ∃ r : ℝ, X p k = r)
include hW hX

theorem row_real (p : Fin 5096) (k : Fin 512) : ∃ r : ℝ, row W X p k = r := by
  unfold row; split_ifs
  · exact hW _ _
  · exact hX _ _

theorem dot_real (p : Fin 5096) (c : Fin 1000) : ∃ r : ℝ, ∀ b : Fin 1000 → EReal, lg W X b p c = (r : EReal) + b c := by
  choose s hs using row_real W X hW hX p
  choose w hw using hW
  refine ⟨∑ k, s k * w c k, fun b => ?_⟩
  unfold lg lgt
  rw [← sum_coe]
  simp only [hs, hw, EReal.coe_mul]

theorem ent_cases : (∀ p, ent (lg W X b p) = en W X b p) ∨ (∀ p, ent (lg W X b p) = ⊥ ∧ en W X b p = 0) := by
  by_cases h1 : ∃ c, b c = ⊤
  · refine Or.inr fun p => ?_
    obtain ⟨c, hc⟩ := h1
    obtain ⟨r, hr⟩ := dot_real W X hW hX p c
    have ht : top (lg W X b p) = ⊤ := top_le_iff.1 (by
      have := le_top' (lg W X b p) c
      rwa [hr, hc, EReal.coe_add_top] at this)
    exact ⟨ent_inf _ (Or.inl ht), entR_inf _ (Or.inl ht)⟩
  by_cases h2 : ∀ c, b c = ⊥
  · refine Or.inr fun p => ?_
    have ht : top (lg W X b p) = ⊥ := le_bot_iff.1 (top_le _ _ fun c => by
      obtain ⟨r, hr⟩ := dot_real W X hW hX p c
      rw [hr, h2, EReal.add_bot])
    exact ⟨ent_inf _ (Or.inr ht), entR_inf _ (Or.inr ht)⟩
  · refine Or.inl fun p => ?_
    obtain ⟨c, hc⟩ := not_forall.1 h2
    obtain ⟨c', hc'⟩ := top_mem (lg W X b p)
    obtain ⟨r, hr⟩ := dot_real W X hW hX p c
    obtain ⟨r', hr'⟩ := dot_real W X hW hX p c'
    have n1 : top (lg W X b p) ≠ ⊤ := fun h => by
      rw [hr', h] at hc'
      rcases EReal.add_ne_top (EReal.coe_ne_top r') (fun e => h1 ⟨c', e⟩) hc'
    have n2 : top (lg W X b p) ≠ ⊥ := fun h => by
      have := le_top' (lg W X b p) c
      rw [h, le_bot_iff, hr, EReal.add_eq_bot_iff] at this
      rcases this with e | e
      · exact EReal.coe_ne_bot r e
      · exact hc e
    exact ent_real _ _ (EReal.coe_toReal n1 n2).symm

theorem ent_order (P : Fin 1024 → Fin 512 → EReal) (hP : ∀ (p : Fin 1024) (h : p.val < 1000) (k : Fin 512), P p k = W ⟨p, h⟩ k) (p p' : Fin 5096) :
    (ent (klg P W X b (emb p)) < ent (klg P W X b (emb p')) ↔ en W X b p < en W X b p')
      ∧ (ent (klg P W X b (emb p)) = ent (klg P W X b (emb p')) ↔ en W X b p = en W X b p') := by
  rw [klg_emb P W X b hP, klg_emb P W X b hP]
  rcases ent_cases W X b hW hX with h | h
  · rw [h, h]; exact ⟨Iff.rfl, Iff.rfl⟩
  · rw [(h p).1, (h p').1, (h p).2, (h p').2]
    exact ⟨iff_of_false (lt_irrefl _) (lt_irrefl _), iff_of_true rfl rfl⟩

end

end Cert.Row

end
-- ==== Proof.Host.lean ====
module

public import proofs.«01_k».proof.Proof.Frame
public import proofs.«01_k».proof.Proof.V0
public import proofs.«01_k».proof.Proof.V1
public import proofs.«01_k».proof.Proof.V2
public import proofs.«01_k».proof.Proof.V3
public import proofs.«01_k».proof.Proof.Bridge
public import Idealize.ShloMosaic.Lib.Pointwise

@[expose] public section

set_option maxRecDepth 16384

/-! The kernel's weights and its result, from the arguments. -/

noncomputable section

namespace Cert.KernelIdeal.Run

open Cert Cert.KernelIdeal Cert.KernelIdeal.Gen
open Idealize.ShloMosaic Idealize.ShloMosaic.TcCoe Idealize.SL.Sem
open Idealize.ShloMosaic.StableHlo (after held)

variable (m : (ℓ : Loc nD τ sig) → Buf (Elt Ideal) ℓ) (c : Dev nD)

/-- The arguments as functions of their coordinates, and the padded table. -/
def kX (p : Fin 4096) (k : Fin 512) : EReal := m (c, main_arg0) (ix2 p k)
def kW (a : Fin 1000) (k : Fin 512) : EReal := m (c, main_arg1) (ix2 a k)
def kb (a : Fin 1000) : EReal := m (c, main_arg2) (ix1 a)
def kP (p : Fin 1024) (k : Fin 512) : EReal := A0 m c main_v1 (ix2 p k)

theorem kP_eq (p : Fin 1024) (h : p.val < 1000) (k : Fin 512) : kP m c p k = kW m c ⟨p, h⟩ k := by
  unfold kP A0
  after_reads_simp
  pointwise [kW, h]

theorem v2_eq (a : Fin 1000) : A0 m c main_v2 (ix2 0 a) = kb m c a := by
  unfold A0
  after_reads_simp
  pointwise [kb]

theorem rows_eq : R0.rows (fun c b => A0 m c b) c = Row.rows (kP m c) (kX m c) := by
  unfold R0.rows
  exact congrArg (Row.rows (kP m c)) (funext fun p => funext fun k => congrFun (keep0 m c main_arg0 (.inl rfl)) (ix2 p k))

theorem lgs_eq : R0.lgs (fun c b => A0 m c b) c = Row.klg (kP m c) (kW m c) (kX m c) (kb m c) := by
  funext q
  unfold R0.lgs Row.klg
  rw [rows_eq]
  have e1 : (fun (a : Fin 1000) (k : Fin 512) => (A0 m c main_arg1 (ix2 a k) : EReal)) = kW m c :=
    funext fun p => funext fun k => congrFun (keep0 m c main_arg1 (.inr (.inl rfl))) (ix2 p k)
  have e2 : (fun (a : Fin 1000) => (A0 m c main_v2 (ix2 0 a) : EReal)) = kb m c := funext fun a => v2_eq m c a
  exact congrArg₂ (fun W b => Row.lgt W b (Row.rows (kP m c) (kX m c) q)) e1 e2

/-! ## What the first region leaves -/

abbrev E0 (q : Fin 5120) : EReal := Row.ent (Row.klg (kP m c) (kW m c) (kX m c) (kb m c) q)
abbrev C0 : Fin 5120 → BitVec 32 := Row.cls (Row.klg (kP m c) (kW m c) (kX m c) (kb m c))
abbrev S0 : Fin 5120 → Fin 512 → EReal := Row.rows (kP m c) (kX m c)

theorem one0 : A1 m c main_v3_0 = (R0.col (E0 m c) : FVec Ideal S5120x1 .f32) := by
  rw [A1_0, R0.final4, lgs_eq]
theorem one1 : A1 m c main_v3_1 = (R0.col (C0 m c) : IVec S5120x1 32) := by
  rw [A1_1, R0.final5, lgs_eq]
theorem one2 : A1 m c main_v3_2 = (R0.col (fun q => Row.norm (S0 m c q)) : FVec Ideal S5120x1 .f32) := by
  rw [A1_2, R0.final6, rows_eq]
theorem one4 : A1 m c main_v3_4 = ((fun j => Row.cnt (C0 m c) (j 1)) : FVec Ideal S1x1000 .f32) := by
  rw [A1_4, R0.final8, lgs_eq]
theorem one5 : A1 m c main_v3_5 = ((fun j => Row.wgt (C0 m c) (Row.coef (S0 m c)) (S0 m c) (j 0) (j 1)) : FVec Ideal S1000x512 .f32) := by
  rw [A1_5, R0.final9, lgs_eq, rows_eq]

/-! ## The branch -/

theorem foldl_ori {ι : Type} (f : ι → BitVec 1) : ∀ (l : List ι) (a : BitVec 1), l.foldl (fun r n => IntOp.ori r (f n)) a = 0#1 → a = 0#1 ∧ ∀ n ∈ l, f n = 0#1
  | [], a, h => ⟨h, fun n hn => absurd hn List.not_mem_nil⟩
  | b :: l, a, h => by
    obtain ⟨h1, h2⟩ := foldl_ori f l _ h
    have h3 : a = 0#1 ∧ f b = 0#1 := by
      have : ∀ x y : BitVec 1, IntOp.ori x y = 0#1 → x = 0#1 ∧ y = 0#1 := by decide
      exact this _ _ h1
    exact ⟨h3.1, fun n hn => (List.mem_cons.1 hn).elim (fun e => e ▸ h3.2) (h2 n)⟩

instance : Subsingleton S_.Idx := ⟨fun a b => funext fun i => i.elim0⟩

theorem reduce_ori {s u : Shape} {axes : List (Fin s.rank)} (x : s.Idx → BitVec 1) (init : u.Idx → BitVec 1) (h : s.ReducesTo axes S_) (hu : 0 < u.numel)
    (j : S_.Idx) (e : Host.reduce IntOp.ori x init h hu j = 0#1) (i : s.Idx) : x i = 0#1 := by
  have h1 := (foldl_ori (fun n => x (s.rowMajor.symm n)) _ _ e).2 (s.rowMajor i)
    (List.mem_filter.2 ⟨List.mem_finRange _, decide_eq_true (Subsingleton.elim _ _)⟩)
  rwa [Equiv.symm_apply_apply] at h1

theorem branch_bit (b : BitVec 1) (h : HostLoop.branch (BitVec.setWidth 32 b) 1 = 0) : b = 0#1 := by
  revert b; decide

theorem word_eq : A3 m c main_v7 HostLoop.idx0 = BitVec.setWidth 32 (A2 m c main_v6 HostLoop.idx0 : BitVec 1) := by
  unfold A3
  after_reads_simp
  rfl

/-- Some count is above a hundred. -/
def anyOf (v : FVec Ideal S1x1000 .f32) : IVec S_ 1 :=
  Host.reduce IntOp.ori (cmpf .ogt v (broadcastInDim S1x1000 ![] bcast_S_S1x1000 (constant S_ .f32 0x42C80000#32))) (constantI S_ 1 0#1) reducesTo_S1x1000_S_d0_1 h_S_

theorem any_eq : A2 m c main_v6 = anyOf (A1 m c main_v3_4) := by
  unfold A2
  after_reads_simp
  rfl

theorem not_gt (x y : EReal) (h : FloatOps.cmpf (F := Ideal) (φ := .f32) .ogt x y = 0#1) : ¬ y < x := fun hn => by
  simp [Ideal.cmpf_def, Ideal.cmp, hn] at h

theorem few (h : arm m c = 0) (a : Fin 1000) : ¬ Ideal.ofBits .f32 0x42C80000#32 < Row.cnt (C0 m c) a := by
  unfold arm at h
  rw [word_eq] at h
  have h1 := branch_bit _ h
  rw [any_eq, one4] at h1
  unfold anyOf at h1
  have h2 := reduce_ori _ _ _ _ _ h1 (ix2 0 a)
  exact not_gt _ _ h2

/-! ## Unchanged on the way -/

theorem pass3 (b : Ref sig .tc) (hb : b = main_v1 ∨ b = main_v3_0 ∨ b = main_v3_1 ∨ b = main_v3_2 ∨ b = main_v3_5) : A3 m c b = A1 m c b := by
  have e : A3 m c b = A2 m c b := by
    unfold A3
    obtain rfl | rfl | rfl | rfl | rfl := hb <;> after_reads_simp
  rw [e]
  unfold A2
  obtain rfl | rfl | rfl | rfl | rfl := hb <;> after_reads_simp

theorem pass4 (b : Ref sig .tc) (hb : b = main_v1 ∨ b = main_v3_0 ∨ b = main_v3_1 ∨ b = main_v3_2 ∨ b = main_v3_5) : A4 m c b = A1 m c b := by
  rw [← pass3 m c b hb]
  unfold A4
  obtain rfl | rfl | rfl | rfl | rfl := hb <;> after_reads_simp

theorem pass_v1 : A1 m c main_v1 = A0 m c main_v1 := A1_in m c main_v1 (by decide)

/-! ## The fast branch -/

theorem fast_v8 (h : arm m c = 0) (a : Fin 1000) (k : Fin 512) :
    A7 m c main_v8 (ix2 a k) = Row.wgt (C0 m c) (Row.coef (S0 m c)) (S0 m c) a k := by
  have e : after (fastOps (F := Ideal)) (A3 m c) main_v8 = A3 m c main_v3_5 := by after_reads_simp; rfl
  rw [A7_fast m c h, e, pass3 m c _ (by simp), one5]
  rfl

/-! ## The slow branch -/

theorem row0 (q : Fin 5120) : A4 m c main_case0b1_v10 (ix2 0 q) = E0 m c q := by
  unfold A4
  after_reads_simp
  rw [pass3 m c _ (by simp), one0]
  pointwise [R0.col]
theorem row1 (q : Fin 5120) : A4 m c main_case0b1_v11 (ix2 0 q) = C0 m c q := by
  unfold A4
  after_reads_simp
  rw [pass3 m c _ (by simp), one1]
  pointwise [R0.col]

theorem rk_eq (E : FVec Ideal S5120x1 .f32) (C : IVec S5120x1 32) (E' : FVec Ideal S1x5120 .f32) (C' : IVec S1x5120 32) (e : Fin 5120 → EReal) (k : Fin 5120 → BitVec 32)
    (hE : E = R0.col e) (hC : C = R0.col k) (hE' : ∀ q : Fin 5120, E' (ix2 0 q) = e q) (hC' : ∀ q : Fin 5120, C' (ix2 0 q) = k q) (q : Fin 5120) :
    R1.rk E C E' C' q = Row.rank e k q := by
  subst hE hC
  unfold R1.rk Row.rank
  refine Finset.sum_congr rfl fun q' _ => ?_
  unfold Row.bit
  refine if_congr ?_ rfl rfl
  rw [hE', hC']
  exact Iff.rfl

theorem out_eq (E : FVec Ideal S5120x1 .f32) (C : IVec S5120x1 32) (n : FVec Ideal S5120x1 .f32) (E' : FVec Ideal S1x5120 .f32) (C' : IVec S1x5120 32)
    (e : Fin 5120 → EReal) (k : Fin 5120 → BitVec 32) (f : Fin 5120 → EReal)
    (hE : E = R0.col e) (hC : C = R0.col k) (hn : n = R0.col f) (hE' : ∀ q : Fin 5120, E' (ix2 0 q) = e q) (hC' : ∀ q : Fin 5120, C' (ix2 0 q) = k q) :
    R1.out E C n E' C' = (R0.col (Row.coef2 e k f) : FVec Ideal S5120x1 .f32) := by
  subst hn
  funext j
  exact congrArg (fun r : EReal => if r < Ideal.ofBits .f32 0x42C80000#32 then Row.inv (f (j 0)) else 0) (rk_eq E C E' C' e k hE hC hE' hC' (j 0))

theorem coef_v12 : A5 m c main_case0b1_v12 = (R0.col (Row.coef2 (E0 m c) (C0 m c) fun q => Row.norm (S0 m c q)) : FVec Ideal S5120x1 .f32) := by
  have e0 : A4 m c main_v3_0 = (R0.col (E0 m c) : FVec Ideal S5120x1 .f32) := (pass4 m c _ (by simp)).trans (one0 m c)
  have e1 : A4 m c main_v3_1 = (R0.col (C0 m c) : IVec S5120x1 32) := (pass4 m c _ (by simp)).trans (one1 m c)
  have e2 : A4 m c main_v3_2 = (R0.col (fun q => Row.norm (S0 m c q)) : FVec Ideal S5120x1 .f32) := (pass4 m c _ (by simp)).trans (one2 m c)
  rw [A5_out, R1.final]
  exact out_eq _ _ _ _ _ (E0 m c) (C0 m c) _ e0 e1 e2 (row0 m c) (row1 m c)

theorem slow_v8 (h : ¬ arm m c = 0) (a : Fin 1000) (k : Fin 512) :
    A7 m c main_v8 (ix2 a k) = Row.wgt (C0 m c) (Row.coef2 (E0 m c) (C0 m c) fun q => Row.norm (S0 m c q)) (S0 m c) a k := by
  have e : after (slowOps1 (F := Ideal)) (A6 m c) main_v8 = A6 m c main_case0b1_v13 := by after_reads_simp; rfl
  have e0 : A5 m c main_v1 = A0 m c main_v1 := (A5_ne m c _ (by decide)).trans ((pass4 m c _ (.inl rfl)).trans (pass_v1 m c))
  have e1 : A5 m c main_arg0 = m (c, main_arg0) := (A5_ne m c _ (by decide)).trans (keep4 m c _ (.inl rfl))
  have e2 : A5 m c main_v3_1 = (R0.col (C0 m c) : IVec S5120x1 32) := (A5_ne m c _ (by decide)).trans ((pass4 m c _ (by simp)).trans (one1 m c))
  rw [A7_slow m c h, e, A6_out, R2.final, e0, e1, e2, coef_v12]
  rfl

/-! ## The weights and the result -/

theorem clamp_pos : Ideal.ofBits .f32 0x2B8CBCCC#32 > 0 := R3.clamp_pos

theorem v8_eq (hW : ∀ a k, ∃ r : ℝ, kW m c a k = r) (hX : ∀ p k, ∃ r : ℝ, kX m c p k = r) (a : Fin 1000) (k : Fin 512) :
    A7 m c main_v8 (ix2 a k) = Row.wr (kW m c) (kX m c) (kb m c) a k := by
  by_cases h : arm m c = 0
  · exact (fast_v8 m c h a k).trans (Row.fast_eq _ _ _ _ (kP_eq m c) clamp_pos (few m c h) a k)
  · exact (slow_v8 m c h a k).trans (Row.slow_eq _ _ _ _ (kP_eq m c) clamp_pos _ (fun p p' => Row.ent_order _ _ _ hW hX _ (kP_eq m c) p p') a k)

theorem v9_eq (hW : ∀ a k, ∃ r : ℝ, kW m c a k = r) (hX : ∀ p k, ∃ r : ℝ, kX m c p k = r) (n : Fin 4096) (a : Fin 1000) :
    A8 m c main_v9 (ix2 n a) = ∑ k : Fin 512, kX m c n k * Ideal.div (Row.wr (kW m c) (kX m c) (kb m c) a k)
      (max (Ideal.sqrt (∑ k : Fin 512, Row.wr (kW m c) (kX m c) (kb m c) a k * Row.wr (kW m c) (kX m c) (kb m c) a k)) (Ideal.ofBits .f32 0x2B8CBCCC#32)) := by
  have e1 : A7 m c main_arg0 = m (c, main_arg0) := keep7 m c _ (.inl rfl)
  have e2 : A7 m c main_v8 = ((fun j => Row.wr (kW m c) (kX m c) (kb m c) (j 0) (j 1)) : FVec Ideal S1000x512 .f32) := by
    funext j
    obtain ⟨a, k, rfl⟩ : ∃ (a : Fin 1000) (k : Fin 512), j = ix2 a k := ⟨j 0, j 1, by funext i; match i with | ⟨0, _⟩ => rfl | ⟨1, _⟩ => rfl⟩
    exact v8_eq m c hW hX a k
  rw [A8_out, R3.final, e1, e2]
  rfl

end Cert.KernelIdeal.Run

end
-- ==== Proof.RefRow.lean ====
module

public import proofs.«01_k».proof.Proof.Arg
public import proofs.«01_k».proof.Proof.Ref
public import Idealize.ShloMosaic.Lib.Pointwise
public import Idealize.ShloMosaic.Lib.Routing.OpsSet

@[expose] public section

set_option maxRecDepth 16384

/-! The reference's tensors read at an index, up to the label and the entropy of each row. -/

noncomputable section

namespace Cert.ReferenceIdeal.Value

open Cert Cert.ReferenceIdeal Cert.ReferenceIdeal.Gen Idealize.ShloMosaic Idealize.ShloMosaic.TcCoe Idealize.SL.Sem
open Idealize.ShloMosaic.Routing (shape1 shape2)

variable (V : Valuation τ sig (Elt Ideal))

/-- The table and the bias as functions of their coordinates. -/
def tw (c : Fin 1000) (k : Fin 512) : EReal := a1 V (ix2 c k)
def tx (p : Fin 4096) (k : Fin 512) : EReal := a0 V (ix2 p k)
def tb (c : Fin 1000) : EReal := a2 V (ix1 c)

/-- The rows: the table's, then x's. -/
def rrow (p : Fin 5096) (k : Fin 512) : EReal := if h : p.val < 1000 then tw V ⟨p, h⟩ k else tx V ⟨p - 1000, by omega⟩ k
def rlg (p : Fin 5096) : Fin 1000 → EReal := Row.lgt (tw V) (tb V) (rrow V p)

/-! ## The logits -/

theorem v4_at (p c : Fin 1000) : v4 V (ix2 p c) = Row.lgt (tw V) (tb V) (tw V p) c := by
  rw [v4_eq, v3_eq, v2_eq, v1_eq, v0_eq]
  pointwise [Row.lgt, tw, tb]

theorem v16_at (p : Fin 4096) (c : Fin 1000) : v16 V (ix2 p c) = Row.lgt (tw V) (tb V) (tx V p) c := by
  rw [v16_eq, v15_eq, v14_eq, v13_eq, v12_eq]
  pointwise [Row.lgt, tw, tx, tb]

/-- The largest logit of each row, as the reference's reduction. -/
theorem max_at {N : ℕ} (h : (shape2 N 1000).ReducesTo [1] (shape1 N)) (hr : (shape2 N 1000).Reduces [1] (shape1 N)) (x : FVec Ideal (shape2 N 1000) .f32)
    (u : S_.Idx → EReal) (hu : ∀ i, u i = Ideal.ofBits .f32 0xFF800000#32) (p : Fin N) :
    Host.reduce (FloatOps.maximumf (F := Ideal) (φ := .f32)) x u h h_S_ (ix1 p) = Row.top fun c => x (ix2 p c) := by
  have hl : ∀ c : Fin 1000, hr.lift (ix1 p) c = ix2 p c := fun c => by
    funext a
    match a with
    | ⟨0, _⟩ => exact Fin.ext rfl
    | ⟨1, _⟩ => exact Fin.ext rfl
  refine (Host.reduce_eq_fold_single (max : EReal → EReal → EReal) x u h hr h_S_ (ix1 p)).trans ?_
  rw [hu]
  unfold Row.top
  exact congrArg (fun f => Finset.univ.fold max (Ideal.ofBits .f32 0xFF800000#32) f) (funext fun c => congrArg x (hl c))

theorem max_bot_at {s : Shape} (x y : FVec Ideal s .f32) (j : s.Idx) (t : EReal) (hx : x j = (⊥ : EReal)) (hy : y j = t) : maximumf x y j = t := by
  show max (x j : EReal) (y j) = t
  rw [hx, hy]
  exact max_eq_right bot_le

theorem k0_v2_at (p : Fin 1000) : k0_v2 V (ix1 p) = Row.top fun c => v4 V (ix2 p c) := by
  have e0 : k0_v0 V (ix1 p) = Row.top fun c => v4 V (ix2 p c) := by
    rw [k0_v0_eq]
    exact max_at _ (by decide) _ _ (fun i => by rw [k0_cst_eq]; rfl) p
  have e1 : k0_v1 V (ix1 p) = ⊥ := by
    rw [k0_v1_eq, k0_cst_0_eq]
    exact Row.ofBits_bot
  rw [k0_v2_eq]
  exact max_bot_at _ _ _ _ e1 e0

theorem k0_v5_at (p : Fin 1000) (c : Fin 1000) : k0_v5 V (ix2 p c) = v4 V (ix2 p c) - Row.top fun c => v4 V (ix2 p c) := by
  rw [← k0_v2_at, k0_v5_eq, k0_v4_eq, k0_v3_eq]
  pointwise

theorem k0_v9_at (p : Fin 1000) : k0_v9 V (ix2 p 0) = Ideal.log (∑ c : Fin 1000, Ideal.exp (k0_v5 V (ix2 p c))) := by
  rw [k0_v9_eq, k0_v8_eq, k0_v7_eq, k0_v6_eq, k0_cst_1_eq]
  pointwise

theorem v5_at (p : Fin 1000) (c : Fin 1000) : v5 V (ix2 p c) = k0_v5 V (ix2 p c) - k0_v9 V (ix2 p 0) := by
  rw [v5_eq, k0_v10_eq]
  pointwise

theorem v9_at (p : Fin 1000) : v9 V (ix1 p) = Row.entR (fun c => v4 V (ix2 p c)) := by
  have e : v9 V (ix1 p) = -∑ c : Fin 1000, Ideal.exp (v5 V (ix2 p c)) * v5 V (ix2 p c) := by
    rw [v9_eq, v8_eq, v7_eq, v6_eq, cst_eq]
    pointwise
  rw [e]
  unfold Row.entR
  simp only [v5_at, k0_v9_at, k0_v5_at]

theorem k5_v2_at (p : Fin 4096) : k5_v2 V (ix1 p) = Row.top fun c => v16 V (ix2 p c) := by
  have e0 : k5_v0 V (ix1 p) = Row.top fun c => v16 V (ix2 p c) := by
    rw [k5_v0_eq]
    exact max_at _ (by decide) _ _ (fun i => by rw [k5_cst_eq]; rfl) p
  have e1 : k5_v1 V (ix1 p) = ⊥ := by
    rw [k5_v1_eq, k5_cst_0_eq]
    exact Row.ofBits_bot
  rw [k5_v2_eq]
  exact max_bot_at _ _ _ _ e1 e0

theorem k5_v5_at (p : Fin 4096) (c : Fin 1000) : k5_v5 V (ix2 p c) = v16 V (ix2 p c) - Row.top fun c => v16 V (ix2 p c) := by
  rw [← k5_v2_at, k5_v5_eq, k5_v4_eq, k5_v3_eq]
  pointwise

theorem k5_v9_at (p : Fin 4096) : k5_v9 V (ix2 p 0) = Ideal.log (∑ c : Fin 1000, Ideal.exp (k5_v5 V (ix2 p c))) := by
  rw [k5_v9_eq, k5_v8_eq, k5_v7_eq, k5_v6_eq, k5_cst_1_eq]
  pointwise

theorem v19_at (p : Fin 4096) (c : Fin 1000) : v19 V (ix2 p c) = k5_v5 V (ix2 p c) - k5_v9 V (ix2 p 0) := by
  rw [v19_eq, k5_v10_eq]
  pointwise

theorem v23_at (p : Fin 4096) : v23 V (ix1 p) = Row.entR (fun c => v16 V (ix2 p c)) := by
  have e : v23 V (ix1 p) = -∑ c : Fin 1000, Ideal.exp (v19 V (ix2 p c)) * v19 V (ix2 p c) := by
    rw [v23_eq, v22_eq, v21_eq, v20_eq, cst_0_eq]
    pointwise
  rw [e]
  unfold Row.entR
  simp only [v19_at, k5_v9_at, k5_v5_at]

end Cert.ReferenceIdeal.Value

end
-- ==== Proof.RefLab.lean ====
module

public import proofs.«01_k».proof.Proof.RefRow
public import Idealize.ShloMosaic.Lib.Pointwise
public import Idealize.ShloMosaic.Lib.WordCmp
public import Idealize.ShloMosaic.Lib.Routing.OpsSet

@[expose] public section

set_option maxRecDepth 16384

/-! The labels the reference gives the rows. -/

noncomputable section

namespace Cert.ReferenceIdeal.Value

open Cert Cert.ReferenceIdeal Cert.ReferenceIdeal.Gen Idealize.ShloMosaic Idealize.ShloMosaic.TcCoe Idealize.SL.Sem
open Idealize.ShloMosaic.Routing (shape1 shape2)

variable (V : Valuation τ sig (Elt Ideal))

/-! ## The arg-max -/

theorem red_eq : reducer_argmax_f32_i32 (F := Ideal) = Row.pick := by
  funext a b
  have h1 : (FloatOps.cmpf (F := Ideal) (φ := .f32) .ogt a.1 b.1) = BitVec.ofBool (decide (b.1 < a.1)) := by
    simp [Ideal.cmpf_def, Ideal.cmp]
  have h2 : (FloatOps.cmpf (F := Ideal) (φ := .f32) .une a.1 a.1) = 0#1 := by simp [Ideal.cmpf_def, Ideal.cmp]
  have h3 : (FloatOps.cmpf (F := Ideal) (φ := .f32) .oeq a.1 b.1) = BitVec.ofBool (decide (a.1 = b.1)) := by
    simp [Ideal.cmpf_def, Ideal.cmp]
  have h4 : IntOp.cmpi .slt a.2 b.2 = BitVec.ofBool (decide (a.2.toInt < b.2.toInt)) := rfl
  show (Scalar.select (IntOp.ori (FloatOps.cmpf (F := Ideal) (φ := .f32) .ogt a.1 b.1) (FloatOps.cmpf (F := Ideal) (φ := .f32) .une a.1 a.1)) a.1 b.1,
    Scalar.select (IntOp.ori (IntOp.ori (FloatOps.cmpf (F := Ideal) (φ := .f32) .ogt a.1 b.1) (FloatOps.cmpf (F := Ideal) (φ := .f32) .une a.1 a.1))
      (IntOp.andi (FloatOps.cmpf (F := Ideal) (φ := .f32) .oeq a.1 b.1) (IntOp.cmpi .slt a.2 b.2))) a.2 b.2) = Row.pick a b
  rw [h1, h2, h3, h4]
  unfold Row.pick
  obtain ⟨x, i⟩ := a
  obtain ⟨y, j⟩ := b
  by_cases e1 : y < x <;> by_cases e2 : x = y <;> by_cases e3 : i.toInt < j.toInt <;>
    simp [e1, e2, e3, IntOp.ori, IntOp.andi, Scalar.select]

/-- The arg-max along the second axis, read at a row. -/
theorem argmax_at {N : ℕ} (h : (shape2 N 1000).ReducesTo [1] (shape1 N)) (hr : (shape2 N 1000).Reduces [1] (shape1 N)) (x : FVec Ideal (shape2 N 1000) .f32)
    (y : (shape2 N 1000).Idx → BitVec 32) (hy : ∀ (p : Fin N) (c : Fin 1000), y (ix2 p c) = BitVec.ofNat 32 c)
    (u : S_.Idx → EReal) (v : S_.Idx → BitVec 32) (hu : ∀ i, u i = ⊥) (hv : ∀ i, v i = 0#32) (p : Fin N) :
    (Host.argReduce (F := Ideal) (φ := .f32) reducer_argmax_f32_i32 x y u v h h_S_ (ix1 p)).2 = BitVec.ofNat 32 (Row.arg fun c => x (ix2 p c)) := by
  rw [Ideal.argReduce_eq_reduce2, Host.reduce2_eq_foldl_fiber, hu, hv]
  rw [red_eq]
  refine Row.fold_arg _ _ fun q => ?_
  have hl : ∀ c : Fin 1000, hr.lift (ix1 p) c = ix2 p c := fun c => by
    funext a
    match a with
    | ⟨0, _⟩ => exact Fin.ext rfl
    | ⟨1, _⟩ => exact Fin.ext rfl
  unfold Host.argReduceFiber
  rw [List.mem_map]
  constructor
  · rintro ⟨n, hn, rfl⟩
    have hd := of_decide_eq_true (List.mem_filter.1 hn).2
    have e := hr.lift_drop ((shape2 N 1000).rowMajor.symm n)
    rw [show hr.drop ((shape2 N 1000).rowMajor.symm n) = ix1 p from hd] at e
    obtain ⟨c, hi⟩ : ∃ c : Fin 1000, (shape2 N 1000).rowMajor.symm n = ix2 p c := ⟨_, e.symm.trans (hl _)⟩
    exact ⟨c, by rw [hi, hy]⟩
  · rintro ⟨c, rfl⟩
    refine ⟨(shape2 N 1000).rowMajor (ix2 p c), List.mem_filter.2 ⟨List.mem_finRange _, decide_eq_true ?_⟩, ?_⟩
    · rw [Equiv.symm_apply_apply, ← hl]; exact hr.drop_lift _ _
    · rw [Equiv.symm_apply_apply, hy]

theorem v10_at (p : Fin 1000) : v10 V (ix1 p) = BitVec.ofNat 32 (Row.arg fun c => v4 V (ix2 p c)) := by
  rw [v10_eq]
  exact argmax_at _ (by decide) _ _ (fun p c => by rw [k1_v0_eq]; rfl) _ _ (fun i => by rw [k1_cst_eq]; exact Row.ofBits_bot) (fun i => by rw [k1_c_eq]; rfl) p

theorem v17_at (p : Fin 4096) : v17 V (ix1 p) = BitVec.ofNat 32 (Row.arg fun c => v16 V (ix2 p c)) := by
  rw [v17_eq]
  exact argmax_at _ (by decide) _ _ (fun p c => by rw [k3_v0_eq]; rfl) _ _ (fun i => by rw [k3_cst_eq]; exact Row.ofBits_bot) (fun i => by rw [k3_c_eq]; rfl) p

/-! ## The labels -/

theorem bitU (b : BitVec 1) : (FloatOps.uitofp (F := Ideal) .f32 b : EReal) = Row.bit (b = 1#1) := by
  have h : b = 0#1 ∨ b = 1#1 := by revert b; decide
  show ((b.toNat : ℝ) : EReal) = _
  rcases h with rfl | rfl
  · simp [Row.bit]
  · simp [Row.bit]

theorem onehot (a c : Fin 1000) : (FloatOps.uitofp (F := Ideal) .f32 (IntOp.cmpi .eq (BitVec.ofNat 32 a) (BitVec.ofNat 32 c)) : EReal) = if c = a then 1 else 0 := by
  rw [bitU]
  unfold Row.bit
  refine if_congr ?_ rfl rfl
  rw [WordCmp.cmpi_eq_eq, WordCmp.ofBool_eq_one_iff, decide_eq_true_iff, WordCmp.ofNat_eq_ofNat_iff (by omega) (by omega), Fin.ext_iff]
  exact eq_comm

theorem v11_at (p c : Fin 1000) : v11 V (ix2 p c) = if c = Row.arg (fun c => v4 V (ix2 p c)) then 1 else 0 := by
  rw [v11_eq, k2_v4_eq, k2_v3_eq, k2_v2_eq, k2_v1_eq, k2_v0_eq]
  pointwise [v10_at]
  exact onehot _ _

theorem v18_at (p : Fin 4096) (c : Fin 1000) : v18 V (ix2 p c) = if c = Row.arg (fun c => v16 V (ix2 p c)) then 1 else 0 := by
  rw [v18_eq, k4_v4_eq, k4_v3_eq, k4_v2_eq, k4_v1_eq, k4_v0_eq]
  pointwise [v17_at]
  exact onehot _ _

/-! ## The two tables of rows joined -/

theorem v24_at (p : Fin 5096) (k : Fin 512) : v24 V (ix2 p k) = rrow V p k := by
  rw [v24_eq]
  pointwise [rrow, tw, tx]

theorem v25_at (p : Fin 5096) (c : Fin 1000) : v25 V (ix2 p c) = if c = Row.arg (rlg V p) then 1 else 0 := by
  rw [v25_eq]
  unfold rlg rrow
  by_cases h : p.val < 1000
  · have e := v11_at V ⟨p, h⟩ c
    simp only [v4_at] at e
    simp only [dif_pos h]
    pointwise [h]
    exact e
  · have e := v18_at V ⟨p - 1000, by omega⟩ c
    simp only [v16_at] at e
    simp only [dif_neg h]
    pointwise [h]
    exact e

theorem v26_at (p : Fin 5096) : v26 V (ix1 p) = Row.entR (rlg V p) := by
  rw [v26_eq]
  unfold rlg rrow
  by_cases h : p.val < 1000
  · have e := v9_at V ⟨p, h⟩
    simp only [v4_at] at e
    simp only [dif_pos h]
    pointwise [h]
    exact e
  · have e := v23_at V ⟨p - 1000, by omega⟩
    simp only [v16_at] at e
    simp only [dif_neg h]
    pointwise [h]
    exact e

theorem v27_at (p : Fin 5096) : v27 V (ix1 p) = BitVec.ofNat 32 (Row.arg (rlg V p)) := by
  rw [v27_eq]
  refine (argmax_at _ (by decide) _ _ (fun p c => by rw [k6_v0_eq]; rfl) _ _ (fun i => by rw [k6_cst_eq]; exact Row.ofBits_bot) (fun i => by rw [k6_c_eq]; rfl) p).trans ?_
  rw [Row.arg_onehot _ _ (v25_at V p)]

end Cert.ReferenceIdeal.Value

end
-- ==== Proof.RefSort.lean ====
module

public import proofs.«01_k».proof.Proof.RefLab
public import proofs.«01_k».proof.Proof.Ranks
public import Idealize.ShloMosaic.Lib.Pointwise
public import Idealize.ShloMosaic.Lib.WordCmp
public import Idealize.ShloMosaic.Lib.Routing.OpsSet

@[expose] public section

set_option maxRecDepth 16384

/-! The reference's sort by label and entropy, each row's distance from the first of its class, and the rows it keeps. -/

noncomputable section

namespace Cert.ReferenceIdeal.Value

open Cert Cert.ReferenceIdeal Cert.ReferenceIdeal.Gen Idealize.ShloMosaic Idealize.ShloMosaic.TcCoe Idealize.SL.Sem
open Idealize.ShloMosaic.Routing

variable (V : Valuation τ sig (Elt Ideal))

/-- The comparator: by label, then by entropy. -/
theorem cmp_eq (a b : BitVec 32) (e f : EReal) (u w : BitVec 32) :
    comparator_i32_f32_i32_d0 (F := Ideal) (a, e, u) (b, f, w) = BitVec.ofBool (decide (a.toInt < b.toInt ∨ (a = b ∧ e < f))) := by
  have hz : FloatOps.ofBits (F := Ideal) .f32 0x00000000#32 = (0 : EReal) := by show Ideal.ofBits .f32 0x00000000#32 = 0; simp [Ideal.ofBits, Ideal.ieee]
  have h1 : ∀ v : EReal, Scalar.select (FloatOps.cmpf (F := Ideal) (φ := .f32) .une v v) (FloatOps.ofBits (F := Ideal) .f32 0x7FC00000#32)
      (Scalar.select (FloatOps.cmpf (F := Ideal) (φ := .f32) .oeq v (FloatOps.ofBits (F := Ideal) .f32 0x00000000#32)) (FloatOps.ofBits (F := Ideal) .f32 0x00000000#32) v) = v := fun v => by
    rw [hz]
    by_cases h : v = 0
    · subst h; simp [Ideal.cmpf_def, Ideal.cmp, Scalar.select]
    · simp [Ideal.cmpf_def, Ideal.cmp, Scalar.select, h]
  have h2 : FloatOps.cmpfTotal (F := Ideal) (φ := .f32) .lt e f = BitVec.ofBool (decide (e < f)) := by
    rw [Ideal.cmpfTotal_def]; rfl
  show IntOp.ori (IntOp.cmpi .slt a b) (IntOp.andi (IntOp.cmpi .eq a b) (FloatOps.cmpfTotal (F := Ideal) (φ := .f32) .lt
    (Scalar.select (FloatOps.cmpf (F := Ideal) (φ := .f32) .une e e) (FloatOps.ofBits (F := Ideal) .f32 0x7FC00000#32)
      (Scalar.select (FloatOps.cmpf (F := Ideal) (φ := .f32) .oeq e (FloatOps.ofBits (F := Ideal) .f32 0x00000000#32)) (FloatOps.ofBits (F := Ideal) .f32 0x00000000#32) e))
    (Scalar.select (FloatOps.cmpf (F := Ideal) (φ := .f32) .une f f) (FloatOps.ofBits (F := Ideal) .f32 0x7FC00000#32)
      (Scalar.select (FloatOps.cmpf (F := Ideal) (φ := .f32) .oeq f (FloatOps.ofBits (F := Ideal) .f32 0x00000000#32)) (FloatOps.ofBits (F := Ideal) .f32 0x00000000#32) f)))) = _
  rw [h1, h1, h2, WordCmp.cmpi_slt_eq, WordCmp.cmpi_eq_eq]
  by_cases e1 : a.toInt < b.toInt <;> by_cases e2 : a = b <;> by_cases e3 : e < f <;> simp [e1, e2, e3, IntOp.ori, IntOp.andi]

/-- The sort's third result: the row numbers in sorted order. -/
theorem sort_at {N : ℕ} (x : (shape1 N).Idx → BitVec 32) (y : (shape1 N).Idx → EReal) (z : (shape1 N).Idx → BitVec 32) (lab : Fin N → ℕ) (E : Fin N → EReal)
    (hl : ∀ p, lab p < 1000) (hx : ∀ p : Fin N, x (ix1 p) = BitVec.ofNat 32 (lab p)) (hy : ∀ p : Fin N, y (ix1 p) = E p)
    (hz : ∀ p : Fin N, z (ix1 p) = BitVec.ofNat 32 p) (i : Fin N) :
    (Host.sort3 (shape1 N) 0 (comparator_i32_f32_i32_d0 (F := Ideal)) x y z).2.2 (ix1 i) = BitVec.ofNat 32 (Ranks.src lab E i) := by
  have ha : ∀ k : Fin N, (ix1 i : (shape1 N).Idx).along 0 k = ix1 k := fun k => by
    funext a
    match a with
    | ⟨0, _⟩ => rfl
  unfold Host.sort3
  rw [dif_pos (show 0 < (shape1 N).rank from Nat.one_pos)]
  refine (congrArg z (ha _)).trans ((hz _).trans ?_)
  refine congrArg (fun k : Fin N => BitVec.ofNat 32 k.val) ?_
  unfold Ranks.src
  refine congrArg (fun f => sortedFrom f i) (funext fun k => funext fun k' => ?_)
  have hk : x ((ix1 i : (shape1 N).Idx).along 0 k) = BitVec.ofNat 32 (lab k) := (congrArg x (ha k)).trans (hx k)
  have hk' : x ((ix1 i : (shape1 N).Idx).along 0 k') = BitVec.ofNat 32 (lab k') := (congrArg x (ha k')).trans (hx k')
  have gk : y ((ix1 i : (shape1 N).Idx).along 0 k) = E k := (congrArg y (ha k)).trans (hy k)
  have gk' : y ((ix1 i : (shape1 N).Idx).along 0 k') = E k' := (congrArg y (ha k')).trans (hy k')
  refine (congrArg (· == 1#1) (cmp_eq _ _ _ _ _ _)).trans ?_
  have b1 := hl k
  have b2 := hl k'
  refine Eq.trans (b := decide ((BitVec.ofNat 32 (lab k)).toInt < (BitVec.ofNat 32 (lab k')).toInt
    ∨ (BitVec.ofNat 32 (lab k) = BitVec.ofNat 32 (lab k') ∧ E k < E k'))) ?_ ?_
  · have hb : ∀ P : Prop, ∀ d : Decidable P, (BitVec.ofBool (@decide P d) == 1#1) = @decide P d := fun P d => by
      generalize @decide P d = b
      cases b <;> rfl
    refine (hb _ _).trans (decide_eq_decide.2 ?_)
    exact Eq.to_iff (congr (congrArg Or (congrArg₂ (fun a b : BitVec 32 => a.toInt < b.toInt) hk hk'))
      (congr (congrArg And (congrArg₂ (fun a b : BitVec 32 => a = b) hk hk')) (congrArg₂ (fun a b : EReal => a < b) gk gk')))
  · refine decide_eq_decide.2 ?_
    rw [Row.small_toInt _ (by omega), Row.small_toInt _ (by omega), WordCmp.ofNat_eq_ofNat_iff (by omega) (by omega)]
    unfold Ranks.R
    rw [Nat.cast_lt]

/-- The label and the entropy of each row. -/
def lab (p : Fin 5096) : ℕ := (Row.arg (rlg V p)).val
def E (p : Fin 5096) : EReal := Row.entR (rlg V p)
def σ (i : Fin 5096) : Fin 5096 := Ranks.src (lab V) (E V) i

theorem lab_lt (p : Fin 5096) : lab V p < 1000 := (Row.arg (rlg V p)).isLt

theorem v28_at (i : Fin 5096) : v28 V (ix1 i) = BitVec.ofNat 32 (σ V i) := by
  rw [v28_eq]
  exact sort_at _ _ _ _ _ (lab_lt V) (v27_at V) (v26_at V) (fun p => by rw [k7_v0_eq]; rfl) i

/-- An index that is not negative stays as it is. -/
theorem wrap_at (n : ℕ) (h : n < 2 ^ 31) (a : BitVec 32) : Scalar.select (IntOp.cmpi .slt (BitVec.ofNat 32 n) 0#32) a (BitVec.ofNat 32 n) = BitVec.ofNat 32 n :=
  wrap_of_lt _ _ (by simp; omega)

theorem v34_at (i : Fin 5096) : v34 V (ix2 i 0) = BitVec.ofNat 32 (σ V i) := by
  rw [v34_eq, v33_eq, v32_eq, v31_eq, v30_eq, v29_eq, c_eq, c_1_eq]
  pointwise [v28_at]
  exact wrap_at _ (by omega) _

theorem v35_at (i : Fin 5096) : v35 V (ix1 i) = BitVec.ofNat 32 (lab V (σ V i)) := by
  rw [v35_eq]
  refine Eq.trans ?_ (v27_at V (σ V i))
  exact gather_take1 gather_S5096_S5096x1_S5096_n_0_n_n_0_1_1 rfl rfl rfl rfl _ _ i (σ V i) (v34_at V i) (by norm_num)

/-! ## The first row of each class -/

theorem v38_at (i : Fin 5096) : v38 V (ix2 i 0) = BitVec.ofNat 32 (lab V (σ V i)) := by
  rw [v38_eq]
  pointwise [v35_at]

/-- A row lands at its class. -/
theorem lands (idx : IVec (shape2 5096 1) 32) (i : Fin 5096) (c : Fin 1000) :
    scatter_S1000_S5096x1_S5096_n_0_0_1.resultIdx? (ix1 i) idx = some (ix1 c) ↔ (idx (ix2 i 0)).toInt = (c.val : Int) := by
  have hw : scatter_S1000_S5096x1_S5096_n_0_0_1.window (ix1 i) 0 = 0 := rfl
  have hs : scatter_S1000_S5096x1_S5096_n_0_0_1.start (ix1 i) idx 0 = (idx (ix2 i 0)).toInt := by
    refine congrArg (fun j => (idx j).toInt) (funext fun b => Fin.ext ?_)
    match b with
    | ⟨0, _⟩ => rfl
    | ⟨1, _⟩ => rfl
  refine (resultIdx?_ix1 (N := 1000) scatter_S1000_S5096x1_S5096_n_0_0_1 (ix1 i) idx c).trans ?_
  rw [hw, hs, Nat.cast_zero, add_zero]

/-- A fold of minima over the positions that hit. -/
theorem fold_hit {N : ℕ} (hN : N < 2 ^ 31) (hit : Fin N → Prop) [DecidablePred hit] (L : List (Fin N)) (a : BitVec 32) :
    let r := (L.foldl (fun a i => if hit i then IntOp.minsi a (BitVec.ofNat 32 i) else a) a).toInt
    (r ≤ a.toInt ∧ ∀ i ∈ L, hit i → r ≤ i.val) ∧ (r = a.toInt ∨ ∃ i ∈ L, hit i ∧ r = i.val) := by
  induction L generalizing a with
  | nil => exact ⟨⟨le_rfl, fun i hi => absurd hi (List.not_mem_nil)⟩, Or.inl rfl⟩
  | cons q L ih =>
    intro r
    obtain ⟨⟨h1, h2⟩, h3⟩ := ih (if hit q then IntOp.minsi a (BitVec.ofNat 32 q) else a)
    have hq : (BitVec.ofNat 32 q.val).toInt = q.val := Row.small_toInt _ (by omega)
    by_cases h : hit q
    · rw [if_pos h, Row.minsi_toInt, hq] at h1 h3
      simp only [if_pos h] at h2
      have hr : r = (L.foldl (fun a i => if hit i then IntOp.minsi a (BitVec.ofNat 32 i) else a) (IntOp.minsi a (BitVec.ofNat 32 q))).toInt := by
        exact congrArg (fun x => BitVec.toInt (List.foldl _ x L)) (if_pos h)
      rw [← hr] at h1 h2 h3
      refine ⟨⟨h1.trans (min_le_left _ _), fun i hi ht => ?_⟩, ?_⟩
      · rcases List.mem_cons.1 hi with rfl | hi
        · exact h1.trans (min_le_right _ _)
        · exact h2 i hi ht
      · rcases h3 with h3 | ⟨i, hi, ht, h3⟩
        · rcases min_choice a.toInt (q.val : Int) with e | e
          · exact Or.inl (h3.trans e)
          · exact Or.inr ⟨q, List.mem_cons_self, h, h3.trans e⟩
        · exact Or.inr ⟨i, List.mem_cons_of_mem _ hi, ht, h3⟩
    · rw [if_neg h] at h1 h3
      simp only [if_neg h] at h2
      have hr : r = (L.foldl (fun a i => if hit i then IntOp.minsi a (BitVec.ofNat 32 i) else a) a).toInt := by
        exact congrArg (fun x => BitVec.toInt (List.foldl _ x L)) (if_neg h)
      rw [← hr] at h1 h2 h3
      refine ⟨⟨h1, fun i hi ht => ?_⟩, ?_⟩
      · rcases List.mem_cons.1 hi with rfl | hi
        · exact absurd ht h
        · exact h2 i hi ht
      · rcases h3 with h3 | ⟨i, hi, ht, h3⟩
        · exact Or.inl h3
        · exact Or.inr ⟨i, List.mem_cons_of_mem _ hi, ht, h3⟩

/-- The first sorted position of row `i`'s class. -/
theorem first_exists (i : Fin 5096) : ∃ f : Fin 5096, lab V (σ V f) = lab V (σ V i) ∧ ∀ i' : Fin 5096, lab V (σ V i') = lab V (σ V i) → f ≤ i' := by
  classical
  have hne : (Finset.univ.filter fun i' => lab V (σ V i') = lab V (σ V i)).Nonempty := ⟨i, (Finset.mem_filter (p := fun i' => lab V (σ V i') = lab V (σ V i))).2 ⟨Finset.mem_univ _, rfl⟩⟩
  exact ⟨_, (Finset.mem_filter.1 (Finset.min'_mem _ hne)).2, fun i' h => Finset.min'_le (Finset.univ.filter fun i' => lab V (σ V i') = lab V (σ V i)) i'
    ((Finset.mem_filter (p := fun i' => lab V (σ V i') = lab V (σ V i))).2 ⟨Finset.mem_univ _, h⟩)⟩
def first (i : Fin 5096) : Fin 5096 := (first_exists V i).choose
theorem first_spec (i : Fin 5096) : lab V (σ V (first V i)) = lab V (σ V i) ∧ ∀ i' : Fin 5096, lab V (σ V i') = lab V (σ V i) → first V i ≤ i' := (first_exists V i).choose_spec

theorem v39_at (i : Fin 5096) (c : Fin 1000) (hc : c.val = lab V (σ V i)) : v39 V (ix1 c) = BitVec.ofNat 32 (first V i) := by
  classical
  obtain ⟨f1, f2⟩ := first_spec V i
  rw [v39_eq]
  refine (scatter_at _ _ _ _ _ _).trans ?_
  have h0 : v37 V (ix1 c) = 2147483647#32 := by rw [v37_eq, c_2_eq]; rfl
  have hu : ∀ n : Fin 5096, v36 V (ix1 n) = BitVec.ofNat 32 n := fun n => by rw [v36_eq]; rfl
  have hh : ∀ n : Fin 5096, scatter_S1000_S5096x1_S5096_n_0_0_1.resultIdx? (ix1 n) (v38 V) = some (ix1 c) ↔ lab V (σ V n) = lab V (σ V i) := fun n => by
    have b := lab_lt V (σ V n)
    rw [lands, v38_at, Row.small_toInt _ (by omega), hc, Nat.cast_inj]
  have hf : (fun (a : BitVec 32) (n : Fin (shape1 5096).numel) => if scatter_S1000_S5096x1_S5096_n_0_0_1.resultIdx? ((shape1 5096).rowMajor.symm n) (v38 V) = some (ix1 c)
        then IntOp.minsi a (v36 V ((shape1 5096).rowMajor.symm n)) else a)
      = fun a n => if lab V (σ V (n.cast (numel1 5096))) = lab V (σ V i) then IntOp.minsi a (BitVec.ofNat 32 (n.cast (numel1 5096)).val) else a := by
    funext a n
    rw [symm1]
    exact if_congr (hh _) (congrArg (IntOp.minsi a) (hu _)) rfl
  apply BitVec.eq_of_toInt_eq
  have key := fold_hit (N := (shape1 5096).numel) (by rw [numel1]; norm_num) (fun n => lab V (σ V (n.cast (numel1 5096))) = lab V (σ V i)) (List.finRange (shape1 5096).numel) 2147483647#32
  have hr : ((List.finRange (shape1 5096).numel).foldl (fun (a : BitVec 32) (n : Fin (shape1 5096).numel) => if scatter_S1000_S5096x1_S5096_n_0_0_1.resultIdx? ((shape1 5096).rowMajor.symm n) (v38 V) = some (ix1 c)
        then IntOp.minsi a (v36 V ((shape1 5096).rowMajor.symm n)) else a) (v37 V (ix1 c))).toInt = (first V i).val := by
    rw [hf, h0]
    obtain ⟨⟨h1, h2⟩, h3⟩ := key
    have hle := h2 ((first V i).cast (numel1 5096).symm) (List.mem_finRange _) f1
    refine le_antisymm hle ?_
    rcases h3 with h3 | ⟨n, _, hn, h3⟩
    · have hb := (first V i).isLt
      rw [show (2147483647#32 : BitVec 32).toInt = 2147483647 from by decide] at h3
      refine le_trans ?_ (le_of_eq h3.symm)
      omega
    · refine le_trans ?_ (le_of_eq h3.symm)
      exact_mod_cast Fin.le_def.1 (f2 (n.cast (numel1 5096)) hn)
  have hb := (first V i).isLt
  rw [Row.small_toInt _ (by omega)]
  exact hr

/-! ## The rows kept -/

theorem v45_at (i : Fin 5096) : v45 V (ix2 i 0) = BitVec.ofNat 32 (lab V (σ V i)) := by
  rw [v45_eq, v44_eq, v43_eq, v42_eq, v41_eq, v40_eq, c_3_eq, c_4_eq]
  pointwise [v35_at]
  have b := lab_lt V (σ V i)
  exact wrap_at _ (by omega) _

theorem v46_at (i : Fin 5096) : v46 V (ix1 i) = BitVec.ofNat 32 (first V i) := by
  rw [v46_eq, ← v39_at V i ⟨lab V (σ V i), lab_lt V _⟩ rfl]
  exact gather_take1 gather_S1000_S5096x1_S5096_n_0_n_n_0_1_1 rfl rfl rfl rfl _ _ i ⟨lab V (σ V i), lab_lt V _⟩ (v45_at V i) (by norm_num)

theorem v49_at (i : Fin 5096) : v49 V (ix1 i) = BitVec.ofBool (decide (i.val - (first V i).val < 100)) := by
  have hle : (first V i).val ≤ i.val := Fin.le_def.1 ((first_spec V i).2 i rfl)
  have e : v47 V (ix1 i) = BitVec.ofNat 32 (i.val - (first V i).val) := by
    rw [v47_eq, v36_eq]
    pointwise [v46_at]
    apply BitVec.eq_of_toNat_eq
    have hb := i.isLt
    simp [IntOp.subi]
    omega
  rw [v49_eq, v48_eq, c_5_eq]
  pointwise [e]
  have hb := i.isLt
  exact WordCmp.cmpi_slt_ofNat (by omega) (by omega)

theorem v56_at (i : Fin 5096) : v56 V (ix2 i 0) = BitVec.ofNat 32 (σ V i) := by
  rw [v56_eq, v55_eq, v54_eq, v53_eq, v52_eq, v51_eq, c_7_eq, c_8_eq]
  pointwise [v28_at]
  exact wrap_at _ (by omega) _

/-- A row is kept exactly when fewer than a hundred rows of its class come before it. -/
theorem v57_at (p : Fin 5096) : v57 V (ix1 p) = BitVec.ofBool (decide (Ranks.rk (lab V) (E V) p < 100)) := by
  obtain ⟨i, rfl⟩ := (Ranks.src_bij (lab V) (E V)).2 p
  obtain ⟨f1, f2⟩ := first_spec V i
  rw [Ranks.rk_src (lab V) (E V) i (first V i) f1 f2, ← v49_at, v57_eq]
  refine (scatter_set_signed (N := 5096) scatter_S5096_S5096x1_S5096_n_0_0_1 rfl rfl rfl _ _ _ _ _ fun i' h => ?_).1 ⟨i, ?_⟩
  · refine congrArg (fun k : Fin 5096 => v49 V (ix1 k)) ((Ranks.src_bij (lab V) (E V)).1 (Fin.ext ?_))
    have h' : (v56 V (ix2 i' 0)).toInt = _ := h
    rw [v56_at, Row.small_toInt _ (by omega)] at h'
    exact_mod_cast h'
  · show (v56 V (ix2 i 0)).toInt = _
    rw [v56_at, Row.small_toInt _ (by omega)]
    rfl

theorem v58_at (p : Fin 5096) : v58 V (ix1 p) = Row.bit (Ranks.rk (lab V) (E V) p < 100) := by
  have e : v58 V (ix1 p) = Row.bit (v57 V (ix1 p) = 1#1) := by rw [v58_eq]; exact bitU _
  rw [e]
  unfold Row.bit
  refine if_congr ?_ rfl rfl
  rw [v57_at, WordCmp.ofBool_eq_one_iff, decide_eq_true_iff]

end Cert.ReferenceIdeal.Value

end
-- ==== Proof.RefOut.lean ====
module

public import proofs.«01_k».proof.Proof.RefSort
public import Idealize.ShloMosaic.Lib.Pointwise
public import Idealize.ShloMosaic.Lib.WordCmp
public import Idealize.ShloMosaic.Lib.Routing.OpsSet

@[expose] public section

set_option maxRecDepth 16384

/-! The reference's weights and its result. -/

noncomputable section

namespace Cert.ReferenceIdeal.Value

open Cert Cert.ReferenceIdeal Cert.ReferenceIdeal.Gen Idealize.ShloMosaic Idealize.ShloMosaic.TcCoe Idealize.SL.Sem
open Idealize.ShloMosaic.Routing

variable (V : Valuation τ sig (Elt Ideal))

/-- The reference's weights. -/
def wref (c : Fin 1000) (k : Fin 512) : EReal :=
  ∑ p : Fin 5096, Ideal.div (rrow V p k) (max (Row.norm (rrow V p)) (Ideal.ofBits .f32 0x2B8CBCCC#32))
    * ((if c = Row.arg (rlg V p) then 1 else 0) * Row.bit (Ranks.rk (lab V) (E V) p < 100))

theorem v59_at (p : Fin 5096) : v59 V (ix2 p 0) = Row.norm (rrow V p) := by
  rw [v59_eq, k8_v2_eq, k8_v1_eq, k8_v0_eq, k8_cst_eq]
  pointwise [Row.norm, v24_at]

theorem v63_at (p : Fin 5096) (k : Fin 512) : v63 V (ix2 p k) = Ideal.div (rrow V p k) (max (Row.norm (rrow V p)) (Ideal.ofBits .f32 0x2B8CBCCC#32)) := by
  rw [v63_eq, v62_eq, v61_eq, v60_eq, cst_9_eq]
  pointwise [v24_at, v59_at]

theorem v67_at (p : Fin 5096) (c : Fin 1000) : v67 V (ix2 p c) = (if c = Row.arg (rlg V p) then 1 else 0) * Row.bit (Ranks.rk (lab V) (E V) p < 100) := by
  rw [v67_eq, v66_eq, v65_eq]
  pointwise [v25_at, v58_at]

theorem v68_at (k : Fin 512) (c : Fin 1000) : v68 V (ix2 k c) = wref V c k := by
  rw [v68_eq, v64_eq]
  pointwise [wref, v63_at, v67_at]

theorem v69_at (c : Fin 1000) : v69 V (ix2 0 c) = Ideal.sqrt (∑ k : Fin 512, wref V c k * wref V c k) := by
  rw [v69_eq, k9_v2_eq, k9_v1_eq, k9_v0_eq, k9_cst_eq]
  pointwise [v68_at]

theorem v74_at (n : Fin 4096) (c : Fin 1000) : v74 V (ix2 n c)
    = ∑ k : Fin 512, tx V n k * Ideal.div (wref V c k) (max (Ideal.sqrt (∑ k : Fin 512, wref V c k * wref V c k)) (Ideal.ofBits .f32 0x2B8CBCCC#32)) := by
  rw [v74_eq, v73_eq, v72_eq, v71_eq, v70_eq, cst_10_eq]
  pointwise [tx, v68_at, v69_at]

end Cert.ReferenceIdeal.Value

end
-- ==== Proof.Join.lean ====
module

public import proofs.«01_k».proof.Proof.Host
public import proofs.«01_k».proof.Proof.RefOut

@[expose] public section

set_option maxRecDepth 16384

/-! The two results are the same function of the arguments. -/

noncomputable section

namespace Cert.Join

open Cert Idealize.ShloMosaic Idealize.ShloMosaic.TcCoe Idealize.SL.Sem

section
variable (V : Valuation ReferenceIdeal.τ ReferenceIdeal.sig (Elt Ideal))
open Cert.ReferenceIdeal.Value

theorem wref_eq (a : Fin 1000) (k : Fin 512) : wref V a k = Row.wr (tw V) (tx V) (tb V) a k := rfl

theorem v74_wr (n : Fin 4096) (a : Fin 1000) : v74 V (ix2 n a) = ∑ k : Fin 512, tx V n k * Ideal.div (Row.wr (tw V) (tx V) (tb V) a k)
      (max (Ideal.sqrt (∑ k : Fin 512, Row.wr (tw V) (tx V) (tb V) a k * Row.wr (tw V) (tx V) (tb V) a k)) (Ideal.ofBits .f32 0x2B8CBCCC#32)) :=
  v74_at V n a
end

/-- The result as a function of the arguments. -/
def out (W : Fin 1000 → Fin 512 → EReal) (X : Fin 4096 → Fin 512 → EReal) (b : Fin 1000 → EReal) (n : Fin 4096) (a : Fin 1000) : EReal :=
  ∑ k : Fin 512, X n k * Ideal.div (Row.wr W X b a k)
    (max (Ideal.sqrt (∑ k : Fin 512, Row.wr W X b a k * Row.wr W X b a k)) (Ideal.ofBits .f32 0x2B8CBCCC#32))

theorem result_eq (m : (ℓ : Loc KernelIdeal.nD KernelIdeal.τ KernelIdeal.sig) → Buf (Elt Ideal) ℓ) (c : Dev KernelIdeal.nD)
    (V : Valuation ReferenceIdeal.τ ReferenceIdeal.sig (Elt Ideal))
    (x : FVec Ideal KernelIdeal.S4096x512 .f32) (W : FVec Ideal KernelIdeal.S1000x512 .f32) (b : FVec Ideal KernelIdeal.S1000 .f32)
    (hx : m (c, KernelIdeal.main_arg0) = x) (hW : m (c, KernelIdeal.main_arg1) = W) (hb : m (c, KernelIdeal.main_arg2) = b)
    (hx' : V ReferenceIdeal.main_arg0 = x) (hW' : V ReferenceIdeal.main_arg1 = W) (hb' : V ReferenceIdeal.main_arg2 = b)
    (fx : ∀ i, ∃ r : ℝ, (x i : EReal) = r) (fW : ∀ i, ∃ r : ℝ, (W i : EReal) = r) :
    (ReferenceIdeal.Value.v74 V : FVec Ideal KernelIdeal.S4096x1000 .f32) = KernelIdeal.Run.A8 m c KernelIdeal.main_v9 := by
  have k0 : KernelIdeal.Run.kX m c = fun p k => x (ix2 p k) := funext fun p => funext fun k => congrFun hx (ix2 p k)
  have k1 : KernelIdeal.Run.kW m c = fun p k => W (ix2 p k) := funext fun p => funext fun k => congrFun hW (ix2 p k)
  have k2 : KernelIdeal.Run.kb m c = fun p => b (ix1 p) := funext fun p => congrFun hb (ix1 p)
  have r0 : ReferenceIdeal.Value.tx V = fun p k => x (ix2 p k) :=
    funext fun p => funext fun k => congrFun ((ReferenceIdeal.Value.a0_eq V).trans hx') (ix2 p k)
  have r1 : ReferenceIdeal.Value.tw V = fun p k => W (ix2 p k) :=
    funext fun p => funext fun k => congrFun ((ReferenceIdeal.Value.a1_eq V).trans hW') (ix2 p k)
  have r2 : ReferenceIdeal.Value.tb V = fun p => b (ix1 p) := funext fun p => congrFun ((ReferenceIdeal.Value.a2_eq V).trans hb') (ix1 p)
  funext j
  obtain ⟨n, a, rfl⟩ : ∃ (n : Fin 4096) (a : Fin 1000), j = ix2 n a := ⟨j 0, j 1, by funext i; match i with | ⟨0, _⟩ => rfl | ⟨1, _⟩ => rfl⟩
  have hk : KernelIdeal.Run.A8 m c KernelIdeal.main_v9 (ix2 n a) = out (KernelIdeal.Run.kW m c) (KernelIdeal.Run.kX m c) (KernelIdeal.Run.kb m c) n a :=
    KernelIdeal.Run.v9_eq m c (fun a k => by rw [k1]; exact fW _) (fun p k => by rw [k0]; exact fx _) n a
  have hr : ReferenceIdeal.Value.v74 V (ix2 n a) = out (ReferenceIdeal.Value.tw V) (ReferenceIdeal.Value.tx V) (ReferenceIdeal.Value.tb V) n a := v74_wr V n a
  refine hr.trans (Eq.trans ?_ hk.symm)
  rw [r0, r1, r2, k0, k1, k2]

end Cert.Join

end
-- ==== Proof.lean ====
/- The proof of the claims: the three frames, the idealization and the value claim. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frame
public import proofs.«01_k».proof.Proof.Pre
public import proofs.«01_k».proof.Proof.Ref
public import proofs.«01_k».proof.Proof.Join
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem Cert.Kernel

theorem claim : Cert.Claim := by
  refine ⟨Cert.Kernel.Gen.facts, Cert.KernelIdeal.Gen.facts, Cert.ReferenceIdeal.Gen.facts, Cert.Pre_finite.facts,
    fun m g _ => Cert.Kernel.Run.frame_run m g, fun m g _ => Cert.KernelIdeal.Run.frame_run m g, fun m g _ => Cert.KernelIdeal.Run.frame_run m g,
    ?_, ?_, trivial, ?_⟩
  · intro m g _
    exact (θ_run _ _ _).mono (fun r h => ⟨fun c => (h c).2, sem_eq_zero_of_no_sems rfl _⟩) (Cert.ReferenceIdeal.Value.run m g)
  · intro m g _
    exact (θ_run _ _ _).mono (fun r h => ⟨fun c => (h c).2, sem_eq_zero_of_no_sems rfl _⟩) (Cert.ReferenceIdeal.Value.run m g)
  · intro m g m' g' hpre hargs
    refine ⟨fun c => Cert.KernelIdeal.Run.A8 m c Cert.KernelIdeal.main_v9,
      (θ_run _ _ _).mono (fun r h => h.1) (Cert.KernelIdeal.Run.run_main m g),
      (θ_run _ _ _).mono (fun r h => ?_) (Cert.ReferenceIdeal.Value.run m' g')⟩
    intro c
    obtain ⟨fx, fW⟩ := Cert.Pre_finite.real_of_pre (hF := Cert.Pre_finite.facts) _ _ _ (hpre c)
    obtain ⟨h0, h1, h2⟩ := hargs c
    exact ⟨(h c).1.trans (Cert.Join.result_eq m c (fun b => m' (c, b)) _ _ _ rfl rfl rfl h0 h1 h2 fx fW), (h c).2⟩

end Cert.Proof

end
